-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16384x256 : Shape := ⟨2, ![16384, 256]⟩
abbrev S16384x512 : Shape := ⟨2, ![16384, 512]⟩
abbrev S16384x4608 : Shape := ⟨2, ![16384, 4608]⟩
abbrev S16384x1024 : Shape := ⟨2, ![16384, 1024]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S3x1024x256 : Shape := ⟨3, ![3, 1024, 256]⟩
abbrev S3 : Shape := ⟨1, ![3]⟩
abbrev S3x1024x512 : Shape := ⟨3, ![3, 1024, 512]⟩
abbrev S3x1024x1024 : Shape := ⟨3, ![3, 1024, 1024]⟩
abbrev S2x1024x1024 : Shape := ⟨3, ![2, 1024, 1024]⟩
abbrev S2 : Shape := ⟨1, ![2]⟩
abbrev S_ : Shape := ⟨0, ![]⟩
abbrev S1 : Shape := ⟨1, ![1]⟩
abbrev S1x1024x256 : Shape := ⟨3, ![1, 1024, 256]⟩
abbrev S1024x256 : Shape := ⟨2, ![1024, 256]⟩
abbrev S1x1024x512 : Shape := ⟨3, ![1, 1024, 512]⟩
abbrev S1024x512 : Shape := ⟨2, ![1024, 512]⟩
abbrev S1x1024x1024 : Shape := ⟨3, ![1, 1024, 1024]⟩
abbrev S256x256 : Shape := ⟨2, ![256, 256]⟩
abbrev S512x256 : Shape := ⟨2, ![512, 256]⟩
abbrev S1024x1 : Shape := ⟨2, ![1024, 1]⟩

abbrev nBuf : Space → Nat
  | .hbm => 16
  | .vmem => 13
  | .smem => 0
  | _ => 0

abbrev bufTy : (tb : Table) → Fin (tcTables nBuf tb) → BufTy
  | .hbm, ⟨0, _⟩ => ⟨S16384x256, .bf16⟩
  | .hbm, ⟨1, _⟩ => ⟨S16384x512, .bf16⟩
  | .hbm, ⟨2, _⟩ => ⟨S16384x512, .bf16⟩
  | .hbm, ⟨3, _⟩ => ⟨S16384x4608, .bf16⟩
  | .hbm, ⟨4, _⟩ => ⟨S16384x1024, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S256x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S3x1024x256, .bf16⟩
  | .local _ .vmem, ⟨1, _⟩ => ⟨S3x1024x512, .bf16⟩
  | .local _ .vmem, ⟨2, _⟩ => ⟨S3x1024x512, .bf16⟩
  | .local _ .vmem, ⟨3, _⟩ => ⟨S3x1024x1024, .bf16⟩
  | .local _ .vmem, ⟨4, _⟩ => ⟨S3x1024x1024, .bf16⟩
  | .local _ .vmem, ⟨5, _⟩ => ⟨S3x1024x1024, .bf16⟩
  | .local _ .vmem, ⟨6, _⟩ => ⟨S3x1024x1024, .f32⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S2x1024x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_scoped0 : Ref sig .tc := ⟨.vmem, 0, rfl⟩
abbrev cc0_scoped2 : Ref sig .tc := ⟨.vmem, 1, rfl⟩
abbrev cc0_scoped4 : Ref sig .tc := ⟨.vmem, 2, rfl⟩
abbrev cc0_scoped6 : Ref sig .tc := ⟨.vmem, 3, rfl⟩
abbrev cc0_scoped8 : Ref sig .tc := ⟨.vmem, 4, rfl⟩
abbrev cc0_scoped10 : Ref sig .tc := ⟨.vmem, 5, rfl⟩
abbrev cc0_scoped12 : Ref sig .tc := ⟨.vmem, 6, rfl⟩
abbrev cc0_scoped14 : Ref sig .tc := ⟨.vmem, 7, rfl⟩
abbrev cc0_scoped15 : Ref sig .tc := ⟨.vmem, 8, rfl⟩
abbrev cc0_scoped16 : Ref sig .tc := ⟨.vmem, 9, rfl⟩
abbrev cc0_scoped17 : Ref sig .tc := ⟨.vmem, 10, rfl⟩
abbrev cc0_scoped18 : Ref sig .tc := ⟨.vmem, 11, rfl⟩
abbrev cc0_scoped19 : Ref sig .tc := ⟨.vmem, 12, rfl⟩

abbrev nD : Nat := 1
abbrev τ : Topo := Topo.v7x

variable {F : FTy → Type} [FloatOps F]

abbrev grid0 : Pipeline.Grid := .none

def k0_off1 : Fin 1 → Nat :=
  let c0_i32_28_r0 : BitVec 32 := 0#32
  let c3_i32_r0 : BitVec 32 := 3#32
  let v26_r0 : BitVec 32 := Scalar.remui c0_i32_28_r0 c3_i32_r0
  ![v26_r0.toNat]
def k0_off2 : Fin 3 → Nat :=
  let c0_i32_28_r0 : BitVec 32 := 0#32
  let c3_i32_r0 : BitVec 32 := 3#32
  let v26_r0 : BitVec 32 := Scalar.remui c0_i32_28_r0 c3_i32_r0
  let c0_i32_29_r0 : BitVec 32 := 0#32
  let c0_i32_30_r0 : BitVec 32 := 0#32
  ![v26_r0.toNat, 0, 0]
def k0_off3 : Fin 3 → Nat :=
  let c0_i32_35_r0 : BitVec 32 := 0#32
  let c3_i32_36_r0 : BitVec 32 := 3#32
  let v33_r0 : BitVec 32 := Scalar.remui c0_i32_35_r0 c3_i32_36_r0
  let c0_i32_37_r0 : BitVec 32 := 0#32
  let c0_i32_38_r0 : BitVec 32 := 0#32
  ![v33_r0.toNat, 0, 0]
def k0_mult1 : BitVec 32 :=
  let v_false_r0 : BitVec 1 := 0#1
  let c512_i32_r0 : BitVec 32 := 512#32
  let c1024_i32_r0 : BitVec 32 := 1024#32
  let v48_r0 : BitVec 32 := Scalar.select v_false_r0 c512_i32_r0 c1024_i32_r0
  v48_r0
def k0_off4 : (Fin 3 → Nat) × (Fin 3 → Nat) :=
  let c0_i32_51_r0 : BitVec 32 := 0#32
  let c3_i32_52_r0 : BitVec 32 := 3#32
  let v47_r0 : BitVec 32 := Scalar.remui c0_i32_51_r0 c3_i32_52_r0
  let c0_i32_53_r0 : BitVec 32 := 0#32
  let c0_i32_54_r0 : BitVec 32 := 0#32
  let v_false_r0 : BitVec 1 := 0#1
  let c512_i32_r0 : BitVec 32 := 512#32
  let c1024_i32_r0 : BitVec 32 := 1024#32
  let v48_r0 : BitVec 32 := Scalar.select v_false_r0 c512_i32_r0 c1024_i32_r0
  let v49_r0 : BitVec 32 := v48_r0
  ⟨![v47_r0.toNat, 0, 0], ![1, 1024, v49_r0.toNat]⟩
def k0_sz1 : Fin 2 → Nat :=
  let v_false_r0 : BitVec 1 := 0#1
  let c512_i32_r0 : BitVec 32 := 512#32
  let c1024_i32_r0 : BitVec 32 := 1024#32
  let v48_r0 : BitVec 32 := Scalar.select v_false_r0 c512_i32_r0 c1024_i32_r0
  let v49_r0 : BitVec 32 := v48_r0
  ![1024, v49_r0.toNat]
def k0_off5 : (Fin 2 → Nat) × (Fin 2 → Nat) :=
  let c0_i32_55_r0 : BitVec 32 := 0#32
  let c0_i32_56_r0 : BitVec 32 := 0#32
  let v_false_r0 : BitVec 1 := 0#1
  let c512_i32_r0 : BitVec 32 := 512#32
  let c1024_i32_r0 : BitVec 32 := 1024#32
  let v48_r0 : BitVec 32 := Scalar.select v_false_r0 c512_i32_r0 c1024_i32_r0
  let v49_r0 : BitVec 32 := v48_r0
  ⟨![0, 0], ![1024, v49_r0.toNat]⟩
def k0_mult2 : BitVec 32 :=
  let false_61_r0 : BitVec 1 := 0#1
  let c512_i32_62_r0 : BitVec 32 := 512#32
  let c1024_i32_63_r0 : BitVec 32 := 1024#32
  let v57_r0 : BitVec 32 := Scalar.select false_61_r0 c512_i32_62_r0 c1024_i32_63_r0
  v57_r0
def k0_off6 : (Fin 2 → Nat) × (Fin 2 → Nat) :=
  let c0_i32_66_r0 : BitVec 32 := 0#32
  let c1024_i32_67_r0 : BitVec 32 := 1024#32
  let false_61_r0 : BitVec 1 := 0#1
  let c512_i32_62_r0 : BitVec 32 := 512#32
  let c1024_i32_63_r0 : BitVec 32 := 1024#32
  let v57_r0 : BitVec 32 := Scalar.select false_61_r0 c512_i32_62_r0 c1024_i32_63_r0
  let v58_r0 : BitVec 32 := v57_r0
  ⟨![0, 1024], ![1024, v58_r0.toNat]⟩
def k0_mult3 : BitVec 32 :=
  let false_72_r0 : BitVec 1 := 0#1
  let c512_i32_73_r0 : BitVec 32 := 512#32
  let c1024_i32_74_r0 : BitVec 32 := 1024#32
  let v66_r0 : BitVec 32 := Scalar.select false_72_r0 c512_i32_73_r0 c1024_i32_74_r0
  v66_r0
def k0_off7 : (Fin 2 → Nat) × (Fin 2 → Nat) :=
  let c0_i32_77_r0 : BitVec 32 := 0#32
  let c2048_i32_r0 : BitVec 32 := 2048#32
  let false_72_r0 : BitVec 1 := 0#1
  let c512_i32_73_r0 : BitVec 32 := 512#32
  let c1024_i32_74_r0 : BitVec 32 := 1024#32
  let v66_r0 : BitVec 32 := Scalar.select false_72_r0 c512_i32_73_r0 c1024_i32_74_r0
  let v67_r0 : BitVec 32 := v66_r0
  ⟨![0, 2048], ![1024, v67_r0.toNat]⟩
def k0_off8 : Fin 3 → Nat :=
  let c0_i32_80_r0 : BitVec 32 := 0#32
  let c3_i32_81_r0 : BitVec 32 := 3#32
  let v74_r0 : BitVec 32 := Scalar.remui c0_i32_80_r0 c3_i32_81_r0
  let c0_i32_82_r0 : BitVec 32 := 0#32
  let c0_i32_83_r0 : BitVec 32 := 0#32
  ![v74_r0.toNat, 0, 0]
def k0_cond1 : BitVec 1 :=
  let true_89_r0 : BitVec 1 := 1#1
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_88_r0 : BitVec 32 := 0#32
  let v81_r0 : BitVec 1 := Scalar.cmpi .ne v15_r0 c0_i32_88_r0
  let v82_r0 : BitVec 1 := Scalar.andi true_89_r0 v81_r0
  let true_90_r0 : BitVec 1 := 1#1
  let v83_r0 : BitVec 1 := Scalar.andi v82_r0 true_90_r0
  let v84_r0 : BitVec 32 := Scalar.extui v83_r0
  let c0_i32_91_r0 : BitVec 32 := 0#32
  let v85_r0 : BitVec 1 := Scalar.cmpi .ne v84_r0 c0_i32_91_r0
  v85_r0

def k0_off9 : Fin 1 → Nat :=
  let c0_i32_33_r0 : BitVec 32 := 0#32
  let c1_i32_34_r0 : BitVec 32 := 1#32
  let v32_r0 : BitVec 32 := Scalar.addi c0_i32_33_r0 c1_i32_34_r0
  let c3_i32_176_r0 : BitVec 32 := 3#32
  let v164_r0 : BitVec 32 := Scalar.remui v32_r0 c3_i32_176_r0
  ![v164_r0.toNat]
def k0_off10 : Fin 3 → Nat :=
  let c0_i32_33_r0 : BitVec 32 := 0#32
  let c1_i32_34_r0 : BitVec 32 := 1#32
  let v32_r0 : BitVec 32 := Scalar.addi c0_i32_33_r0 c1_i32_34_r0
  let c3_i32_176_r0 : BitVec 32 := 3#32
  let v164_r0 : BitVec 32 := Scalar.remui v32_r0 c3_i32_176_r0
  let c0_i32_178_r0 : BitVec 32 := 0#32
  let c0_i32_179_r0 : BitVec 32 := 0#32
  ![v164_r0.toNat, 0, 0]
def k0_off11 : Fin 2 → Nat :=
  let c1024_i32_177_r0 : BitVec 32 := 1024#32
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v165_r0 : BitVec 32 := Scalar.muli c1024_i32_177_r0 v15_r0
  let c0_i32_180_r0 : BitVec 32 := 0#32
  ![v165_r0.toNat, 0]
def k0_cond2 : BitVec 1 :=
  let true_94_r0 : BitVec 1 := 1#1
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_93_r0 : BitVec 32 := 0#32
  let v88_r0 : BitVec 1 := Scalar.cmpi .ne v15_r0 c0_i32_93_r0
  let v89_r0 : BitVec 1 := Scalar.andi true_94_r0 v88_r0
  let true_95_r0 : BitVec 1 := 1#1
  let v90_r0 : BitVec 1 := Scalar.andi v89_r0 true_95_r0
  let v91_r0 : BitVec 32 := Scalar.extui v90_r0
  let c0_i32_96_r0 : BitVec 32 := 0#32
  let v92_r0 : BitVec 1 := Scalar.cmpi .ne v91_r0 c0_i32_96_r0
  v92_r0

def k0_off12 : Fin 1 → Nat :=
  let c0_i32_41_r0 : BitVec 32 := 0#32
  let c1_i32_42_r0 : BitVec 32 := 1#32
  let v39_r0 : BitVec 32 := Scalar.addi c0_i32_41_r0 c1_i32_42_r0
  let c3_i32_176_r0 : BitVec 32 := 3#32
  let v164_r0 : BitVec 32 := Scalar.remui v39_r0 c3_i32_176_r0
  ![v164_r0.toNat]
def k0_off13 : Fin 3 → Nat :=
  let c0_i32_41_r0 : BitVec 32 := 0#32
  let c1_i32_42_r0 : BitVec 32 := 1#32
  let v39_r0 : BitVec 32 := Scalar.addi c0_i32_41_r0 c1_i32_42_r0
  let c3_i32_176_r0 : BitVec 32 := 3#32
  let v164_r0 : BitVec 32 := Scalar.remui v39_r0 c3_i32_176_r0
  let c0_i32_178_r0 : BitVec 32 := 0#32
  let c0_i32_179_r0 : BitVec 32 := 0#32
  ![v164_r0.toNat, 0, 0]
def k0_off14 : Fin 2 → Nat :=
  let c1024_i32_177_r0 : BitVec 32 := 1024#32
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v165_r0 : BitVec 32 := Scalar.muli c1024_i32_177_r0 v15_r0
  let c0_i32_180_r0 : BitVec 32 := 0#32
  ![v165_r0.toNat, 0]
def k0_cond3 : BitVec 1 :=
  let true_99_r0 : BitVec 1 := 1#1
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_98_r0 : BitVec 32 := 0#32
  let v95_r0 : BitVec 1 := Scalar.cmpi .ne v15_r0 c0_i32_98_r0
  let v96_r0 : BitVec 1 := Scalar.andi true_99_r0 v95_r0
  let true_100_r0 : BitVec 1 := 1#1
  let v97_r0 : BitVec 1 := Scalar.andi v96_r0 true_100_r0
  let v98_r0 : BitVec 32 := Scalar.extui v97_r0
  let c0_i32_101_r0 : BitVec 32 := 0#32
  let v99_r0 : BitVec 1 := Scalar.cmpi .ne v98_r0 c0_i32_101_r0
  v99_r0

def k0_off15 : Fin 1 → Nat :=
  let c0_i32_49_r0 : BitVec 32 := 0#32
  let c1_i32_50_r0 : BitVec 32 := 1#32
  let v46_r0 : BitVec 32 := Scalar.addi c0_i32_49_r0 c1_i32_50_r0
  let c3_i32_176_r0 : BitVec 32 := 3#32
  let v164_r0 : BitVec 32 := Scalar.remui v46_r0 c3_i32_176_r0
  ![v164_r0.toNat]
def k0_off16 : Fin 3 → Nat :=
  let c0_i32_49_r0 : BitVec 32 := 0#32
  let c1_i32_50_r0 : BitVec 32 := 1#32
  let v46_r0 : BitVec 32 := Scalar.addi c0_i32_49_r0 c1_i32_50_r0
  let c3_i32_176_r0 : BitVec 32 := 3#32
  let v164_r0 : BitVec 32 := Scalar.remui v46_r0 c3_i32_176_r0
  let c0_i32_178_r0 : BitVec 32 := 0#32
  let c0_i32_179_r0 : BitVec 32 := 0#32
  ![v164_r0.toNat, 0, 0]
def k0_off17 : Fin 2 → Nat :=
  let c1024_i32_177_r0 : BitVec 32 := 1024#32
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v165_r0 : BitVec 32 := Scalar.muli c1024_i32_177_r0 v15_r0
  let c0_i32_180_r0 : BitVec 32 := 0#32
  ![v165_r0.toNat, 0]
def k0_cond4 : BitVec 1 :=
  let true_104_r0 : BitVec 1 := 1#1
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_103_r0 : BitVec 32 := 0#32
  let v102_r0 : BitVec 1 := Scalar.cmpi .ne v15_r0 c0_i32_103_r0
  let v103_r0 : BitVec 1 := Scalar.andi true_104_r0 v102_r0
  let true_105_r0 : BitVec 1 := 1#1
  let v104_r0 : BitVec 1 := Scalar.andi v103_r0 true_105_r0
  let v105_r0 : BitVec 32 := Scalar.extui v104_r0
  let c0_i32_106_r0 : BitVec 32 := 0#32
  let v106_r0 : BitVec 1 := Scalar.cmpi .ne v105_r0 c0_i32_106_r0
  v106_r0

def k0_mult4 : BitVec 32 :=
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  v166_r0
def k0_off18 : Fin 1 → Nat :=
  let c0_i32_57_r0 : BitVec 32 := 0#32
  let c1_i32_58_r0 : BitVec 32 := 1#32
  let v55_r0 : BitVec 32 := Scalar.addi c0_i32_57_r0 c1_i32_58_r0
  let c3_i32_176_r0 : BitVec 32 := 3#32
  let v164_r0 : BitVec 32 := Scalar.remui v55_r0 c3_i32_176_r0
  ![v164_r0.toNat]
def k0_off19 : (Fin 3 → Nat) × (Fin 3 → Nat) :=
  let c0_i32_57_r0 : BitVec 32 := 0#32
  let c1_i32_58_r0 : BitVec 32 := 1#32
  let v55_r0 : BitVec 32 := Scalar.addi c0_i32_57_r0 c1_i32_58_r0
  let c3_i32_176_r0 : BitVec 32 := 3#32
  let v164_r0 : BitVec 32 := Scalar.remui v55_r0 c3_i32_176_r0
  let c0_i32_181_r0 : BitVec 32 := 0#32
  let c0_i32_182_r0 : BitVec 32 := 0#32
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ⟨![v164_r0.toNat, 0, 0], ![1, 1024, v167_r0.toNat]⟩
def k0_sz2 : Fin 2 → Nat :=
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ![1024, v167_r0.toNat]
def k0_off20 : (Fin 2 → Nat) × (Fin 2 → Nat) :=
  let c1024_i32_177_r0 : BitVec 32 := 1024#32
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v165_r0 : BitVec 32 := Scalar.muli c1024_i32_177_r0 v15_r0
  let c0_i32_183_r0 : BitVec 32 := 0#32
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ⟨![v165_r0.toNat, 0], ![1024, v167_r0.toNat]⟩
def k0_cond5 : BitVec 1 :=
  let true_109_r0 : BitVec 1 := 1#1
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_108_r0 : BitVec 32 := 0#32
  let v109_r0 : BitVec 1 := Scalar.cmpi .ne v15_r0 c0_i32_108_r0
  let v110_r0 : BitVec 1 := Scalar.andi true_109_r0 v109_r0
  let true_110_r0 : BitVec 1 := 1#1
  let v111_r0 : BitVec 1 := Scalar.andi v110_r0 true_110_r0
  let v112_r0 : BitVec 32 := Scalar.extui v111_r0
  let c0_i32_111_r0 : BitVec 32 := 0#32
  let v113_r0 : BitVec 1 := Scalar.cmpi .ne v112_r0 c0_i32_111_r0
  v113_r0

def k0_mult5 : BitVec 32 :=
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  v166_r0
def k0_off21 : Fin 1 → Nat :=
  let c0_i32_68_r0 : BitVec 32 := 0#32
  let c1_i32_69_r0 : BitVec 32 := 1#32
  let v64_r0 : BitVec 32 := Scalar.addi c0_i32_68_r0 c1_i32_69_r0
  let c3_i32_176_r0 : BitVec 32 := 3#32
  let v164_r0 : BitVec 32 := Scalar.remui v64_r0 c3_i32_176_r0
  ![v164_r0.toNat]
def k0_off22 : (Fin 3 → Nat) × (Fin 3 → Nat) :=
  let c0_i32_68_r0 : BitVec 32 := 0#32
  let c1_i32_69_r0 : BitVec 32 := 1#32
  let v64_r0 : BitVec 32 := Scalar.addi c0_i32_68_r0 c1_i32_69_r0
  let c3_i32_176_r0 : BitVec 32 := 3#32
  let v164_r0 : BitVec 32 := Scalar.remui v64_r0 c3_i32_176_r0
  let c0_i32_181_r0 : BitVec 32 := 0#32
  let c0_i32_182_r0 : BitVec 32 := 0#32
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ⟨![v164_r0.toNat, 0, 0], ![1, 1024, v167_r0.toNat]⟩
def k0_sz3 : Fin 2 → Nat :=
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ![1024, v167_r0.toNat]
def k0_off23 : (Fin 2 → Nat) × (Fin 2 → Nat) :=
  let c1024_i32_177_r0 : BitVec 32 := 1024#32
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v165_r0 : BitVec 32 := Scalar.muli c1024_i32_177_r0 v15_r0
  let c1024_i32_183_r0 : BitVec 32 := 1024#32
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ⟨![v165_r0.toNat, 1024], ![1024, v167_r0.toNat]⟩
def k0_cond6 : BitVec 1 :=
  let true_114_r0 : BitVec 1 := 1#1
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_113_r0 : BitVec 32 := 0#32
  let v116_r0 : BitVec 1 := Scalar.cmpi .ne v15_r0 c0_i32_113_r0
  let v117_r0 : BitVec 1 := Scalar.andi true_114_r0 v116_r0
  let true_115_r0 : BitVec 1 := 1#1
  let v118_r0 : BitVec 1 := Scalar.andi v117_r0 true_115_r0
  let v119_r0 : BitVec 32 := Scalar.extui v118_r0
  let c0_i32_116_r0 : BitVec 32 := 0#32
  let v120_r0 : BitVec 1 := Scalar.cmpi .ne v119_r0 c0_i32_116_r0
  v120_r0

def k0_mult6 : BitVec 32 :=
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  v166_r0
def k0_off24 : Fin 1 → Nat :=
  let c0_i32_78_r0 : BitVec 32 := 0#32
  let c1_i32_79_r0 : BitVec 32 := 1#32
  let v73_r0 : BitVec 32 := Scalar.addi c0_i32_78_r0 c1_i32_79_r0
  let c3_i32_176_r0 : BitVec 32 := 3#32
  let v164_r0 : BitVec 32 := Scalar.remui v73_r0 c3_i32_176_r0
  ![v164_r0.toNat]
def k0_off25 : (Fin 3 → Nat) × (Fin 3 → Nat) :=
  let c0_i32_78_r0 : BitVec 32 := 0#32
  let c1_i32_79_r0 : BitVec 32 := 1#32
  let v73_r0 : BitVec 32 := Scalar.addi c0_i32_78_r0 c1_i32_79_r0
  let c3_i32_176_r0 : BitVec 32 := 3#32
  let v164_r0 : BitVec 32 := Scalar.remui v73_r0 c3_i32_176_r0
  let c0_i32_181_r0 : BitVec 32 := 0#32
  let c0_i32_182_r0 : BitVec 32 := 0#32
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ⟨![v164_r0.toNat, 0, 0], ![1, 1024, v167_r0.toNat]⟩
def k0_sz4 : Fin 2 → Nat :=
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ![1024, v167_r0.toNat]
def k0_off26 : (Fin 2 → Nat) × (Fin 2 → Nat) :=
  let c1024_i32_177_r0 : BitVec 32 := 1024#32
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v165_r0 : BitVec 32 := Scalar.muli c1024_i32_177_r0 v15_r0
  let c2048_i32_183_r0 : BitVec 32 := 2048#32
  let false_178_r0 : BitVec 1 := 0#1
  let c512_i32_179_r0 : BitVec 32 := 512#32
  let c1024_i32_180_r0 : BitVec 32 := 1024#32
  let v166_r0 : BitVec 32 := Scalar.select false_178_r0 c512_i32_179_r0 c1024_i32_180_r0
  let v167_r0 : BitVec 32 := v166_r0
  ⟨![v165_r0.toNat, 2048], ![1024, v167_r0.toNat]⟩
def k0_cond7 : BitVec 1 :=
  let true_119_r0 : BitVec 1 := 1#1
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_118_r0 : BitVec 32 := 0#32
  let v123_r0 : BitVec 1 := Scalar.cmpi .ne v15_r0 c0_i32_118_r0
  let v124_r0 : BitVec 1 := Scalar.andi true_119_r0 v123_r0
  let true_120_r0 : BitVec 1 := 1#1
  let v125_r0 : BitVec 1 := Scalar.andi v124_r0 true_120_r0
  let v126_r0 : BitVec 32 := Scalar.extui v125_r0
  let c0_i32_121_r0 : BitVec 32 := 0#32
  let v127_r0 : BitVec 1 := Scalar.cmpi .ne v126_r0 c0_i32_121_r0
  v127_r0

def k0_off27 : Fin 1 → Nat :=
  let c0_i32_86_r0 : BitVec 32 := 0#32
  let c1_i32_87_r0 : BitVec 32 := 1#32
  let v80_r0 : BitVec 32 := Scalar.addi c0_i32_86_r0 c1_i32_87_r0
  let c3_i32_176_r0 : BitVec 32 := 3#32
  let v164_r0 : BitVec 32 := Scalar.remui v80_r0 c3_i32_176_r0
  ![v164_r0.toNat]
def k0_off28 : Fin 3 → Nat :=
  let c0_i32_86_r0 : BitVec 32 := 0#32
  let c1_i32_87_r0 : BitVec 32 := 1#32
  let v80_r0 : BitVec 32 := Scalar.addi c0_i32_86_r0 c1_i32_87_r0
  let c3_i32_176_r0 : BitVec 32 := 3#32
  let v164_r0 : BitVec 32 := Scalar.remui v80_r0 c3_i32_176_r0
  let c0_i32_178_r0 : BitVec 32 := 0#32
  let c0_i32_179_r0 : BitVec 32 := 0#32
  ![v164_r0.toNat, 0, 0]
def k0_off29 : Fin 2 → Nat :=
  let c1024_i32_177_r0 : BitVec 32 := 1024#32
  let true_14_r0 : BitVec 1 := 1#1
  let c1_i32_r0 : BitVec 32 := 1#32
  let c0_i32_15_r0 : BitVec 32 := 0#32
  let v12_r0 : BitVec 32 := Scalar.select true_14_r0 c1_i32_r0 c0_i32_15_r0
  let c16_i32_r0 : BitVec 32 := 16#32
  let v13_r0 : BitVec 1 := Scalar.cmpi .eq v12_r0 c16_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v165_r0 : BitVec 32 := Scalar.muli c1024_i32_177_r0 v15_r0
  let c0_i32_180_r0 : BitVec 32 := 0#32
  ![v165_r0.toNat, 0]
@[reducible] def k0_t1_loop : Scf.Loop 32 :=
  let c0_i32_143_r0 : BitVec 32 := 0#32
  let c16_i32_144_r0 : BitVec 32 := 16#32
  let v130_r0 : BitVec 32 := Scalar.addi c0_i32_143_r0 c16_i32_144_r0
  let c1_i32_145_r0 : BitVec 32 := 1#32
  ⟨c0_i32_143_r0, v130_r0, c1_i32_145_r0⟩
def k0_off30 (arg14_r0 : BitVec 32) : Fin 1 → Nat :=
  let c3_i32_480_r0 : BitVec 32 := 3#32
  let v710_r0 : BitVec 32 := Scalar.remui arg14_r0 c3_i32_480_r0
  ![v710_r0.toNat]
def k0_cond8 (k0_t1 : Fin k0_t1_loop.trips) (arg35_r0 : BitVec 32) : BitVec 1 :=
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let true_190_r0 : BitVec 1 := 1#1
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v187_r0 : BitVec 1 := Scalar.cmpi .ne v176_r0 v181_r0
  let c0_i32_143_r0 : BitVec 32 := 0#32
  let c1_i32_145_r0 : BitVec 32 := 1#32
  let arg13_r0 : BitVec 32 := Scf.iv c0_i32_143_r0 c1_i32_145_r0 k0_t1
  let c14_i32_r0 : BitVec 32 := 14#32
  let v188_r0 : BitVec 1 := Scalar.cmpi .sge arg13_r0 c14_i32_r0
  let true_199_r0 : BitVec 1 := 1#1
  let v189_r0 : BitVec 1 := Scalar.xori v188_r0 true_199_r0
  let v190_r0 : BitVec 1 := Scalar.andi v187_r0 v189_r0
  let true_200_r0 : BitVec 1 := 1#1
  let v191_r0 : BitVec 1 := Scalar.andi v190_r0 true_200_r0
  let v192_r0 : BitVec 32 := Scalar.extui v191_r0
  let c0_i32_201_r0 : BitVec 32 := 0#32
  let v193_r0 : BitVec 1 := Scalar.cmpi .ne v192_r0 c0_i32_201_r0
  v193_r0

def k0_off31 (arg14_r0 : BitVec 32) : Fin 3 → Nat :=
  let c3_i32_480_r0 : BitVec 32 := 3#32
  let v710_r0 : BitVec 32 := Scalar.remui arg14_r0 c3_i32_480_r0
  let c0_i32_482_r0 : BitVec 32 := 0#32
  let c0_i32_483_r0 : BitVec 32 := 0#32
  ![v710_r0.toNat, 0, 0]
def k0_off32 (arg35_r0 : BitVec 32) : Fin 2 → Nat :=
  let c1024_i32_481_r0 : BitVec 32 := 1024#32
  let true_190_r0 : BitVec 1 := 1#1
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v711_r0 : BitVec 32 := Scalar.muli c1024_i32_481_r0 v181_r0
  let c0_i32_484_r0 : BitVec 32 := 0#32
  ![v711_r0.toNat, 0]
def k0_off33 (arg16_r0 : BitVec 32) : Fin 1 → Nat :=
  let c3_i32_480_r0 : BitVec 32 := 3#32
  let v710_r0 : BitVec 32 := Scalar.remui arg16_r0 c3_i32_480_r0
  ![v710_r0.toNat]
def k0_cond9 (k0_t1 : Fin k0_t1_loop.trips) (arg35_r0 : BitVec 32) : BitVec 1 :=
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let true_190_r0 : BitVec 1 := 1#1
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v197_r0 : BitVec 1 := Scalar.cmpi .ne v176_r0 v181_r0
  let c0_i32_143_r0 : BitVec 32 := 0#32
  let c1_i32_145_r0 : BitVec 32 := 1#32
  let arg13_r0 : BitVec 32 := Scf.iv c0_i32_143_r0 c1_i32_145_r0 k0_t1
  let c14_i32_204_r0 : BitVec 32 := 14#32
  let v198_r0 : BitVec 1 := Scalar.cmpi .sge arg13_r0 c14_i32_204_r0
  let true_205_r0 : BitVec 1 := 1#1
  let v199_r0 : BitVec 1 := Scalar.xori v198_r0 true_205_r0
  let v200_r0 : BitVec 1 := Scalar.andi v197_r0 v199_r0
  let true_206_r0 : BitVec 1 := 1#1
  let v201_r0 : BitVec 1 := Scalar.andi v200_r0 true_206_r0
  let v202_r0 : BitVec 32 := Scalar.extui v201_r0
  let c0_i32_207_r0 : BitVec 32 := 0#32
  let v203_r0 : BitVec 1 := Scalar.cmpi .ne v202_r0 c0_i32_207_r0
  v203_r0

def k0_off34 (arg16_r0 : BitVec 32) : Fin 3 → Nat :=
  let c3_i32_480_r0 : BitVec 32 := 3#32
  let v710_r0 : BitVec 32 := Scalar.remui arg16_r0 c3_i32_480_r0
  let c0_i32_482_r0 : BitVec 32 := 0#32
  let c0_i32_483_r0 : BitVec 32 := 0#32
  ![v710_r0.toNat, 0, 0]
def k0_off35 (arg35_r0 : BitVec 32) : Fin 2 → Nat :=
  let c1024_i32_481_r0 : BitVec 32 := 1024#32
  let true_190_r0 : BitVec 1 := 1#1
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v711_r0 : BitVec 32 := Scalar.muli c1024_i32_481_r0 v181_r0
  let c0_i32_484_r0 : BitVec 32 := 0#32
  ![v711_r0.toNat, 0]
def k0_off36 (arg18_r0 : BitVec 32) : Fin 1 → Nat :=
  let c3_i32_480_r0 : BitVec 32 := 3#32
  let v710_r0 : BitVec 32 := Scalar.remui arg18_r0 c3_i32_480_r0
  ![v710_r0.toNat]
def k0_cond10 (k0_t1 : Fin k0_t1_loop.trips) (arg35_r0 : BitVec 32) : BitVec 1 :=
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let true_190_r0 : BitVec 1 := 1#1
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v207_r0 : BitVec 1 := Scalar.cmpi .ne v176_r0 v181_r0
  let c0_i32_143_r0 : BitVec 32 := 0#32
  let c1_i32_145_r0 : BitVec 32 := 1#32
  let arg13_r0 : BitVec 32 := Scf.iv c0_i32_143_r0 c1_i32_145_r0 k0_t1
  let c14_i32_210_r0 : BitVec 32 := 14#32
  let v208_r0 : BitVec 1 := Scalar.cmpi .sge arg13_r0 c14_i32_210_r0
  let true_211_r0 : BitVec 1 := 1#1
  let v209_r0 : BitVec 1 := Scalar.xori v208_r0 true_211_r0
  let v210_r0 : BitVec 1 := Scalar.andi v207_r0 v209_r0
  let true_212_r0 : BitVec 1 := 1#1
  let v211_r0 : BitVec 1 := Scalar.andi v210_r0 true_212_r0
  let v212_r0 : BitVec 32 := Scalar.extui v211_r0
  let c0_i32_213_r0 : BitVec 32 := 0#32
  let v213_r0 : BitVec 1 := Scalar.cmpi .ne v212_r0 c0_i32_213_r0
  v213_r0

def k0_off37 (arg18_r0 : BitVec 32) : Fin 3 → Nat :=
  let c3_i32_480_r0 : BitVec 32 := 3#32
  let v710_r0 : BitVec 32 := Scalar.remui arg18_r0 c3_i32_480_r0
  let c0_i32_482_r0 : BitVec 32 := 0#32
  let c0_i32_483_r0 : BitVec 32 := 0#32
  ![v710_r0.toNat, 0, 0]
def k0_off38 (arg35_r0 : BitVec 32) : Fin 2 → Nat :=
  let c1024_i32_481_r0 : BitVec 32 := 1024#32
  let true_190_r0 : BitVec 1 := 1#1
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v711_r0 : BitVec 32 := Scalar.muli c1024_i32_481_r0 v181_r0
  let c0_i32_484_r0 : BitVec 32 := 0#32
  ![v711_r0.toNat, 0]
def k0_mult7 : BitVec 32 :=
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  v712_r0
def k0_off39 (arg20_r0 : BitVec 32) : Fin 1 → Nat :=
  let c3_i32_480_r0 : BitVec 32 := 3#32
  let v710_r0 : BitVec 32 := Scalar.remui arg20_r0 c3_i32_480_r0
  ![v710_r0.toNat]
def k0_cond11 (k0_t1 : Fin k0_t1_loop.trips) (arg35_r0 : BitVec 32) : BitVec 1 :=
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let true_190_r0 : BitVec 1 := 1#1
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v217_r0 : BitVec 1 := Scalar.cmpi .ne v176_r0 v181_r0
  let c0_i32_143_r0 : BitVec 32 := 0#32
  let c1_i32_145_r0 : BitVec 32 := 1#32
  let arg13_r0 : BitVec 32 := Scf.iv c0_i32_143_r0 c1_i32_145_r0 k0_t1
  let c14_i32_216_r0 : BitVec 32 := 14#32
  let v218_r0 : BitVec 1 := Scalar.cmpi .sge arg13_r0 c14_i32_216_r0
  let true_217_r0 : BitVec 1 := 1#1
  let v219_r0 : BitVec 1 := Scalar.xori v218_r0 true_217_r0
  let v220_r0 : BitVec 1 := Scalar.andi v217_r0 v219_r0
  let true_218_r0 : BitVec 1 := 1#1
  let v221_r0 : BitVec 1 := Scalar.andi v220_r0 true_218_r0
  let v222_r0 : BitVec 32 := Scalar.extui v221_r0
  let c0_i32_219_r0 : BitVec 32 := 0#32
  let v223_r0 : BitVec 1 := Scalar.cmpi .ne v222_r0 c0_i32_219_r0
  v223_r0

def k0_off40 (arg20_r0 : BitVec 32) : (Fin 3 → Nat) × (Fin 3 → Nat) :=
  let c3_i32_480_r0 : BitVec 32 := 3#32
  let v710_r0 : BitVec 32 := Scalar.remui arg20_r0 c3_i32_480_r0
  let c0_i32_485_r0 : BitVec 32 := 0#32
  let c0_i32_486_r0 : BitVec 32 := 0#32
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ⟨![v710_r0.toNat, 0, 0], ![1, 1024, v713_r0.toNat]⟩
def k0_sz5 : Fin 2 → Nat :=
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ![1024, v713_r0.toNat]
def k0_off41 (arg35_r0 : BitVec 32) : (Fin 2 → Nat) × (Fin 2 → Nat) :=
  let c1024_i32_481_r0 : BitVec 32 := 1024#32
  let true_190_r0 : BitVec 1 := 1#1
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v711_r0 : BitVec 32 := Scalar.muli c1024_i32_481_r0 v181_r0
  let c0_i32_487_r0 : BitVec 32 := 0#32
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ⟨![v711_r0.toNat, 0], ![1024, v713_r0.toNat]⟩
def k0_mult8 : BitVec 32 :=
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  v712_r0
def k0_off42 (arg22_r0 : BitVec 32) : Fin 1 → Nat :=
  let c3_i32_480_r0 : BitVec 32 := 3#32
  let v710_r0 : BitVec 32 := Scalar.remui arg22_r0 c3_i32_480_r0
  ![v710_r0.toNat]
def k0_cond12 (k0_t1 : Fin k0_t1_loop.trips) (arg35_r0 : BitVec 32) : BitVec 1 :=
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let true_190_r0 : BitVec 1 := 1#1
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v227_r0 : BitVec 1 := Scalar.cmpi .ne v176_r0 v181_r0
  let c0_i32_143_r0 : BitVec 32 := 0#32
  let c1_i32_145_r0 : BitVec 32 := 1#32
  let arg13_r0 : BitVec 32 := Scf.iv c0_i32_143_r0 c1_i32_145_r0 k0_t1
  let c14_i32_222_r0 : BitVec 32 := 14#32
  let v228_r0 : BitVec 1 := Scalar.cmpi .sge arg13_r0 c14_i32_222_r0
  let true_223_r0 : BitVec 1 := 1#1
  let v229_r0 : BitVec 1 := Scalar.xori v228_r0 true_223_r0
  let v230_r0 : BitVec 1 := Scalar.andi v227_r0 v229_r0
  let true_224_r0 : BitVec 1 := 1#1
  let v231_r0 : BitVec 1 := Scalar.andi v230_r0 true_224_r0
  let v232_r0 : BitVec 32 := Scalar.extui v231_r0
  let c0_i32_225_r0 : BitVec 32 := 0#32
  let v233_r0 : BitVec 1 := Scalar.cmpi .ne v232_r0 c0_i32_225_r0
  v233_r0

def k0_off43 (arg22_r0 : BitVec 32) : (Fin 3 → Nat) × (Fin 3 → Nat) :=
  let c3_i32_480_r0 : BitVec 32 := 3#32
  let v710_r0 : BitVec 32 := Scalar.remui arg22_r0 c3_i32_480_r0
  let c0_i32_485_r0 : BitVec 32 := 0#32
  let c0_i32_486_r0 : BitVec 32 := 0#32
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ⟨![v710_r0.toNat, 0, 0], ![1, 1024, v713_r0.toNat]⟩
def k0_sz6 : Fin 2 → Nat :=
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ![1024, v713_r0.toNat]
def k0_off44 (arg35_r0 : BitVec 32) : (Fin 2 → Nat) × (Fin 2 → Nat) :=
  let c1024_i32_481_r0 : BitVec 32 := 1024#32
  let true_190_r0 : BitVec 1 := 1#1
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v711_r0 : BitVec 32 := Scalar.muli c1024_i32_481_r0 v181_r0
  let c1024_i32_487_r0 : BitVec 32 := 1024#32
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ⟨![v711_r0.toNat, 1024], ![1024, v713_r0.toNat]⟩
def k0_mult9 : BitVec 32 :=
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  v712_r0
def k0_off45 (arg24_r0 : BitVec 32) : Fin 1 → Nat :=
  let c3_i32_480_r0 : BitVec 32 := 3#32
  let v710_r0 : BitVec 32 := Scalar.remui arg24_r0 c3_i32_480_r0
  ![v710_r0.toNat]
def k0_cond13 (k0_t1 : Fin k0_t1_loop.trips) (arg35_r0 : BitVec 32) : BitVec 1 :=
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let true_190_r0 : BitVec 1 := 1#1
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v237_r0 : BitVec 1 := Scalar.cmpi .ne v176_r0 v181_r0
  let c0_i32_143_r0 : BitVec 32 := 0#32
  let c1_i32_145_r0 : BitVec 32 := 1#32
  let arg13_r0 : BitVec 32 := Scf.iv c0_i32_143_r0 c1_i32_145_r0 k0_t1
  let c14_i32_228_r0 : BitVec 32 := 14#32
  let v238_r0 : BitVec 1 := Scalar.cmpi .sge arg13_r0 c14_i32_228_r0
  let true_229_r0 : BitVec 1 := 1#1
  let v239_r0 : BitVec 1 := Scalar.xori v238_r0 true_229_r0
  let v240_r0 : BitVec 1 := Scalar.andi v237_r0 v239_r0
  let true_230_r0 : BitVec 1 := 1#1
  let v241_r0 : BitVec 1 := Scalar.andi v240_r0 true_230_r0
  let v242_r0 : BitVec 32 := Scalar.extui v241_r0
  let c0_i32_231_r0 : BitVec 32 := 0#32
  let v243_r0 : BitVec 1 := Scalar.cmpi .ne v242_r0 c0_i32_231_r0
  v243_r0

def k0_off46 (arg24_r0 : BitVec 32) : (Fin 3 → Nat) × (Fin 3 → Nat) :=
  let c3_i32_480_r0 : BitVec 32 := 3#32
  let v710_r0 : BitVec 32 := Scalar.remui arg24_r0 c3_i32_480_r0
  let c0_i32_485_r0 : BitVec 32 := 0#32
  let c0_i32_486_r0 : BitVec 32 := 0#32
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ⟨![v710_r0.toNat, 0, 0], ![1, 1024, v713_r0.toNat]⟩
def k0_sz7 : Fin 2 → Nat :=
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ![1024, v713_r0.toNat]
def k0_off47 (arg35_r0 : BitVec 32) : (Fin 2 → Nat) × (Fin 2 → Nat) :=
  let c1024_i32_481_r0 : BitVec 32 := 1024#32
  let true_190_r0 : BitVec 1 := 1#1
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v711_r0 : BitVec 32 := Scalar.muli c1024_i32_481_r0 v181_r0
  let c2048_i32_487_r0 : BitVec 32 := 2048#32
  let false_482_r0 : BitVec 1 := 0#1
  let c512_i32_483_r0 : BitVec 32 := 512#32
  let c1024_i32_484_r0 : BitVec 32 := 1024#32
  let v712_r0 : BitVec 32 := Scalar.select false_482_r0 c512_i32_483_r0 c1024_i32_484_r0
  let v713_r0 : BitVec 32 := v712_r0
  ⟨![v711_r0.toNat, 2048], ![1024, v713_r0.toNat]⟩
def k0_off48 (arg26_r0 : BitVec 32) : Fin 1 → Nat :=
  let c3_i32_480_r0 : BitVec 32 := 3#32
  let v710_r0 : BitVec 32 := Scalar.remui arg26_r0 c3_i32_480_r0
  ![v710_r0.toNat]
def k0_cond14 (k0_t1 : Fin k0_t1_loop.trips) (arg35_r0 : BitVec 32) : BitVec 1 :=
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let true_190_r0 : BitVec 1 := 1#1
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v247_r0 : BitVec 1 := Scalar.cmpi .ne v176_r0 v181_r0
  let c0_i32_143_r0 : BitVec 32 := 0#32
  let c1_i32_145_r0 : BitVec 32 := 1#32
  let arg13_r0 : BitVec 32 := Scf.iv c0_i32_143_r0 c1_i32_145_r0 k0_t1
  let c14_i32_234_r0 : BitVec 32 := 14#32
  let v248_r0 : BitVec 1 := Scalar.cmpi .sge arg13_r0 c14_i32_234_r0
  let true_235_r0 : BitVec 1 := 1#1
  let v249_r0 : BitVec 1 := Scalar.xori v248_r0 true_235_r0
  let v250_r0 : BitVec 1 := Scalar.andi v247_r0 v249_r0
  let true_236_r0 : BitVec 1 := 1#1
  let v251_r0 : BitVec 1 := Scalar.andi v250_r0 true_236_r0
  let v252_r0 : BitVec 32 := Scalar.extui v251_r0
  let c0_i32_237_r0 : BitVec 32 := 0#32
  let v253_r0 : BitVec 1 := Scalar.cmpi .ne v252_r0 c0_i32_237_r0
  v253_r0

def k0_off49 (arg26_r0 : BitVec 32) : Fin 3 → Nat :=
  let c3_i32_480_r0 : BitVec 32 := 3#32
  let v710_r0 : BitVec 32 := Scalar.remui arg26_r0 c3_i32_480_r0
  let c0_i32_482_r0 : BitVec 32 := 0#32
  let c0_i32_483_r0 : BitVec 32 := 0#32
  ![v710_r0.toNat, 0, 0]
def k0_off50 (arg35_r0 : BitVec 32) : Fin 2 → Nat :=
  let c1024_i32_481_r0 : BitVec 32 := 1024#32
  let true_190_r0 : BitVec 1 := 1#1
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c1_i32_189_r0 : BitVec 32 := 1#32
  let v177_r0 : BitVec 32 := Scalar.addi v175_r0 c1_i32_189_r0
  let v178_r0 : BitVec 32 := Scalar.select true_190_r0 v177_r0 v175_r0
  let c16_i32_191_r0 : BitVec 32 := 16#32
  let v179_r0 : BitVec 1 := Scalar.cmpi .eq v178_r0 c16_i32_191_r0
  let c0_i32_192_r0 : BitVec 32 := 0#32
  let v180_r0 : BitVec 32 := Scalar.select v179_r0 c0_i32_192_r0 v178_r0
  let c0_i32_193_r0 : BitVec 32 := 0#32
  let v181_r0 : BitVec 32 := Scalar.addi v180_r0 c0_i32_193_r0
  let v711_r0 : BitVec 32 := Scalar.muli c1024_i32_481_r0 v181_r0
  let c0_i32_484_r0 : BitVec 32 := 0#32
  ![v711_r0.toNat, 0]
def k0_off51 (arg15_r0 : BitVec 32) : Fin 1 → Nat :=
  let c3_i32_481_r0 : BitVec 32 := 3#32
  let v711_r0 : BitVec 32 := Scalar.remui arg15_r0 c3_i32_481_r0
  ![v711_r0.toNat]
def k0_cond15 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v261_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let v262_r0 : BitVec 1 := Scalar.ori v261_r0 v164_r0
  let c0_i32_242_r0 : BitVec 32 := 0#32
  let v263_r0 : BitVec 1 := Scalar.cmpi .sge arg13_r0 c0_i32_242_r0
  let v264_r0 : BitVec 1 := Scalar.andi v262_r0 v263_r0
  let v265_r0 : BitVec 32 := Scalar.extui v264_r0
  let c0_i32_243_r0 : BitVec 32 := 0#32
  let v266_r0 : BitVec 1 := Scalar.cmpi .ne v265_r0 c0_i32_243_r0
  v266_r0

def k0_off52 (arg15_r0 : BitVec 32) : Fin 3 → Nat :=
  let c3_i32_481_r0 : BitVec 32 := 3#32
  let v711_r0 : BitVec 32 := Scalar.remui arg15_r0 c3_i32_481_r0
  let c0_i32_482_r0 : BitVec 32 := 0#32
  let c0_i32_483_r0 : BitVec 32 := 0#32
  ![v711_r0.toNat, 0, 0]
def k0_off53 (arg35_r0 : BitVec 32) : Fin 2 → Nat :=
  let c1024_i32_480_r0 : BitVec 32 := 1024#32
  let c0_i32_178_r0 : BitVec 32 := 0#32
  let v166_r0 : BitVec 32 := Scalar.addi arg35_r0 c0_i32_178_r0
  let v710_r0 : BitVec 32 := Scalar.muli c1024_i32_480_r0 v166_r0
  let c0_i32_484_r0 : BitVec 32 := 0#32
  ![v710_r0.toNat, 0]
def k0_off54 (arg17_r0 : BitVec 32) : Fin 1 → Nat :=
  let c3_i32_481_r0 : BitVec 32 := 3#32
  let v711_r0 : BitVec 32 := Scalar.remui arg17_r0 c3_i32_481_r0
  ![v711_r0.toNat]
def k0_cond16 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v267_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let v268_r0 : BitVec 1 := Scalar.ori v267_r0 v164_r0
  let c0_i32_244_r0 : BitVec 32 := 0#32
  let v269_r0 : BitVec 1 := Scalar.cmpi .sge arg13_r0 c0_i32_244_r0
  let v270_r0 : BitVec 1 := Scalar.andi v268_r0 v269_r0
  let v271_r0 : BitVec 32 := Scalar.extui v270_r0
  let c0_i32_245_r0 : BitVec 32 := 0#32
  let v272_r0 : BitVec 1 := Scalar.cmpi .ne v271_r0 c0_i32_245_r0
  v272_r0

def k0_off55 (arg17_r0 : BitVec 32) : Fin 3 → Nat :=
  let c3_i32_481_r0 : BitVec 32 := 3#32
  let v711_r0 : BitVec 32 := Scalar.remui arg17_r0 c3_i32_481_r0
  let c0_i32_482_r0 : BitVec 32 := 0#32
  let c0_i32_483_r0 : BitVec 32 := 0#32
  ![v711_r0.toNat, 0, 0]
def k0_off56 (arg35_r0 : BitVec 32) : Fin 2 → Nat :=
  let c1024_i32_480_r0 : BitVec 32 := 1024#32
  let c0_i32_178_r0 : BitVec 32 := 0#32
  let v166_r0 : BitVec 32 := Scalar.addi arg35_r0 c0_i32_178_r0
  let v710_r0 : BitVec 32 := Scalar.muli c1024_i32_480_r0 v166_r0
  let c0_i32_484_r0 : BitVec 32 := 0#32
  ![v710_r0.toNat, 0]
def k0_off57 (arg19_r0 : BitVec 32) : Fin 1 → Nat :=
  let c3_i32_481_r0 : BitVec 32 := 3#32
  let v711_r0 : BitVec 32 := Scalar.remui arg19_r0 c3_i32_481_r0
  ![v711_r0.toNat]
def k0_cond17 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v273_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let v274_r0 : BitVec 1 := Scalar.ori v273_r0 v164_r0
  let c0_i32_246_r0 : BitVec 32 := 0#32
  let v275_r0 : BitVec 1 := Scalar.cmpi .sge arg13_r0 c0_i32_246_r0
  let v276_r0 : BitVec 1 := Scalar.andi v274_r0 v275_r0
  let v277_r0 : BitVec 32 := Scalar.extui v276_r0
  let c0_i32_247_r0 : BitVec 32 := 0#32
  let v278_r0 : BitVec 1 := Scalar.cmpi .ne v277_r0 c0_i32_247_r0
  v278_r0

def k0_off58 (arg19_r0 : BitVec 32) : Fin 3 → Nat :=
  let c3_i32_481_r0 : BitVec 32 := 3#32
  let v711_r0 : BitVec 32 := Scalar.remui arg19_r0 c3_i32_481_r0
  let c0_i32_482_r0 : BitVec 32 := 0#32
  let c0_i32_483_r0 : BitVec 32 := 0#32
  ![v711_r0.toNat, 0, 0]
def k0_off59 (arg35_r0 : BitVec 32) : Fin 2 → Nat :=
  let c1024_i32_480_r0 : BitVec 32 := 1024#32
  let c0_i32_178_r0 : BitVec 32 := 0#32
  let v166_r0 : BitVec 32 := Scalar.addi arg35_r0 c0_i32_178_r0
  let v710_r0 : BitVec 32 := Scalar.muli c1024_i32_480_r0 v166_r0
  let c0_i32_484_r0 : BitVec 32 := 0#32
  ![v710_r0.toNat, 0]
def k0_mult10 : BitVec 32 :=
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  v711_r0
def k0_off60 (arg21_r0 : BitVec 32) : Fin 1 → Nat :=
  let c3_i32_484_r0 : BitVec 32 := 3#32
  let v713_r0 : BitVec 32 := Scalar.remui arg21_r0 c3_i32_484_r0
  ![v713_r0.toNat]
def k0_cond18 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v279_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let v280_r0 : BitVec 1 := Scalar.ori v279_r0 v164_r0
  let c0_i32_248_r0 : BitVec 32 := 0#32
  let v281_r0 : BitVec 1 := Scalar.cmpi .sge arg13_r0 c0_i32_248_r0
  let v282_r0 : BitVec 1 := Scalar.andi v280_r0 v281_r0
  let v283_r0 : BitVec 32 := Scalar.extui v282_r0
  let c0_i32_249_r0 : BitVec 32 := 0#32
  let v284_r0 : BitVec 1 := Scalar.cmpi .ne v283_r0 c0_i32_249_r0
  v284_r0

def k0_off61 (arg21_r0 : BitVec 32) : (Fin 3 → Nat) × (Fin 3 → Nat) :=
  let c3_i32_484_r0 : BitVec 32 := 3#32
  let v713_r0 : BitVec 32 := Scalar.remui arg21_r0 c3_i32_484_r0
  let c0_i32_485_r0 : BitVec 32 := 0#32
  let c0_i32_486_r0 : BitVec 32 := 0#32
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ⟨![v713_r0.toNat, 0, 0], ![1, 1024, v712_r0.toNat]⟩

def k0_sz8 : Fin 2 → Nat :=
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ![1024, v712_r0.toNat]
def k0_off62 (arg35_r0 : BitVec 32) : (Fin 2 → Nat) × (Fin 2 → Nat) :=
  let c1024_i32_480_r0 : BitVec 32 := 1024#32
  let c0_i32_178_r0 : BitVec 32 := 0#32
  let v166_r0 : BitVec 32 := Scalar.addi arg35_r0 c0_i32_178_r0
  let v710_r0 : BitVec 32 := Scalar.muli c1024_i32_480_r0 v166_r0
  let c0_i32_487_r0 : BitVec 32 := 0#32
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ⟨![v710_r0.toNat, 0], ![1024, v712_r0.toNat]⟩

def k0_mult11 : BitVec 32 :=
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  v711_r0
def k0_off63 (arg23_r0 : BitVec 32) : Fin 1 → Nat :=
  let c3_i32_484_r0 : BitVec 32 := 3#32
  let v713_r0 : BitVec 32 := Scalar.remui arg23_r0 c3_i32_484_r0
  ![v713_r0.toNat]
def k0_cond19 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v285_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let v286_r0 : BitVec 1 := Scalar.ori v285_r0 v164_r0
  let c0_i32_250_r0 : BitVec 32 := 0#32
  let v287_r0 : BitVec 1 := Scalar.cmpi .sge arg13_r0 c0_i32_250_r0
  let v288_r0 : BitVec 1 := Scalar.andi v286_r0 v287_r0
  let v289_r0 : BitVec 32 := Scalar.extui v288_r0
  let c0_i32_251_r0 : BitVec 32 := 0#32
  let v290_r0 : BitVec 1 := Scalar.cmpi .ne v289_r0 c0_i32_251_r0
  v290_r0

def k0_off64 (arg23_r0 : BitVec 32) : (Fin 3 → Nat) × (Fin 3 → Nat) :=
  let c3_i32_484_r0 : BitVec 32 := 3#32
  let v713_r0 : BitVec 32 := Scalar.remui arg23_r0 c3_i32_484_r0
  let c0_i32_485_r0 : BitVec 32 := 0#32
  let c0_i32_486_r0 : BitVec 32 := 0#32
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ⟨![v713_r0.toNat, 0, 0], ![1, 1024, v712_r0.toNat]⟩

def k0_sz9 : Fin 2 → Nat :=
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ![1024, v712_r0.toNat]
def k0_off65 (arg35_r0 : BitVec 32) : (Fin 2 → Nat) × (Fin 2 → Nat) :=
  let c1024_i32_480_r0 : BitVec 32 := 1024#32
  let c0_i32_178_r0 : BitVec 32 := 0#32
  let v166_r0 : BitVec 32 := Scalar.addi arg35_r0 c0_i32_178_r0
  let v710_r0 : BitVec 32 := Scalar.muli c1024_i32_480_r0 v166_r0
  let c1024_i32_487_r0 : BitVec 32 := 1024#32
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ⟨![v710_r0.toNat, 1024], ![1024, v712_r0.toNat]⟩

def k0_mult12 : BitVec 32 :=
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  v711_r0
def k0_off66 (arg25_r0 : BitVec 32) : Fin 1 → Nat :=
  let c3_i32_484_r0 : BitVec 32 := 3#32
  let v713_r0 : BitVec 32 := Scalar.remui arg25_r0 c3_i32_484_r0
  ![v713_r0.toNat]
def k0_cond20 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v291_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let v292_r0 : BitVec 1 := Scalar.ori v291_r0 v164_r0
  let c0_i32_252_r0 : BitVec 32 := 0#32
  let v293_r0 : BitVec 1 := Scalar.cmpi .sge arg13_r0 c0_i32_252_r0
  let v294_r0 : BitVec 1 := Scalar.andi v292_r0 v293_r0
  let v295_r0 : BitVec 32 := Scalar.extui v294_r0
  let c0_i32_253_r0 : BitVec 32 := 0#32
  let v296_r0 : BitVec 1 := Scalar.cmpi .ne v295_r0 c0_i32_253_r0
  v296_r0

def k0_off67 (arg25_r0 : BitVec 32) : (Fin 3 → Nat) × (Fin 3 → Nat) :=
  let c3_i32_484_r0 : BitVec 32 := 3#32
  let v713_r0 : BitVec 32 := Scalar.remui arg25_r0 c3_i32_484_r0
  let c0_i32_485_r0 : BitVec 32 := 0#32
  let c0_i32_486_r0 : BitVec 32 := 0#32
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ⟨![v713_r0.toNat, 0, 0], ![1, 1024, v712_r0.toNat]⟩

def k0_sz10 : Fin 2 → Nat :=
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ![1024, v712_r0.toNat]
def k0_off68 (arg35_r0 : BitVec 32) : (Fin 2 → Nat) × (Fin 2 → Nat) :=
  let c1024_i32_480_r0 : BitVec 32 := 1024#32
  let c0_i32_178_r0 : BitVec 32 := 0#32
  let v166_r0 : BitVec 32 := Scalar.addi arg35_r0 c0_i32_178_r0
  let v710_r0 : BitVec 32 := Scalar.muli c1024_i32_480_r0 v166_r0
  let c2048_i32_487_r0 : BitVec 32 := 2048#32
  let false_481_r0 : BitVec 1 := 0#1
  let c512_i32_482_r0 : BitVec 32 := 512#32
  let c1024_i32_483_r0 : BitVec 32 := 1024#32
  let v711_r0 : BitVec 32 := Scalar.select false_481_r0 c512_i32_482_r0 c1024_i32_483_r0
  let v712_r0 : BitVec 32 := v711_r0
  ⟨![v710_r0.toNat, 2048], ![1024, v712_r0.toNat]⟩

def k0_off69 (arg27_r0 : BitVec 32) : Fin 1 → Nat :=
  let c3_i32_481_r0 : BitVec 32 := 3#32
  let v711_r0 : BitVec 32 := Scalar.remui arg27_r0 c3_i32_481_r0
  ![v711_r0.toNat]
def k0_cond21 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v297_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let v298_r0 : BitVec 1 := Scalar.ori v297_r0 v164_r0
  let c0_i32_254_r0 : BitVec 32 := 0#32
  let v299_r0 : BitVec 1 := Scalar.cmpi .sge arg13_r0 c0_i32_254_r0
  let v300_r0 : BitVec 1 := Scalar.andi v298_r0 v299_r0
  let v301_r0 : BitVec 32 := Scalar.extui v300_r0
  let c0_i32_255_r0 : BitVec 32 := 0#32
  let v302_r0 : BitVec 1 := Scalar.cmpi .ne v301_r0 c0_i32_255_r0
  v302_r0

def k0_off70 (arg27_r0 : BitVec 32) : Fin 3 → Nat :=
  let c3_i32_481_r0 : BitVec 32 := 3#32
  let v711_r0 : BitVec 32 := Scalar.remui arg27_r0 c3_i32_481_r0
  let c0_i32_482_r0 : BitVec 32 := 0#32
  let c0_i32_483_r0 : BitVec 32 := 0#32
  ![v711_r0.toNat, 0, 0]
def k0_off71 (arg35_r0 : BitVec 32) : Fin 2 → Nat :=
  let c1024_i32_480_r0 : BitVec 32 := 1024#32
  let c0_i32_178_r0 : BitVec 32 := 0#32
  let v166_r0 : BitVec 32 := Scalar.addi arg35_r0 c0_i32_178_r0
  let v710_r0 : BitVec 32 := Scalar.muli c1024_i32_480_r0 v166_r0
  let c0_i32_484_r0 : BitVec 32 := 0#32
  ![v710_r0.toNat, 0]
def k0_off72 (arg15_r0 : BitVec 32) : Fin 3 → Nat :=
  let c3_i32_258_r0 : BitVec 32 := 3#32
  let v309_r0 : BitVec 32 := Scalar.remui arg15_r0 c3_i32_258_r0
  let v317_r0 : Index := Scalar.indexCast v309_r0
  let c0_r0 : Index := 0#32
  let c0_266_r0 : Index := 0#32
  ![v317_r0.toNat, 0, 0]

def k0_chk2 (arg15_r0 : BitVec 32) : Prop :=
  (∀ a, (k0_off72 arg15_r0) a + S1x1024x256.size a ≤ S3x1024x256.size a)
theorem k0_off72_inb : ∀ (arg15_r0 : BitVec 32) (k0_hw2 : k0_chk2 arg15_r0), ∀ a, (k0_off72 arg15_r0) a + S1x1024x256.size a ≤ S3x1024x256.size a := fun arg15_r0 k0_hw2 => k0_hw2

def k0_off73 (arg17_r0 : BitVec 32) : Fin 3 → Nat :=
  let c3_i32_259_r0 : BitVec 32 := 3#32
  let v310_r0 : BitVec 32 := Scalar.remui arg17_r0 c3_i32_259_r0
  let v323_r0 : Index := Scalar.indexCast v310_r0
  let c0_269_r0 : Index := 0#32
  let c0_270_r0 : Index := 0#32
  ![v323_r0.toNat, 0, 0]

def k0_chk3 (arg17_r0 : BitVec 32) : Prop :=
  (∀ a, (k0_off73 arg17_r0) a + S1x1024x512.size a ≤ S3x1024x512.size a)
theorem k0_off73_inb : ∀ (arg17_r0 : BitVec 32) (k0_hw3 : k0_chk3 arg17_r0), ∀ a, (k0_off73 arg17_r0) a + S1x1024x512.size a ≤ S3x1024x512.size a := fun arg17_r0 k0_hw3 => k0_hw3

def k0_off74 (arg19_r0 : BitVec 32) : Fin 3 → Nat :=
  let c3_i32_260_r0 : BitVec 32 := 3#32
  let v311_r0 : BitVec 32 := Scalar.remui arg19_r0 c3_i32_260_r0
  let v329_r0 : Index := Scalar.indexCast v311_r0
  let c0_274_r0 : Index := 0#32
  let c0_275_r0 : Index := 0#32
  ![v329_r0.toNat, 0, 0]

def k0_chk4 (arg19_r0 : BitVec 32) : Prop :=
  (∀ a, (k0_off74 arg19_r0) a + S1x1024x512.size a ≤ S3x1024x512.size a)
theorem k0_off74_inb : ∀ (arg19_r0 : BitVec 32) (k0_hw4 : k0_chk4 arg19_r0), ∀ a, (k0_off74 arg19_r0) a + S1x1024x512.size a ≤ S3x1024x512.size a := fun arg19_r0 k0_hw4 => k0_hw4

def k0_off75 (arg21_r0 : BitVec 32) : Fin 3 → Nat :=
  let c3_i32_261_r0 : BitVec 32 := 3#32
  let v312_r0 : BitVec 32 := Scalar.remui arg21_r0 c3_i32_261_r0
  let c0_i32_293_r0 : BitVec 32 := 0#32
  let c0_i32_294_r0 : BitVec 32 := 0#32
  ![v312_r0.toNat, 0, 0]

def k0_chk5 (arg21_r0 : BitVec 32) : Prop :=
  (∀ a, (k0_off75 arg21_r0) a + S1x1024x1024.size a ≤ S3x1024x1024.size a)
theorem k0_off75_inb : ∀ (arg21_r0 : BitVec 32) (k0_hw5 : k0_chk5 arg21_r0), ∀ a, (k0_off75 arg21_r0) a + S1x1024x1024.size a ≤ S3x1024x1024.size a := fun arg21_r0 k0_hw5 => k0_hw5

def k0_off76 (arg23_r0 : BitVec 32) : Fin 3 → Nat :=
  let c3_i32_262_r0 : BitVec 32 := 3#32
  let v313_r0 : BitVec 32 := Scalar.remui arg23_r0 c3_i32_262_r0
  let c0_i32_300_r0 : BitVec 32 := 0#32
  let c0_i32_301_r0 : BitVec 32 := 0#32
  ![v313_r0.toNat, 0, 0]

def k0_chk6 (arg23_r0 : BitVec 32) : Prop :=
  (∀ a, (k0_off76 arg23_r0) a + S1x1024x1024.size a ≤ S3x1024x1024.size a)
theorem k0_off76_inb : ∀ (arg23_r0 : BitVec 32) (k0_hw6 : k0_chk6 arg23_r0), ∀ a, (k0_off76 arg23_r0) a + S1x1024x1024.size a ≤ S3x1024x1024.size a := fun arg23_r0 k0_hw6 => k0_hw6

def k0_off77 (arg25_r0 : BitVec 32) : Fin 3 → Nat :=
  let c3_i32_263_r0 : BitVec 32 := 3#32
  let v314_r0 : BitVec 32 := Scalar.remui arg25_r0 c3_i32_263_r0
  let c0_i32_307_r0 : BitVec 32 := 0#32
  let c0_i32_308_r0 : BitVec 32 := 0#32
  ![v314_r0.toNat, 0, 0]

def k0_chk7 (arg25_r0 : BitVec 32) : Prop :=
  (∀ a, (k0_off77 arg25_r0) a + S1x1024x1024.size a ≤ S3x1024x1024.size a)
theorem k0_off77_inb : ∀ (arg25_r0 : BitVec 32) (k0_hw7 : k0_chk7 arg25_r0), ∀ a, (k0_off77 arg25_r0) a + S1x1024x1024.size a ≤ S3x1024x1024.size a := fun arg25_r0 k0_hw7 => k0_hw7

def k0_off78 (arg27_r0 : BitVec 32) : Fin 3 → Nat :=
  let c3_i32_264_r0 : BitVec 32 := 3#32
  let v315_r0 : BitVec 32 := Scalar.remui arg27_r0 c3_i32_264_r0
  let v549_r0 : Index := Scalar.indexCast v315_r0
  let c0_408_r0 : Index := 0#32
  let c0_409_r0 : Index := 0#32
  ![v549_r0.toNat, 0, 0]

def k0_chk8 (arg27_r0 : BitVec 32) : Prop :=
  (∀ a, (k0_off78 arg27_r0) a + S1x1024x1024.size a ≤ S3x1024x1024.size a)
theorem k0_off78_inb : ∀ (arg27_r0 : BitVec 32) (k0_hw8 : k0_chk8 arg27_r0), ∀ a, (k0_off78 arg27_r0) a + S1x1024x1024.size a ≤ S3x1024x1024.size a := fun arg27_r0 k0_hw8 => k0_hw8

def k0_off79 (arg33_r0 : BitVec 32) : Fin 3 → Nat :=
  let c2_i32_265_r0 : BitVec 32 := 2#32
  let v316_r0 : BitVec 32 := Scalar.remui arg33_r0 c2_i32_265_r0
  let v567_r0 : Index := Scalar.indexCast v316_r0
  let c0_415_r0 : Index := 0#32
  let c0_416_r0 : Index := 0#32
  ![v567_r0.toNat, 0, 0]

def k0_chk9 (arg33_r0 : BitVec 32) : Prop :=
  (∀ a, (k0_off79 arg33_r0) a + S1x1024x1024.size a ≤ S2x1024x1024.size a)
theorem k0_off79_inb : ∀ (arg33_r0 : BitVec 32) (k0_hw9 : k0_chk9 arg33_r0), ∀ a, (k0_off79 arg33_r0) a + S1x1024x1024.size a ≤ S2x1024x1024.size a := fun arg33_r0 k0_hw9 => k0_hw9

def k0_off80 (arg33_r0 : BitVec 32) : Fin 1 → Nat :=
  let c2_i32_480_r0 : BitVec 32 := 2#32
  let v710_r0 : BitVec 32 := Scalar.remui arg33_r0 c2_i32_480_r0
  ![v710_r0.toNat]
def k0_cond30 (k0_t1 : Fin k0_t1_loop.trips) (arg35_r0 : BitVec 32) : BitVec 1 :=
  let c0_i32_178_r0 : BitVec 32 := 0#32
  let v166_r0 : BitVec 32 := Scalar.addi arg35_r0 c0_i32_178_r0
  let true_185_r0 : BitVec 1 := 1#1
  let c1_i32_184_r0 : BitVec 32 := 1#32
  let v172_r0 : BitVec 32 := Scalar.addi arg35_r0 c1_i32_184_r0
  let v173_r0 : BitVec 32 := Scalar.select true_185_r0 v172_r0 arg35_r0
  let c16_i32_186_r0 : BitVec 32 := 16#32
  let v174_r0 : BitVec 1 := Scalar.cmpi .eq v173_r0 c16_i32_186_r0
  let c0_i32_187_r0 : BitVec 32 := 0#32
  let v175_r0 : BitVec 32 := Scalar.select v174_r0 c0_i32_187_r0 v173_r0
  let c0_i32_188_r0 : BitVec 32 := 0#32
  let v176_r0 : BitVec 32 := Scalar.addi v175_r0 c0_i32_188_r0
  let v606_r0 : BitVec 1 := Scalar.cmpi .ne v166_r0 v176_r0
  let c0_i32_143_r0 : BitVec 32 := 0#32
  let c1_i32_145_r0 : BitVec 32 := 1#32
  let arg13_r0 : BitVec 32 := Scf.iv c0_i32_143_r0 c1_i32_145_r0 k0_t1
  let c15_i32_177_r0 : BitVec 32 := 15#32
  let v165_r0 : BitVec 1 := Scalar.cmpi .eq arg13_r0 c15_i32_177_r0
  let v607_r0 : BitVec 1 := Scalar.ori v606_r0 v165_r0
  let v608_r0 : BitVec 32 := Scalar.extui v607_r0
  let c0_i32_431_r0 : BitVec 32 := 0#32
  let v609_r0 : BitVec 1 := Scalar.cmpi .ne v608_r0 c0_i32_431_r0
  v609_r0

def k0_off81 (arg35_r0 : BitVec 32) : Fin 2 → Nat :=
  let c1024_i32_481_r0 : BitVec 32 := 1024#32
  let c0_i32_178_r0 : BitVec 32 := 0#32
  let v166_r0 : BitVec 32 := Scalar.addi arg35_r0 c0_i32_178_r0
  let v711_r0 : BitVec 32 := Scalar.muli c1024_i32_481_r0 v166_r0
  let c0_i32_482_r0 : BitVec 32 := 0#32
  ![v711_r0.toNat, 0]
def k0_off82 (arg33_r0 : BitVec 32) : Fin 3 → Nat :=
  let c2_i32_480_r0 : BitVec 32 := 2#32
  let v710_r0 : BitVec 32 := Scalar.remui arg33_r0 c2_i32_480_r0
  let c0_i32_483_r0 : BitVec 32 := 0#32
  let c0_i32_484_r0 : BitVec 32 := 0#32
  ![v710_r0.toNat, 0, 0]
def k0_off83 (arg34_r0 : BitVec 32) : Fin 1 → Nat :=
  let c2_i32_480_r0 : BitVec 32 := 2#32
  let v710_r0 : BitVec 32 := Scalar.remui arg34_r0 c2_i32_480_r0
  ![v710_r0.toNat]
def k0_cond38 (k0_t1 : Fin k0_t1_loop.trips) (arg35_r0 : BitVec 32) : BitVec 1 :=
  let c0_i32_178_r0 : BitVec 32 := 0#32
  let v166_r0 : BitVec 32 := Scalar.addi arg35_r0 c0_i32_178_r0
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v655_r0 : BitVec 1 := Scalar.cmpi .ne v166_r0 v171_r0
  let c0_i32_143_r0 : BitVec 32 := 0#32
  let c1_i32_145_r0 : BitVec 32 := 1#32
  let arg13_r0 : BitVec 32 := Scf.iv c0_i32_143_r0 c1_i32_145_r0 k0_t1
  let c0_i32_176_r0 : BitVec 32 := 0#32
  let v164_r0 : BitVec 1 := Scalar.cmpi .eq arg13_r0 c0_i32_176_r0
  let true_455_r0 : BitVec 1 := 1#1
  let v656_r0 : BitVec 1 := Scalar.xori v164_r0 true_455_r0
  let v657_r0 : BitVec 1 := Scalar.andi v655_r0 v656_r0
  let v658_r0 : BitVec 32 := Scalar.extui v657_r0
  let c0_i32_456_r0 : BitVec 32 := 0#32
  let v659_r0 : BitVec 1 := Scalar.cmpi .ne v658_r0 c0_i32_456_r0
  v659_r0

def k0_off84 (arg35_r0 : BitVec 32) : Fin 2 → Nat :=
  let c1024_i32_481_r0 : BitVec 32 := 1024#32
  let true_180_r0 : BitVec 1 := 1#1
  let c1_i32_179_r0 : BitVec 32 := 1#32
  let v167_r0 : BitVec 32 := Scalar.subi arg35_r0 c1_i32_179_r0
  let v168_r0 : BitVec 32 := Scalar.select true_180_r0 v167_r0 arg35_r0
  let c_m1_i32_181_r0 : BitVec 32 := 4294967295#32
  let v169_r0 : BitVec 1 := Scalar.cmpi .eq v168_r0 c_m1_i32_181_r0
  let c15_i32_182_r0 : BitVec 32 := 15#32
  let v170_r0 : BitVec 32 := Scalar.select v169_r0 c15_i32_182_r0 v168_r0
  let c0_i32_183_r0 : BitVec 32 := 0#32
  let v171_r0 : BitVec 32 := Scalar.addi v170_r0 c0_i32_183_r0
  let v711_r0 : BitVec 32 := Scalar.muli c1024_i32_481_r0 v171_r0
  let c0_i32_482_r0 : BitVec 32 := 0#32
  ![v711_r0.toNat, 0]
def k0_off85 (arg34_r0 : BitVec 32) : Fin 3 → Nat :=
  let c2_i32_480_r0 : BitVec 32 := 2#32
  let v710_r0 : BitVec 32 := Scalar.remui arg34_r0 c2_i32_480_r0
  let c0_i32_483_r0 : BitVec 32 := 0#32
  let c0_i32_484_r0 : BitVec 32 := 0#32
  ![v710_r0.toNat, 0, 0]

def k0_chk1_0 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) : Prop :=
  (∀ (k0_h8 : k0_cond8 k0_t1 arg35_r0 = 1#1), ∀ a, (k0_off30 arg14_r0) a + S1.size a ≤ S3.size a) ∧
  (∀ (k0_h8 : k0_cond8 k0_t1 arg35_r0 = 1#1), ∀ a, (k0_off31 arg14_r0) a + S1x1024x256.size a ≤ S3x1024x256.size a) ∧
  (∀ (k0_h8 : k0_cond8 k0_t1 arg35_r0 = 1#1), ∀ a, (k0_off32 arg35_r0) a + S1024x256.size a ≤ S16384x256.size a) ∧
  (∀ (k0_h8 : k0_cond8 k0_t1 arg35_r0 = 1#1), ∀ (hinb : ∀ a, (k0_off32 arg35_r0) a + S1024x256.size a ≤ S16384x256.size a), (Rect.unit (s := S16384x256) (k0_off32 arg35_r0) S1024x256.size hinb).WholeWords (EltTy.packing .bf16)) ∧
  (∀ (k0_h8 : k0_cond8 k0_t1 arg35_r0 = 1#1), ∀ (hinb : ∀ a, (k0_off31 arg14_r0) a + S1x1024x256.size a ≤ S3x1024x256.size a), (Rect.unit (s := S3x1024x256) (k0_off31 arg14_r0) S1x1024x256.size hinb).WholeWords (EltTy.packing .bf16)) ∧
  (∀ (k0_h9 : k0_cond9 k0_t1 arg35_r0 = 1#1), ∀ a, (k0_off33 arg16_r0) a + S1.size a ≤ S3.size a) ∧
  (∀ (k0_h9 : k0_cond9 k0_t1 arg35_r0 = 1#1), ∀ a, (k0_off34 arg16_r0) a + S1x1024x512.size a ≤ S3x1024x512.size a) ∧
  (∀ (k0_h9 : k0_cond9 k0_t1 arg35_r0 = 1#1), ∀ a, (k0_off35 arg35_r0) a + S1024x512.size a ≤ S16384x512.size a) ∧
  (∀ (k0_h9 : k0_cond9 k0_t1 arg35_r0 = 1#1), ∀ (hinb : ∀ a, (k0_off35 arg35_r0) a + S1024x512.size a ≤ S16384x512.size a), (Rect.unit (s := S16384x512) (k0_off35 arg35_r0) S1024x512.size hinb).WholeWords (EltTy.packing .bf16)) ∧
  (∀ (k0_h9 : k0_cond9 k0_t1 arg35_r0 = 1#1), ∀ (hinb : ∀ a, (k0_off34 arg16_r0) a + S1x1024x512.size a ≤ S3x1024x512.size a), (Rect.unit (s := S3x1024x512) (k0_off34 arg16_r0) S1x1024x512.size hinb).WholeWords (EltTy.packing .bf16)) ∧
  (∀ (k0_h10 : k0_cond10 k0_t1 arg35_r0 = 1#1), ∀ a, (k0_off36 arg18_r0) a + S1.size a ≤ S3.size a) ∧
  (∀ (k0_h10 : k0_cond10 k0_t1 arg35_r0 = 1#1), ∀ a, (k0_off37 arg18_r0) a + S1x1024x512.size a ≤ S3x1024x512.size a) ∧
  (∀ (k0_h10 : k0_cond10 k0_t1 arg35_r0 = 1#1), ∀ a, (k0_off38 arg35_r0) a + S1024x512.size a ≤ S16384x512.size a) ∧
  (∀ (k0_h10 : k0_cond10 k0_t1 arg35_r0 = 1#1), ∀ (hinb : ∀ a, (k0_off38 arg35_r0) a + S1024x512.size a ≤ S16384x512.size a), (Rect.unit (s := S16384x512) (k0_off38 arg35_r0) S1024x512.size hinb).WholeWords (EltTy.packing .bf16)) ∧
  (∀ (k0_h10 : k0_cond10 k0_t1 arg35_r0 = 1#1), ∀ (hinb : ∀ a, (k0_off37 arg18_r0) a + S1x1024x512.size a ≤ S3x1024x512.size a), (Rect.unit (s := S3x1024x512) (k0_off37 arg18_r0) S1x1024x512.size hinb).WholeWords (EltTy.packing .bf16)) ∧
  (∀ (k0_h11 : k0_cond11 k0_t1 arg35_r0 = 1#1), ∀ a, (k0_off39 arg20_r0) a + S1.size a ≤ S3.size a) ∧
  (∀ (k0_h11 : k0_cond11 k0_t1 arg35_r0 = 1#1), ∀ a, (k0_off40 arg20_r0).2 a = 0 ∨ (k0_off40 arg20_r0).1 a + (k0_off40 arg20_r0).2 a ≤ S3x1024x1024.size a) ∧
  (∀ (k0_h11 : k0_cond11 k0_t1 arg35_r0 = 1#1), (⟨3, (k0_off40 arg20_r0).2⟩ : Shape).Squeezes ⟨2, k0_sz5⟩) ∧
  (∀ (k0_h11 : k0_cond11 k0_t1 arg35_r0 = 1#1), ∀ a, (k0_off41 arg35_r0).2 a = 0 ∨ (k0_off41 arg35_r0).1 a + (k0_off41 arg35_r0).2 a ≤ S16384x4608.size a) ∧
  (∀ (k0_h11 : k0_cond11 k0_t1 arg35_r0 = 1#1), ∀ (hinb : ∀ a, (k0_off41 arg35_r0).2 a = 0 ∨ (k0_off41 arg35_r0).1 a + (k0_off41 arg35_r0).2 a ≤ S16384x4608.size a), (Rect.unitDyn (s := S16384x4608) (k0_off41 arg35_r0).1 (k0_off41 arg35_r0).2 hinb).WholeWords (EltTy.packing .bf16)) ∧
  (∀ (k0_h11 : k0_cond11 k0_t1 arg35_r0 = 1#1), ∀ (hinb : ∀ a, (k0_off40 arg20_r0).2 a = 0 ∨ (k0_off40 arg20_r0).1 a + (k0_off40 arg20_r0).2 a ≤ S3x1024x1024.size a), (Rect.unitDyn (s := S3x1024x1024) (k0_off40 arg20_r0).1 (k0_off40 arg20_r0).2 hinb).WholeWords (EltTy.packing .bf16)) ∧
  (∀ (k0_h12 : k0_cond12 k0_t1 arg35_r0 = 1#1), ∀ a, (k0_off42 arg22_r0) a + S1.size a ≤ S3.size a) ∧
  (∀ (k0_h12 : k0_cond12 k0_t1 arg35_r0 = 1#1), ∀ a, (k0_off43 arg22_r0).2 a = 0 ∨ (k0_off43 arg22_r0).1 a + (k0_off43 arg22_r0).2 a ≤ S3x1024x1024.size a) ∧
  (∀ (k0_h12 : k0_cond12 k0_t1 arg35_r0 = 1#1), (⟨3, (k0_off43 arg22_r0).2⟩ : Shape).Squeezes ⟨2, k0_sz6⟩) ∧
  (∀ (k0_h12 : k0_cond12 k0_t1 arg35_r0 = 1#1), ∀ a, (k0_off44 arg35_r0).2 a = 0 ∨ (k0_off44 arg35_r0).1 a + (k0_off44 arg35_r0).2 a ≤ S16384x4608.size a) ∧
  (∀ (k0_h12 : k0_cond12 k0_t1 arg35_r0 = 1#1), ∀ (hinb : ∀ a, (k0_off44 arg35_r0).2 a = 0 ∨ (k0_off44 arg35_r0).1 a + (k0_off44 arg35_r0).2 a ≤ S16384x4608.size a), (Rect.unitDyn (s := S16384x4608) (k0_off44 arg35_r0).1 (k0_off44 arg35_r0).2 hinb).WholeWords (EltTy.packing .bf16)) ∧
  (∀ (k0_h12 : k0_cond12 k0_t1 arg35_r0 = 1#1), ∀ (hinb : ∀ a, (k0_off43 arg22_r0).2 a = 0 ∨ (k0_off43 arg22_r0).1 a + (k0_off43 arg22_r0).2 a ≤ S3x1024x1024.size a), (Rect.unitDyn (s := S3x1024x1024) (k0_off43 arg22_r0).1 (k0_off43 arg22_r0).2 hinb).WholeWords (EltTy.packing .bf16)) ∧
  (∀ (k0_h13 : k0_cond13 k0_t1 arg35_r0 = 1#1), ∀ a, (k0_off45 arg24_r0) a + S1.size a ≤ S3.size a) ∧
  (∀ (k0_h13 : k0_cond13 k0_t1 arg35_r0 = 1#1), ∀ a, (k0_off46 arg24_r0).2 a = 0 ∨ (k0_off46 arg24_r0).1 a + (k0_off46 arg24_r0).2 a ≤ S3x1024x1024.size a) ∧
  (∀ (k0_h13 : k0_cond13 k0_t1 arg35_r0 = 1#1), (⟨3, (k0_off46 arg24_r0).2⟩ : Shape).Squeezes ⟨2, k0_sz7⟩) ∧
  (∀ (k0_h13 : k0_cond13 k0_t1 arg35_r0 = 1#1), ∀ a, (k0_off47 arg35_r0).2 a = 0 ∨ (k0_off47 arg35_r0).1 a + (k0_off47 arg35_r0).2 a ≤ S16384x4608.size a) ∧
  (∀ (k0_h13 : k0_cond13 k0_t1 arg35_r0 = 1#1), ∀ (hinb : ∀ a, (k0_off47 arg35_r0).2 a = 0 ∨ (k0_off47 arg35_r0).1 a + (k0_off47 arg35_r0).2 a ≤ S16384x4608.size a), (Rect.unitDyn (s := S16384x4608) (k0_off47 arg35_r0).1 (k0_off47 arg35_r0).2 hinb).WholeWords (EltTy.packing .bf16))
def k0_chk1_1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) : Prop :=
  (∀ (k0_h13 : k0_cond13 k0_t1 arg35_r0 = 1#1), ∀ (hinb : ∀ a, (k0_off46 arg24_r0).2 a = 0 ∨ (k0_off46 arg24_r0).1 a + (k0_off46 arg24_r0).2 a ≤ S3x1024x1024.size a), (Rect.unitDyn (s := S3x1024x1024) (k0_off46 arg24_r0).1 (k0_off46 arg24_r0).2 hinb).WholeWords (EltTy.packing .bf16)) ∧
  (∀ (k0_h14 : k0_cond14 k0_t1 arg35_r0 = 1#1), ∀ a, (k0_off48 arg26_r0) a + S1.size a ≤ S3.size a) ∧
  (∀ (k0_h14 : k0_cond14 k0_t1 arg35_r0 = 1#1), ∀ a, (k0_off49 arg26_r0) a + S1x1024x1024.size a ≤ S3x1024x1024.size a) ∧
  (∀ (k0_h14 : k0_cond14 k0_t1 arg35_r0 = 1#1), ∀ a, (k0_off50 arg35_r0) a + S1024x1024.size a ≤ S16384x1024.size a) ∧
  (∀ (k0_h15 : k0_cond15 k0_t1 arg35_r0 = 1#1), ∀ a, (k0_off51 arg15_r0) a + S1.size a ≤ S3.size a) ∧
  (∀ (k0_h15 : k0_cond15 k0_t1 arg35_r0 = 1#1), ∀ a, (k0_off52 arg15_r0) a + S1x1024x256.size a ≤ S3x1024x256.size a) ∧
  (∀ (k0_h15 : k0_cond15 k0_t1 arg35_r0 = 1#1), ∀ a, (k0_off53 arg35_r0) a + S1024x256.size a ≤ S16384x256.size a) ∧
  (∀ (k0_h15 : k0_cond15 k0_t1 arg35_r0 = 1#1), ∀ (hinb : ∀ a, (k0_off53 arg35_r0) a + S1024x256.size a ≤ S16384x256.size a), (Rect.unit (s := S16384x256) (k0_off53 arg35_r0) S1024x256.size hinb).WholeWords (EltTy.packing .bf16)) ∧
  (∀ (k0_h15 : k0_cond15 k0_t1 arg35_r0 = 1#1), ∀ (hinb : ∀ a, (k0_off52 arg15_r0) a + S1x1024x256.size a ≤ S3x1024x256.size a), (Rect.unit (s := S3x1024x256) (k0_off52 arg15_r0) S1x1024x256.size hinb).WholeWords (EltTy.packing .bf16)) ∧
  (∀ (k0_h16 : k0_cond16 k0_t1 arg35_r0 = 1#1), ∀ a, (k0_off54 arg17_r0) a + S1.size a ≤ S3.size a) ∧
  (∀ (k0_h16 : k0_cond16 k0_t1 arg35_r0 = 1#1), ∀ a, (k0_off55 arg17_r0) a + S1x1024x512.size a ≤ S3x1024x512.size a) ∧
  (∀ (k0_h16 : k0_cond16 k0_t1 arg35_r0 = 1#1), ∀ a, (k0_off56 arg35_r0) a + S1024x512.size a ≤ S16384x512.size a) ∧
  (∀ (k0_h16 : k0_cond16 k0_t1 arg35_r0 = 1#1), ∀ (hinb : ∀ a, (k0_off56 arg35_r0) a + S1024x512.size a ≤ S16384x512.size a), (Rect.unit (s := S16384x512) (k0_off56 arg35_r0) S1024x512.size hinb).WholeWords (EltTy.packing .bf16)) ∧
  (∀ (k0_h16 : k0_cond16 k0_t1 arg35_r0 = 1#1), ∀ (hinb : ∀ a, (k0_off55 arg17_r0) a + S1x1024x512.size a ≤ S3x1024x512.size a), (Rect.unit (s := S3x1024x512) (k0_off55 arg17_r0) S1x1024x512.size hinb).WholeWords (EltTy.packing .bf16)) ∧
  (∀ (k0_h17 : k0_cond17 k0_t1 arg35_r0 = 1#1), ∀ a, (k0_off57 arg19_r0) a + S1.size a ≤ S3.size a) ∧
  (∀ (k0_h17 : k0_cond17 k0_t1 arg35_r0 = 1#1), ∀ a, (k0_off58 arg19_r0) a + S1x1024x512.size a ≤ S3x1024x512.size a) ∧
  (∀ (k0_h17 : k0_cond17 k0_t1 arg35_r0 = 1#1), ∀ a, (k0_off59 arg35_r0) a + S1024x512.size a ≤ S16384x512.size a) ∧
  (∀ (k0_h17 : k0_cond17 k0_t1 arg35_r0 = 1#1), ∀ (hinb : ∀ a, (k0_off59 arg35_r0) a + S1024x512.size a ≤ S16384x512.size a), (Rect.unit (s := S16384x512) (k0_off59 arg35_r0) S1024x512.size hinb).WholeWords (EltTy.packing .bf16)) ∧
  (∀ (k0_h17 : k0_cond17 k0_t1 arg35_r0 = 1#1), ∀ (hinb : ∀ a, (k0_off58 arg19_r0) a + S1x1024x512.size a ≤ S3x1024x512.size a), (Rect.unit (s := S3x1024x512) (k0_off58 arg19_r0) S1x1024x512.size hinb).WholeWords (EltTy.packing .bf16)) ∧
  (∀ (k0_h18 : k0_cond18 k0_t1 arg35_r0 = 1#1), ∀ a, (k0_off60 arg21_r0) a + S1.size a ≤ S3.size a) ∧
  (∀ (k0_h18 : k0_cond18 k0_t1 arg35_r0 = 1#1), (⟨3, (k0_off61 arg21_r0).2⟩ : Shape).Squeezes ⟨2, k0_sz8⟩) ∧
  (∀ (k0_h19 : k0_cond19 k0_t1 arg35_r0 = 1#1), ∀ a, (k0_off63 arg23_r0) a + S1.size a ≤ S3.size a) ∧
  (∀ (k0_h19 : k0_cond19 k0_t1 arg35_r0 = 1#1), (⟨3, (k0_off64 arg23_r0).2⟩ : Shape).Squeezes ⟨2, k0_sz9⟩) ∧
  (∀ (k0_h20 : k0_cond20 k0_t1 arg35_r0 = 1#1), ∀ a, (k0_off66 arg25_r0) a + S1.size a ≤ S3.size a) ∧
  (∀ (k0_h20 : k0_cond20 k0_t1 arg35_r0 = 1#1), (⟨3, (k0_off67 arg25_r0).2⟩ : Shape).Squeezes ⟨2, k0_sz10⟩) ∧
  (∀ (k0_h21 : k0_cond21 k0_t1 arg35_r0 = 1#1), ∀ a, (k0_off69 arg27_r0) a + S1.size a ≤ S3.size a) ∧
  (∀ (k0_h21 : k0_cond21 k0_t1 arg35_r0 = 1#1), ∀ a, (k0_off70 arg27_r0) a + S1x1024x1024.size a ≤ S3x1024x1024.size a) ∧
  (∀ (k0_h21 : k0_cond21 k0_t1 arg35_r0 = 1#1), ∀ a, (k0_off71 arg35_r0) a + S1024x1024.size a ≤ S16384x1024.size a) ∧
  (∀ (k0_h30 : k0_cond30 k0_t1 arg35_r0 = 1#1), ∀ a, (k0_off80 arg33_r0) a + S1.size a ≤ S2.size a) ∧
  (∀ (k0_h30 : k0_cond30 k0_t1 arg35_r0 = 1#1), ∀ a, (k0_off81 arg35_r0) a + S1024x1024.size a ≤ S16384x1024.size a) ∧
  (∀ (k0_h30 : k0_cond30 k0_t1 arg35_r0 = 1#1), ∀ a, (k0_off82 arg33_r0) a + S1x1024x1024.size a ≤ S2x1024x1024.size a) ∧
  (∀ (k0_h38 : k0_cond38 k0_t1 arg35_r0 = 1#1), ∀ a, (k0_off83 arg34_r0) a + S1.size a ≤ S2.size a)
def k0_chk1_2 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) : Prop :=
  (∀ (k0_h38 : k0_cond38 k0_t1 arg35_r0 = 1#1), ∀ a, (k0_off84 arg35_r0) a + S1024x1024.size a ≤ S16384x1024.size a) ∧
  (∀ (k0_h38 : k0_cond38 k0_t1 arg35_r0 = 1#1), ∀ a, (k0_off85 arg34_r0) a + S1x1024x1024.size a ≤ S2x1024x1024.size a)
def k0_chk1 (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) : Prop :=
  k0_chk1_0 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 ∧
  k0_chk1_1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 ∧
  k0_chk1_2 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0
theorem k0_off30_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h8 : k0_cond8 k0_t1 arg35_r0 = 1#1), ∀ a, (k0_off30 arg14_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8 => k0_hw1.1.1 k0_h8
theorem k0_off31_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h8 : k0_cond8 k0_t1 arg35_r0 = 1#1), ∀ a, (k0_off31 arg14_r0) a + S1x1024x256.size a ≤ S3x1024x256.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8 => k0_hw1.1.2.1 k0_h8
theorem k0_off32_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h8 : k0_cond8 k0_t1 arg35_r0 = 1#1), ∀ a, (k0_off32 arg35_r0) a + S1024x256.size a ≤ S16384x256.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8 => k0_hw1.1.2.2.1 k0_h8
theorem k0_off32_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h8 : k0_cond8 k0_t1 arg35_r0 = 1#1), (Rect.unit (s := S16384x256) (k0_off32 arg35_r0) S1024x256.size (k0_off32_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8 => k0_hw1.1.2.2.2.1 k0_h8 (k0_off32_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8)
theorem k0_off31_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h8 : k0_cond8 k0_t1 arg35_r0 = 1#1), (Rect.unit (s := S3x1024x256) (k0_off31 arg14_r0) S1x1024x256.size (k0_off31_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8 => k0_hw1.1.2.2.2.2.1 k0_h8 (k0_off31_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h8)
theorem k0_off33_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h9 : k0_cond9 k0_t1 arg35_r0 = 1#1), ∀ a, (k0_off33 arg16_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9 => k0_hw1.1.2.2.2.2.2.1 k0_h9
theorem k0_off34_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h9 : k0_cond9 k0_t1 arg35_r0 = 1#1), ∀ a, (k0_off34 arg16_r0) a + S1x1024x512.size a ≤ S3x1024x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9 => k0_hw1.1.2.2.2.2.2.2.1 k0_h9
theorem k0_off35_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h9 : k0_cond9 k0_t1 arg35_r0 = 1#1), ∀ a, (k0_off35 arg35_r0) a + S1024x512.size a ≤ S16384x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9 => k0_hw1.1.2.2.2.2.2.2.2.1 k0_h9
theorem k0_off35_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h9 : k0_cond9 k0_t1 arg35_r0 = 1#1), (Rect.unit (s := S16384x512) (k0_off35 arg35_r0) S1024x512.size (k0_off35_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9 => k0_hw1.1.2.2.2.2.2.2.2.2.1 k0_h9 (k0_off35_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9)
theorem k0_off34_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h9 : k0_cond9 k0_t1 arg35_r0 = 1#1), (Rect.unit (s := S3x1024x512) (k0_off34 arg16_r0) S1x1024x512.size (k0_off34_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9 => k0_hw1.1.2.2.2.2.2.2.2.2.2.1 k0_h9 (k0_off34_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h9)
theorem k0_off36_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h10 : k0_cond10 k0_t1 arg35_r0 = 1#1), ∀ a, (k0_off36 arg18_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10 => k0_hw1.1.2.2.2.2.2.2.2.2.2.2.1 k0_h10
theorem k0_off37_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h10 : k0_cond10 k0_t1 arg35_r0 = 1#1), ∀ a, (k0_off37 arg18_r0) a + S1x1024x512.size a ≤ S3x1024x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10 => k0_hw1.1.2.2.2.2.2.2.2.2.2.2.2.1 k0_h10
theorem k0_off38_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h10 : k0_cond10 k0_t1 arg35_r0 = 1#1), ∀ a, (k0_off38 arg35_r0) a + S1024x512.size a ≤ S16384x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10 => k0_hw1.1.2.2.2.2.2.2.2.2.2.2.2.2.1 k0_h10
theorem k0_off38_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h10 : k0_cond10 k0_t1 arg35_r0 = 1#1), (Rect.unit (s := S16384x512) (k0_off38 arg35_r0) S1024x512.size (k0_off38_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10 => k0_hw1.1.2.2.2.2.2.2.2.2.2.2.2.2.2.1 k0_h10 (k0_off38_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10)
theorem k0_off37_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h10 : k0_cond10 k0_t1 arg35_r0 = 1#1), (Rect.unit (s := S3x1024x512) (k0_off37 arg18_r0) S1x1024x512.size (k0_off37_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10 => k0_hw1.1.2.2.2.2.2.2.2.2.2.2.2.2.2.2.1 k0_h10 (k0_off37_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h10)
theorem k0_off39_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h11 : k0_cond11 k0_t1 arg35_r0 = 1#1), ∀ a, (k0_off39 arg20_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11 => k0_hw1.1.2.2.2.2.2.2.2.2.2.2.2.2.2.2.2.1 k0_h11
theorem k0_off40_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h11 : k0_cond11 k0_t1 arg35_r0 = 1#1), ∀ a, (k0_off40 arg20_r0).2 a = 0 ∨ (k0_off40 arg20_r0).1 a + (k0_off40 arg20_r0).2 a ≤ S3x1024x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11 => k0_hw1.1.2.2.2.2.2.2.2.2.2.2.2.2.2.2.2.2.1 k0_h11
theorem k0_sz5_squeezes : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h11 : k0_cond11 k0_t1 arg35_r0 = 1#1), (⟨3, (k0_off40 arg20_r0).2⟩ : Shape).Squeezes ⟨2, k0_sz5⟩ := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11 => k0_hw1.1.2.2.2.2.2.2.2.2.2.2.2.2.2.2.2.2.2.1 k0_h11
theorem k0_off41_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h11 : k0_cond11 k0_t1 arg35_r0 = 1#1), ∀ a, (k0_off41 arg35_r0).2 a = 0 ∨ (k0_off41 arg35_r0).1 a + (k0_off41 arg35_r0).2 a ≤ S16384x4608.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11 => k0_hw1.1.2.2.2.2.2.2.2.2.2.2.2.2.2.2.2.2.2.2.1 k0_h11
theorem k0_off41_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h11 : k0_cond11 k0_t1 arg35_r0 = 1#1), (Rect.unitDyn (s := S16384x4608) (k0_off41 arg35_r0).1 (k0_off41 arg35_r0).2 (k0_off41_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11 => k0_hw1.1.2.2.2.2.2.2.2.2.2.2.2.2.2.2.2.2.2.2.2.1 k0_h11 (k0_off41_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11)
theorem k0_off40_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h11 : k0_cond11 k0_t1 arg35_r0 = 1#1), (Rect.unitDyn (s := S3x1024x1024) (k0_off40 arg20_r0).1 (k0_off40 arg20_r0).2 (k0_off40_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11 => k0_hw1.1.2.2.2.2.2.2.2.2.2.2.2.2.2.2.2.2.2.2.2.2.1 k0_h11 (k0_off40_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h11)
theorem k0_off42_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h12 : k0_cond12 k0_t1 arg35_r0 = 1#1), ∀ a, (k0_off42 arg22_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12 => k0_hw1.1.2.2.2.2.2.2.2.2.2.2.2.2.2.2.2.2.2.2.2.2.2.1 k0_h12
theorem k0_off43_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h12 : k0_cond12 k0_t1 arg35_r0 = 1#1), ∀ a, (k0_off43 arg22_r0).2 a = 0 ∨ (k0_off43 arg22_r0).1 a + (k0_off43 arg22_r0).2 a ≤ S3x1024x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12 => k0_hw1.1.2.2.2.2.2.2.2.2.2.2.2.2.2.2.2.2.2.2.2.2.2.2.1 k0_h12
theorem k0_sz6_squeezes : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h12 : k0_cond12 k0_t1 arg35_r0 = 1#1), (⟨3, (k0_off43 arg22_r0).2⟩ : Shape).Squeezes ⟨2, k0_sz6⟩ := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12 => k0_hw1.1.2.2.2.2.2.2.2.2.2.2.2.2.2.2.2.2.2.2.2.2.2.2.2.1 k0_h12
theorem k0_off44_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h12 : k0_cond12 k0_t1 arg35_r0 = 1#1), ∀ a, (k0_off44 arg35_r0).2 a = 0 ∨ (k0_off44 arg35_r0).1 a + (k0_off44 arg35_r0).2 a ≤ S16384x4608.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12 => k0_hw1.1.2.2.2.2.2.2.2.2.2.2.2.2.2.2.2.2.2.2.2.2.2.2.2.2.1 k0_h12
theorem k0_off44_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h12 : k0_cond12 k0_t1 arg35_r0 = 1#1), (Rect.unitDyn (s := S16384x4608) (k0_off44 arg35_r0).1 (k0_off44 arg35_r0).2 (k0_off44_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12 => k0_hw1.1.2.2.2.2.2.2.2.2.2.2.2.2.2.2.2.2.2.2.2.2.2.2.2.2.2.1 k0_h12 (k0_off44_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12)
theorem k0_off43_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h12 : k0_cond12 k0_t1 arg35_r0 = 1#1), (Rect.unitDyn (s := S3x1024x1024) (k0_off43 arg22_r0).1 (k0_off43 arg22_r0).2 (k0_off43_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12 => k0_hw1.1.2.2.2.2.2.2.2.2.2.2.2.2.2.2.2.2.2.2.2.2.2.2.2.2.2.2.1 k0_h12 (k0_off43_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h12)
theorem k0_off45_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h13 : k0_cond13 k0_t1 arg35_r0 = 1#1), ∀ a, (k0_off45 arg24_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13 => k0_hw1.1.2.2.2.2.2.2.2.2.2.2.2.2.2.2.2.2.2.2.2.2.2.2.2.2.2.2.2.1 k0_h13
theorem k0_off46_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h13 : k0_cond13 k0_t1 arg35_r0 = 1#1), ∀ a, (k0_off46 arg24_r0).2 a = 0 ∨ (k0_off46 arg24_r0).1 a + (k0_off46 arg24_r0).2 a ≤ S3x1024x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13 => k0_hw1.1.2.2.2.2.2.2.2.2.2.2.2.2.2.2.2.2.2.2.2.2.2.2.2.2.2.2.2.2.1 k0_h13
theorem k0_sz7_squeezes : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h13 : k0_cond13 k0_t1 arg35_r0 = 1#1), (⟨3, (k0_off46 arg24_r0).2⟩ : Shape).Squeezes ⟨2, k0_sz7⟩ := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13 => k0_hw1.1.2.2.2.2.2.2.2.2.2.2.2.2.2.2.2.2.2.2.2.2.2.2.2.2.2.2.2.2.2.1 k0_h13
theorem k0_off47_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h13 : k0_cond13 k0_t1 arg35_r0 = 1#1), ∀ a, (k0_off47 arg35_r0).2 a = 0 ∨ (k0_off47 arg35_r0).1 a + (k0_off47 arg35_r0).2 a ≤ S16384x4608.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13 => k0_hw1.1.2.2.2.2.2.2.2.2.2.2.2.2.2.2.2.2.2.2.2.2.2.2.2.2.2.2.2.2.2.2.1 k0_h13
theorem k0_off47_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h13 : k0_cond13 k0_t1 arg35_r0 = 1#1), (Rect.unitDyn (s := S16384x4608) (k0_off47 arg35_r0).1 (k0_off47 arg35_r0).2 (k0_off47_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13 => k0_hw1.1.2.2.2.2.2.2.2.2.2.2.2.2.2.2.2.2.2.2.2.2.2.2.2.2.2.2.2.2.2.2.2 k0_h13 (k0_off47_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13)
theorem k0_off46_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h13 : k0_cond13 k0_t1 arg35_r0 = 1#1), (Rect.unitDyn (s := S3x1024x1024) (k0_off46 arg24_r0).1 (k0_off46 arg24_r0).2 (k0_off46_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13 => k0_hw1.2.1.1 k0_h13 (k0_off46_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h13)
theorem k0_off48_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h14 : k0_cond14 k0_t1 arg35_r0 = 1#1), ∀ a, (k0_off48 arg26_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h14 => k0_hw1.2.1.2.1 k0_h14
theorem k0_off49_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h14 : k0_cond14 k0_t1 arg35_r0 = 1#1), ∀ a, (k0_off49 arg26_r0) a + S1x1024x1024.size a ≤ S3x1024x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h14 => k0_hw1.2.1.2.2.1 k0_h14
theorem k0_off50_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h14 : k0_cond14 k0_t1 arg35_r0 = 1#1), ∀ a, (k0_off50 arg35_r0) a + S1024x1024.size a ≤ S16384x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h14 => k0_hw1.2.1.2.2.2.1 k0_h14
theorem k0_off51_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h15 : k0_cond15 k0_t1 arg35_r0 = 1#1), ∀ a, (k0_off51 arg15_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15 => k0_hw1.2.1.2.2.2.2.1 k0_h15
theorem k0_off52_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h15 : k0_cond15 k0_t1 arg35_r0 = 1#1), ∀ a, (k0_off52 arg15_r0) a + S1x1024x256.size a ≤ S3x1024x256.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15 => k0_hw1.2.1.2.2.2.2.2.1 k0_h15
theorem k0_off53_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h15 : k0_cond15 k0_t1 arg35_r0 = 1#1), ∀ a, (k0_off53 arg35_r0) a + S1024x256.size a ≤ S16384x256.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15 => k0_hw1.2.1.2.2.2.2.2.2.1 k0_h15
theorem k0_off53_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h15 : k0_cond15 k0_t1 arg35_r0 = 1#1), (Rect.unit (s := S16384x256) (k0_off53 arg35_r0) S1024x256.size (k0_off53_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15 => k0_hw1.2.1.2.2.2.2.2.2.2.1 k0_h15 (k0_off53_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15)
theorem k0_off52_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h15 : k0_cond15 k0_t1 arg35_r0 = 1#1), (Rect.unit (s := S3x1024x256) (k0_off52 arg15_r0) S1x1024x256.size (k0_off52_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15 => k0_hw1.2.1.2.2.2.2.2.2.2.2.1 k0_h15 (k0_off52_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h15)
theorem k0_off54_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h16 : k0_cond16 k0_t1 arg35_r0 = 1#1), ∀ a, (k0_off54 arg17_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16 => k0_hw1.2.1.2.2.2.2.2.2.2.2.2.1 k0_h16
theorem k0_off55_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h16 : k0_cond16 k0_t1 arg35_r0 = 1#1), ∀ a, (k0_off55 arg17_r0) a + S1x1024x512.size a ≤ S3x1024x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16 => k0_hw1.2.1.2.2.2.2.2.2.2.2.2.2.1 k0_h16
theorem k0_off56_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h16 : k0_cond16 k0_t1 arg35_r0 = 1#1), ∀ a, (k0_off56 arg35_r0) a + S1024x512.size a ≤ S16384x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16 => k0_hw1.2.1.2.2.2.2.2.2.2.2.2.2.2.1 k0_h16
theorem k0_off56_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h16 : k0_cond16 k0_t1 arg35_r0 = 1#1), (Rect.unit (s := S16384x512) (k0_off56 arg35_r0) S1024x512.size (k0_off56_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16 => k0_hw1.2.1.2.2.2.2.2.2.2.2.2.2.2.2.1 k0_h16 (k0_off56_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16)
theorem k0_off55_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h16 : k0_cond16 k0_t1 arg35_r0 = 1#1), (Rect.unit (s := S3x1024x512) (k0_off55 arg17_r0) S1x1024x512.size (k0_off55_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16 => k0_hw1.2.1.2.2.2.2.2.2.2.2.2.2.2.2.2.1 k0_h16 (k0_off55_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h16)
theorem k0_off57_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h17 : k0_cond17 k0_t1 arg35_r0 = 1#1), ∀ a, (k0_off57 arg19_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17 => k0_hw1.2.1.2.2.2.2.2.2.2.2.2.2.2.2.2.2.1 k0_h17
theorem k0_off58_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h17 : k0_cond17 k0_t1 arg35_r0 = 1#1), ∀ a, (k0_off58 arg19_r0) a + S1x1024x512.size a ≤ S3x1024x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17 => k0_hw1.2.1.2.2.2.2.2.2.2.2.2.2.2.2.2.2.2.1 k0_h17
theorem k0_off59_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h17 : k0_cond17 k0_t1 arg35_r0 = 1#1), ∀ a, (k0_off59 arg35_r0) a + S1024x512.size a ≤ S16384x512.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17 => k0_hw1.2.1.2.2.2.2.2.2.2.2.2.2.2.2.2.2.2.2.1 k0_h17
theorem k0_off59_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h17 : k0_cond17 k0_t1 arg35_r0 = 1#1), (Rect.unit (s := S16384x512) (k0_off59 arg35_r0) S1024x512.size (k0_off59_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17 => k0_hw1.2.1.2.2.2.2.2.2.2.2.2.2.2.2.2.2.2.2.2.1 k0_h17 (k0_off59_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17)
theorem k0_off58_wordsbf16 : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h17 : k0_cond17 k0_t1 arg35_r0 = 1#1), (Rect.unit (s := S3x1024x512) (k0_off58 arg19_r0) S1x1024x512.size (k0_off58_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17)).WholeWords (EltTy.packing .bf16) := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17 => k0_hw1.2.1.2.2.2.2.2.2.2.2.2.2.2.2.2.2.2.2.2.2.1 k0_h17 (k0_off58_inb k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h17)
theorem k0_off60_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h18 : k0_cond18 k0_t1 arg35_r0 = 1#1), ∀ a, (k0_off60 arg21_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h18 => k0_hw1.2.1.2.2.2.2.2.2.2.2.2.2.2.2.2.2.2.2.2.2.2.1 k0_h18
theorem k0_sz8_squeezes : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h18 : k0_cond18 k0_t1 arg35_r0 = 1#1), (⟨3, (k0_off61 arg21_r0).2⟩ : Shape).Squeezes ⟨2, k0_sz8⟩ := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h18 => k0_hw1.2.1.2.2.2.2.2.2.2.2.2.2.2.2.2.2.2.2.2.2.2.2.1 k0_h18
theorem k0_off63_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h19 : k0_cond19 k0_t1 arg35_r0 = 1#1), ∀ a, (k0_off63 arg23_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h19 => k0_hw1.2.1.2.2.2.2.2.2.2.2.2.2.2.2.2.2.2.2.2.2.2.2.2.1 k0_h19
theorem k0_sz9_squeezes : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h19 : k0_cond19 k0_t1 arg35_r0 = 1#1), (⟨3, (k0_off64 arg23_r0).2⟩ : Shape).Squeezes ⟨2, k0_sz9⟩ := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h19 => k0_hw1.2.1.2.2.2.2.2.2.2.2.2.2.2.2.2.2.2.2.2.2.2.2.2.2.1 k0_h19
theorem k0_off66_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h20 : k0_cond20 k0_t1 arg35_r0 = 1#1), ∀ a, (k0_off66 arg25_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h20 => k0_hw1.2.1.2.2.2.2.2.2.2.2.2.2.2.2.2.2.2.2.2.2.2.2.2.2.2.1 k0_h20
theorem k0_sz10_squeezes : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h20 : k0_cond20 k0_t1 arg35_r0 = 1#1), (⟨3, (k0_off67 arg25_r0).2⟩ : Shape).Squeezes ⟨2, k0_sz10⟩ := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h20 => k0_hw1.2.1.2.2.2.2.2.2.2.2.2.2.2.2.2.2.2.2.2.2.2.2.2.2.2.2.1 k0_h20
theorem k0_off69_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h21 : k0_cond21 k0_t1 arg35_r0 = 1#1), ∀ a, (k0_off69 arg27_r0) a + S1.size a ≤ S3.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h21 => k0_hw1.2.1.2.2.2.2.2.2.2.2.2.2.2.2.2.2.2.2.2.2.2.2.2.2.2.2.2.1 k0_h21
theorem k0_off70_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h21 : k0_cond21 k0_t1 arg35_r0 = 1#1), ∀ a, (k0_off70 arg27_r0) a + S1x1024x1024.size a ≤ S3x1024x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h21 => k0_hw1.2.1.2.2.2.2.2.2.2.2.2.2.2.2.2.2.2.2.2.2.2.2.2.2.2.2.2.2.1 k0_h21
theorem k0_off71_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h21 : k0_cond21 k0_t1 arg35_r0 = 1#1), ∀ a, (k0_off71 arg35_r0) a + S1024x1024.size a ≤ S16384x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h21 => k0_hw1.2.1.2.2.2.2.2.2.2.2.2.2.2.2.2.2.2.2.2.2.2.2.2.2.2.2.2.2.2.1 k0_h21
theorem k0_off80_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h30 : k0_cond30 k0_t1 arg35_r0 = 1#1), ∀ a, (k0_off80 arg33_r0) a + S1.size a ≤ S2.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h30 => k0_hw1.2.1.2.2.2.2.2.2.2.2.2.2.2.2.2.2.2.2.2.2.2.2.2.2.2.2.2.2.2.2.1 k0_h30
theorem k0_off81_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h30 : k0_cond30 k0_t1 arg35_r0 = 1#1), ∀ a, (k0_off81 arg35_r0) a + S1024x1024.size a ≤ S16384x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h30 => k0_hw1.2.1.2.2.2.2.2.2.2.2.2.2.2.2.2.2.2.2.2.2.2.2.2.2.2.2.2.2.2.2.2.1 k0_h30
theorem k0_off82_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h30 : k0_cond30 k0_t1 arg35_r0 = 1#1), ∀ a, (k0_off82 arg33_r0) a + S1x1024x1024.size a ≤ S2x1024x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h30 => k0_hw1.2.1.2.2.2.2.2.2.2.2.2.2.2.2.2.2.2.2.2.2.2.2.2.2.2.2.2.2.2.2.2.2.1 k0_h30
theorem k0_off83_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h38 : k0_cond38 k0_t1 arg35_r0 = 1#1), ∀ a, (k0_off83 arg34_r0) a + S1.size a ≤ S2.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h38 => k0_hw1.2.1.2.2.2.2.2.2.2.2.2.2.2.2.2.2.2.2.2.2.2.2.2.2.2.2.2.2.2.2.2.2.2 k0_h38
theorem k0_off84_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h38 : k0_cond38 k0_t1 arg35_r0 = 1#1), ∀ a, (k0_off84 arg35_r0) a + S1024x1024.size a ≤ S16384x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h38 => k0_hw1.2.2.1 k0_h38
theorem k0_off85_inb : ∀ (k0_t1 : Fin k0_t1_loop.trips) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (arg25_r0 : BitVec 32) (arg26_r0 : BitVec 32) (arg27_r0 : BitVec 32) (arg33_r0 : BitVec 32) (arg34_r0 : BitVec 32) (arg35_r0 : BitVec 32) (k0_hw1 : k0_chk1 k0_t1 arg14_r0 arg15_r0 arg16_r0 arg17_r0 arg18_r0 arg19_r0 arg20_r0 arg21_r0 arg22_r0 arg23_r0 arg24_r0 arg25_r0 arg26_r0 arg27_r0 arg33_r0 arg34_r0 arg35_r0), ∀ (k0_h38 : k0_cond38 k0_t1 arg35_r0 = 1#1), ∀ a, (k0_off85 arg34_r0) a + S1x1024x1024.size a ≤ S2x1024x1024.size a := fun k0_t1 arg14_r0 arg15_r0 arg16_r0 arg17_r0 arg18_r0 arg19_r0 arg20_r0 arg21_r0 arg22_r0 arg23_r0 arg24_r0 arg25_r0 arg26_r0 arg27_r0 arg33_r0 arg34_r0 arg35_r0 k0_hw1 k0_h38 => k0_hw1.2.2.2 k0_h38

def k0_off86 (v131_20_r0 : BitVec 32) : Fin 1 → Nat :=
  let c2_i32_r0 : BitVec 32 := 2#32
  let v157_r0 : BitVec 32 := Scalar.remui v131_20_r0 c2_i32_r0
  ![v157_r0.toNat]

def k0_off87 (v131_21_r0 : BitVec 32) : Fin 2 → Nat :=
  let c1024_i32_172_r0 : BitVec 32 := 1024#32
  let true_148_r0 : BitVec 1 := 1#1
  let c1_i32_147_r0 : BitVec 32 := 1#32
  let v132_r0 : BitVec 32 := Scalar.subi v131_21_r0 c1_i32_147_r0
  let v133_r0 : BitVec 32 := Scalar.select true_148_r0 v132_r0 v131_21_r0
  let c_m1_i32_149_r0 : BitVec 32 := 4294967295#32
  let v134_r0 : BitVec 1 := Scalar.cmpi .eq v133_r0 c_m1_i32_149_r0
  let c15_i32_150_r0 : BitVec 32 := 15#32
  let v135_r0 : BitVec 32 := Scalar.select v134_r0 c15_i32_150_r0 v133_r0
  let c0_i32_151_r0 : BitVec 32 := 0#32
  let v136_r0 : BitVec 32 := Scalar.addi v135_r0 c0_i32_151_r0
  let v158_r0 : BitVec 32 := Scalar.muli c1024_i32_172_r0 v136_r0
  let c0_i32_173_r0 : BitVec 32 := 0#32
  ![v158_r0.toNat, 0]

def k0_chk11 (v131_21_r0 : BitVec 32) : Prop :=
  (∀ a, (k0_off87 v131_21_r0) a + S1024x1024.size a ≤ S16384x1024.size a)
theorem k0_off87_inb : ∀ (v131_21_r0 : BitVec 32) (k0_hw11 : k0_chk11 v131_21_r0), ∀ a, (k0_off87 v131_21_r0) a + S1024x1024.size a ≤ S16384x1024.size a := fun v131_21_r0 k0_hw11 => k0_hw11

def k0_off88 (v131_20_r0 : BitVec 32) : Fin 3 → Nat :=
  let c2_i32_r0 : BitVec 32 := 2#32
  let v157_r0 : BitVec 32 := Scalar.remui v131_20_r0 c2_i32_r0
  let c0_i32_174_r0 : BitVec 32 := 0#32
  let c0_i32_175_r0 : BitVec 32 := 0#32
  ![v157_r0.toNat, 0, 0]

def k0_chk10 (v131_20_r0 : BitVec 32) : Prop :=
  (∀ a, (k0_off86 v131_20_r0) a + S1.size a ≤ S2.size a) ∧
  (∀ a, (k0_off88 v131_20_r0) a + S1x1024x1024.size a ≤ S2x1024x1024.size a)
theorem k0_off86_inb : ∀ (v131_20_r0 : BitVec 32) (k0_hw10 : k0_chk10 v131_20_r0), ∀ a, (k0_off86 v131_20_r0) a + S1.size a ≤ S2.size a := fun v131_20_r0 k0_hw10 => k0_hw10.1
theorem k0_off88_inb : ∀ (v131_20_r0 : BitVec 32) (k0_hw10 : k0_chk10 v131_20_r0), ∀ a, (k0_off88 v131_20_r0) a + S1x1024x1024.size a ≤ S2x1024x1024.size a := fun v131_20_r0 k0_hw10 => k0_hw10.2
-- ==== ReferenceIdeal.lean ====
abbrev S16384x256 : Shape := ⟨2, ![16384, 256]⟩
abbrev S16384x512 : Shape := ⟨2, ![16384, 512]⟩
abbrev S16384x4608 : Shape := ⟨2, ![16384, 4608]⟩
abbrev S16384x1024 : Shape := ⟨2, ![16384, 1024]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S16384x3072 : Shape := ⟨2, ![16384, 3072]⟩
abbrev S16384x3x1024 : Shape := ⟨3, ![16384, 3, 1024]⟩
abbrev S_ : Shape := ⟨0, ![]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x512, .bf16⟩
  | .hbm, ⟨2, _⟩ => ⟨S16384x512, .bf16⟩
  | .hbm, ⟨3, _⟩ => ⟨S16384x4608, .bf16⟩
  | .hbm, ⟨4, _⟩ => ⟨S16384x1024, .f32⟩
  | .hbm, ⟨5, _⟩ => ⟨S256x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S16384x256, .f32⟩
  | .hbm, ⟨11, _⟩ => ⟨S16384x1024, .f32⟩
  | .hbm, ⟨12, _⟩ => ⟨S16384x512, .f32⟩
  | .hbm, ⟨13, _⟩ => ⟨S16384x1024, .f32⟩
  | .hbm, ⟨14, _⟩ => ⟨S16384x512, .f32⟩
  | .hbm, ⟨15, _⟩ => ⟨S16384x1024, .f32⟩
  | .hbm, ⟨16, _⟩ => ⟨S16384x3072, .bf16⟩
  | .hbm, ⟨17, _⟩ => ⟨S16384x3072, .f32⟩
  | .hbm, ⟨18, _⟩ => ⟨S16384x3x1024, .f32⟩
  | .hbm, ⟨19, _⟩ => ⟨S16384x3x1024, .f32⟩
  | .hbm, ⟨20, _⟩ => ⟨S16384x3x1024, .f32⟩
  | .hbm, ⟨21, _⟩ => ⟨S_, .f32⟩
  | .hbm, ⟨22, _⟩ => ⟨S16384x3x1024, .f32⟩
  | .hbm, ⟨23, _⟩ => ⟨S16384x3x1024, .f32⟩
  | .hbm, ⟨24, _⟩ => ⟨S_, .f32⟩
  | .hbm, ⟨25, _⟩ => ⟨S16384x3x1024, .f32⟩
  | .hbm, ⟨26, _⟩ => ⟨S16384x3x1024, .f32⟩
  | .hbm, ⟨27, _⟩ => ⟨S16384x1x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x8192 : Shape := ⟨2, ![1024, 8192]⟩
abbrev S3x8192 : Shape := ⟨2, ![3, 8192]⟩
abbrev S8192 : Shape := ⟨1, ![8192]⟩
abbrev S4096x1024 : Shape := ⟨2, ![4096, 1024]⟩
abbrev S1x1024 : Shape := ⟨2, ![1, 1024]⟩
abbrev S1x8192 : Shape := ⟨2, ![1, 8192]⟩
abbrev S1024x1024 : Shape := ⟨2, ![1024, 1024]⟩
abbrev S3x1024 : Shape := ⟨2, ![3, 1024]⟩
abbrev S4x8x1024 : Shape := ⟨3, ![4, 8, 1024]⟩
abbrev S1024x1 : Shape := ⟨2, ![1024, 1]⟩
abbrev S8x1024 : Shape := ⟨2, ![8, 1024]⟩
abbrev S1x8x1024 : Shape := ⟨3, ![1, 8, 1024]⟩
abbrev S1024x256 : Shape := ⟨2, ![1024, 256]⟩
abbrev S1x8x256 : Shape := ⟨3, ![1, 8, 256]⟩
abbrev S8x256 : Shape := ⟨2, ![8, 256]⟩
abbrev S3x256 : Shape := ⟨2, ![3, 256]⟩
abbrev S1x256 : Shape := ⟨2, ![1, 256]⟩
abbrev S1016x256 : Shape := ⟨2, ![1016, 256]⟩

abbrev nBuf : Space → Nat
  | .hbm => 13
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8192, .f32⟩
  | .hbm, ⟨3, _⟩ => ⟨S3x8192, .f32⟩
  | .hbm, ⟨4, _⟩ => ⟨S8192, .f32⟩
  | .hbm, ⟨5, _⟩ => ⟨S4096x1024, .f32⟩
  | .hbm, ⟨6, _⟩ => ⟨S1024, .f32⟩
  | .hbm, ⟨7, _⟩ => ⟨S1x1024, .f32⟩
  | .hbm, ⟨8, _⟩ => ⟨S1024x8192, .bf16⟩
  | .hbm, ⟨9, _⟩ => ⟨S4096x1024, .bf16⟩
  | .hbm, ⟨10, _⟩ => ⟨S1x1024, .f32⟩
  | .hbm, ⟨11, _⟩ => ⟨S1x8192, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S3x1024, .f32⟩
  | .local _ .vmem, ⟨8, _⟩ => ⟨S3x1024, .f32⟩
  | .local _ .vmem, ⟨9, _⟩ => ⟨S3x1024, .f32⟩
  | .local _ .vmem, ⟨10, _⟩ => ⟨S3x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .f32⟩
  | .local _ .vmem, ⟨22, _⟩ => ⟨S4x8x1024, .f32⟩
  | .local _ .vmem, ⟨23, _⟩ => ⟨S4x8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v474 : Index := Scalar.indexCast arg1
  let c0_188 : Index := 0#32
  let c0_189 : Index := 0#32
  ![v474.toNat, 0, 0]
def k0_off2 (i : grid0.Coords) : Fin 3 → Nat :=
  let arg1 : BitVec 32 := BitVec.ofNat 32 (i 1).val
  let v33 : Index := Scalar.indexCast arg1
  let c0_25 : Index := 0#32
  let c0_26 : Index := 0#32
  ![v33.toNat, 0, 0]
def k0_off3 (i : grid0.Coords) : Fin 3 → Nat :=
  let arg1 : BitVec 32 := BitVec.ofNat 32 (i 1).val
  let v144 : Index := Scalar.indexCast arg1
  let c0_68 : Index := 0#32
  let c256_69 : Index := 256#32
  ![v144.toNat, 0, 256]
def k0_off4 (i : grid0.Coords) : Fin 3 → Nat :=
  let arg1 : BitVec 32 := BitVec.ofNat 32 (i 1).val
  let v255 : Index := Scalar.indexCast arg1
  let c0_111 : Index := 0#32
  let c512_112 : Index := 512#32
  ![v255.toNat, 0, 512]
def k0_off5 (i : grid0.Coords) : Fin 3 → Nat :=
  let arg1 : BitVec 32 := BitVec.ofNat 32 (i 1).val
  let v358 : Index := Scalar.indexCast arg1
  let c0_145 : Index := 0#32
  let c768_146 : Index := 768#32
  ![v358.toNat, 0, 768]
def k0_cond3 (i : grid0.Coords) : BitVec 1 :=
  let arg1 : BitVec 32 := BitVec.ofNat 32 (i 1).val
  let c3_i32 : BitVec 32 := 3#32
  let v470 : BitVec 1 := Scalar.cmpi .eq arg1 c3_i32
  let v471 : BitVec 32 := Scalar.extui v470
  let c0_i32_186 : BitVec 32 := 0#32
  let v472 : BitVec 1 := Scalar.cmpi .ne v471 c0_i32_186
  v472

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S16384x1024 : Shape := ⟨2, ![16384, 1024]⟩
abbrev S1024 : Shape := ⟨1, ![1024]⟩
abbrev S1024x8192 : Shape := ⟨2, ![1024, 8192]⟩
abbrev S3x8192 : Shape := ⟨2, ![3, 8192]⟩
abbrev S8192 : Shape := ⟨1, ![8192]⟩
abbrev S4096x1024 : Shape := ⟨2, ![4096, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8192 : Shape := ⟨3, ![8, 2048, 8192]⟩
abbrev S8x2050x8192 : Shape := ⟨3, ![8, 2050, 8192]⟩
abbrev S1x8192 : Shape := ⟨2, ![1, 8192]⟩
abbrev S1x1x8192 : Shape := ⟨3, ![1, 1, 8192]⟩
abbrev S8x2049x8192 : Shape := ⟨3, ![8, 2049, 8192]⟩
abbrev S8x2048x4096 : Shape := ⟨3, ![8, 2048, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8192, .f32⟩
  | .hbm, ⟨3, _⟩ => ⟨S3x8192, .f32⟩
  | .hbm, ⟨4, _⟩ => ⟨S8192, .f32⟩
  | .hbm, ⟨5, _⟩ => ⟨S4096x1024, .f32⟩
  | .hbm, ⟨6, _⟩ => ⟨S1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x8192, .f32⟩
  | .hbm, ⟨25, _⟩ => ⟨S_, .i32⟩
  | .hbm, ⟨26, _⟩ => ⟨S_, .f32⟩
  | .hbm, ⟨27, _⟩ => ⟨S8x2050x8192, .f32⟩
  | .hbm, ⟨28, _⟩ => ⟨S8x2048x8192, .f32⟩
  | .hbm, ⟨29, _⟩ => ⟨S1x8192, .f32⟩
  | .hbm, ⟨30, _⟩ => ⟨S8192, .f32⟩
  | .hbm, ⟨31, _⟩ => ⟨S1x1x8192, .f32⟩
  | .hbm, ⟨32, _⟩ => ⟨S8x2048x8192, .f32⟩
  | .hbm, ⟨33, _⟩ => ⟨S8x2048x8192, .f32⟩
  | .hbm, ⟨34, _⟩ => ⟨S_, .i32⟩
  | .hbm, ⟨35, _⟩ => ⟨S_, .f32⟩
  | .hbm, ⟨36, _⟩ => ⟨S8x2049x8192, .f32⟩
  | .hbm, ⟨37, _⟩ => ⟨S8x2048x8192, .f32⟩
  | .hbm, ⟨38, _⟩ => ⟨S1x8192, .f32⟩
  | .hbm, ⟨39, _⟩ => ⟨S8192, .f32⟩
  | .hbm, ⟨40, _⟩ => ⟨S1x1x8192, .f32⟩
  | .hbm, ⟨41, _⟩ => ⟨S8x2048x8192, .f32⟩
  | .hbm, ⟨42, _⟩ => ⟨S8x2048x8192, .f32⟩
  | .hbm, ⟨43, _⟩ => ⟨S8x2048x8192, .f32⟩
  | .hbm, ⟨44, _⟩ => ⟨S1x8192, .f32⟩
  | .hbm, ⟨45, _⟩ => ⟨S8192, .f32⟩
  | .hbm, ⟨46, _⟩ => ⟨S1x1x8192, .f32⟩
  | .hbm, ⟨47, _⟩ => ⟨S8x2048x8192, .f32⟩
  | .hbm, ⟨48, _⟩ => ⟨S8x2048x8192, .f32⟩
  | .hbm, ⟨49, _⟩ => ⟨S8x2048x8192, .f32⟩
  | .hbm, ⟨50, _⟩ => ⟨S1x1x8192, .f32⟩
  | .hbm, ⟨51, _⟩ => ⟨S8x2048x8192, .f32⟩
  | .hbm, ⟨52, _⟩ => ⟨S8x2048x8192, .f32⟩
  | .hbm, ⟨53, _⟩ => ⟨S8x2048x4096, .f32⟩
  | .hbm, ⟨54, _⟩ => ⟨S8x2048x4096, .f32⟩
  | .hbm, ⟨55, _⟩ => ⟨S8x2048x4096, .f32⟩
  | .hbm, ⟨56, _⟩ => ⟨S8x2048x4096, .f32⟩
  | .hbm, ⟨57, _⟩ => ⟨S_, .f32⟩
  | .hbm, ⟨58, _⟩ => ⟨S8x2048x4096, .f32⟩
  | .hbm, ⟨59, _⟩ => ⟨S8x2048x4096, .f32⟩
  | .hbm, ⟨60, _⟩ => ⟨S8x2048x4096, .f32⟩
  | .hbm, ⟨61, _⟩ => ⟨S_, .f32⟩
  | .hbm, ⟨62, _⟩ => ⟨S8x2048x4096, .f32⟩
  | .hbm, ⟨63, _⟩ => ⟨S8x2048x4096, .f32⟩
  | .hbm, ⟨64, _⟩ => ⟨S8x2048x4096, .f32⟩
  | .hbm, ⟨65, _⟩ => ⟨S_, .f32⟩
  | .hbm, ⟨66, _⟩ => ⟨S8x2048x4096, .f32⟩
  | .hbm, ⟨67, _⟩ => ⟨S8x2048x4096, .f32⟩
  | .hbm, ⟨68, _⟩ => ⟨S_, .f32⟩
  | .hbm, ⟨69, _⟩ => ⟨S8x2048x4096, .f32⟩
  | .hbm, ⟨70, _⟩ => ⟨S8x2048x4096, .f32⟩
  | .hbm, ⟨71, _⟩ => ⟨S8x2048x4096, .f32⟩
  | .hbm, ⟨72, _⟩ => ⟨S8x2048x4096, .f32⟩
  | .hbm, ⟨73, _⟩ => ⟨S8x2048x1024, .f32⟩
  | .hbm, ⟨74, _⟩ => ⟨S8x2048x1024, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1, .f32⟩
  | .hbm, ⟨85, _⟩ => ⟨S8x2048x1024, .f32⟩
  | .hbm, ⟨86, _⟩ => ⟨S8x2048x1024, .f32⟩
  | .hbm, ⟨87, _⟩ => ⟨S1x1x1024, .f32⟩
  | .hbm, ⟨88, _⟩ => ⟨S8x2048x1024, .f32⟩
  | .hbm, ⟨89, _⟩ => ⟨S8x2048x1024, .f32⟩
  | .hbm, ⟨90, _⟩ => ⟨S16384x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_5 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Proof.Base.lean ====
/-
  The names the two modules after this one share: the blocks of the arrays in HBM, the slots of the rings in VMEM
  and the cells of the semaphore rings, each by its number; and the pipeline's counters before trip `k`, from which
  the offsets, the conditions and the checks of the trip come out in closed form.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Affine
public import Idealize.ShloMosaic.Lib.Tactic

@[expose] public section

noncomputable section

namespace Cert.KernelIdeal.Merge

open Cert.KernelIdeal Cert.KernelIdeal.Gen
open Idealize.ShloMosaic
open Idealize.ShloMosaic.TcCoe Idealize.ShloMosaic.Tactic

variable {F : FTy → Type} [FloatOps F]

/-! ## Blocks, slots and cells -/

theorem inb3 {n R C : ℕ} (s : Fin n) : ∀ a, (![s.val, 0, 0] : Fin 3 → ℕ) a + (![1, R, C] : Fin 3 → ℕ) a ≤ (![n, R, C] : Fin 3 → ℕ) a := by
  have := s.isLt; intro a; fin_cases a
  · show s.val + 1 ≤ n; omega
  · show 0 + R ≤ R; omega
  · show 0 + C ≤ C; omega
theorem inb2 {C D : ℕ} (b : Fin 16) (o : ℕ) (h : o + D ≤ C) :
    ∀ a, (![b.val * 1024, o] : Fin 2 → ℕ) a + (![1024, D] : Fin 2 → ℕ) a ≤ (![16384, C] : Fin 2 → ℕ) a := by
  have := b.isLt; intro a; fin_cases a
  · show b.val * 1024 + 1024 ≤ 16384; omega
  · exact h
theorem inb1 {n : ℕ} (s : Fin n) : ∀ a, (![s.val] : Fin 1 → ℕ) a + (![1] : Fin 1 → ℕ) a ≤ (![n] : Fin 1 → ℕ) a := by
  have := s.isLt; intro a; fin_cases a; show s.val + 1 ≤ n; omega

abbrev slotOff {n : ℕ} (s : Fin n) : Fin 3 → ℕ := ![s.val, 0, 0]
abbrev cellOff {n : ℕ} (s : Fin n) : Fin 1 → ℕ := ![s.val]
abbrev blkOff (b : Fin 16) : Fin 2 → ℕ := ![b.val * 1024, 0]
abbrev gateOff (j : Fin 3) (b : Fin 16) : Fin 2 → ℕ := ![b.val * 1024, j.val * 1024]

theorem gate_inb (j : Fin 3) (b : Fin 16) : ∀ a, gateOff j b a + S1024x1024.size a ≤ S16384x4608.size a :=
  inb2 b _ (by have := j.isLt; omega)

/-- Slot `s` of a ring of branch rows, of gate rows, of residual rows, of results. -/
def slotA (M : Memref sig .tc .vmem S3x1024x256 .bf16) (s : Fin 3) : Memref sig .tc .vmem S1024x256 .bf16 :=
  (M.slice (Rect.unit (s := S3x1024x256) (slotOff s) S1x1024x256.size (inb3 s)) (fun _ => rfl)).squeeze S1024x256 squeezes_S1x1024x256_S1024x256
def slotB (M : Memref sig .tc .vmem S3x1024x512 .bf16) (s : Fin 3) : Memref sig .tc .vmem S1024x512 .bf16 :=
  (M.slice (Rect.unit (s := S3x1024x512) (slotOff s) S1x1024x512.size (inb3 s)) (fun _ => rfl)).squeeze S1024x512 squeezes_S1x1024x512_S1024x512
def slotG (M : Memref sig .tc .vmem S3x1024x1024 .bf16) (s : Fin 3) : Memref sig .tc .vmem S1024x1024 .bf16 :=
  (M.slice (Rect.unit (s := S3x1024x1024) (slotOff s) S1x1024x1024.size (inb3 s)) (fun _ => rfl)).squeeze S1024x1024 squeezes_S1x1024x1024_S1024x1024
def slotH (M : Memref sig .tc .vmem S3x1024x1024 .f32) (s : Fin 3) : Memref sig .tc .vmem S1024x1024 .f32 :=
  (M.slice (Rect.unit (s := S3x1024x1024) (slotOff s) S1x1024x1024.size (inb3 s)) (fun _ => rfl)).squeeze S1024x1024 squeezes_S1x1024x1024_S1024x1024
def slotO (M : Memref sig .tc .vmem S2x1024x1024 .f32) (s : Fin 2) : Memref sig .tc .vmem S1024x1024 .f32 :=
  (M.slice (Rect.unit (s := S2x1024x1024) (slotOff s) S1x1024x1024.size (inb3 s)) (fun _ => rfl)).squeeze S1024x1024 squeezes_S1x1024x1024_S1024x1024

/-- Block `b` of an array of 256, of 512 columns, of the gates (gate `j`), of 1024 columns. -/
def blkA (M : Memref sig .tc .hbm S16384x256 .bf16) (b : Fin 16) : Memref sig .tc .hbm S1024x256 .bf16 :=
  M.slice (Rect.unit (s := S16384x256) (blkOff b) S1024x256.size (inb2 b 0 (by decide))) (fun _ => rfl)
def blkB (M : Memref sig .tc .hbm S16384x512 .bf16) (b : Fin 16) : Memref sig .tc .hbm S1024x512 .bf16 :=
  M.slice (Rect.unit (s := S16384x512) (blkOff b) S1024x512.size (inb2 b 0 (by decide))) (fun _ => rfl)
def blkG (M : Memref sig .tc .hbm S16384x4608 .bf16) (j : Fin 3) (b : Fin 16) : Memref sig .tc .hbm S1024x1024 .bf16 :=
  M.slice (Rect.unit (s := S16384x4608) (gateOff j b) S1024x1024.size (gate_inb j b)) (fun _ => rfl)
def blkH (M : Memref sig .tc .hbm S16384x1024 .f32) (b : Fin 16) : Memref sig .tc .hbm S1024x1024 .f32 :=
  M.slice (Rect.unit (s := S16384x1024) (blkOff b) S1024x1024.size (inb2 b 0 (by decide))) (fun _ => rfl)

/-- Cell `s` of a ring of three, of two semaphores. -/
def csm (A : DmaSems sig S3) (s : Fin 3) : DmaSems sig S_ := (A.slice (Rect.unit (s := S3) (cellOff s) S1.size (inb1 s))).squeeze S_ squeezes_S1_S_
def csm2 (A : DmaSems sig S2) (s : Fin 2) : DmaSems sig S_ := (A.slice (Rect.unit (s := S2) (cellOff s) S1.size (inb1 s))).squeeze S_ squeezes_S1_S_

instance {n : ℕ} (s : Fin n) : ClosedOff (slotOff s) := ⟨slotOff s, rfl⟩
instance (b : Fin 16) : ClosedOff (blkOff b) := ⟨blkOff b, rfl⟩
instance (j : Fin 3) (b : Fin 16) : ClosedOff (gateOff j b) := ⟨gateOff j b, rfl⟩

section Congr

theorem slotA_congr (M : Memref sig .tc .vmem S3x1024x256 .bf16) {off : Fin 3 → ℕ} {s : Fin 3} (e : off = slotOff s) (hh hs) :
    (M.slice (Rect.unit (s := S3x1024x256) off S1x1024x256.size hh) hs).squeeze S1024x256 squeezes_S1x1024x256_S1024x256 = slotA M s := by
  subst e; rfl
theorem slotB_congr (M : Memref sig .tc .vmem S3x1024x512 .bf16) {off : Fin 3 → ℕ} {s : Fin 3} (e : off = slotOff s) (hh hs) :
    (M.slice (Rect.unit (s := S3x1024x512) off S1x1024x512.size hh) hs).squeeze S1024x512 squeezes_S1x1024x512_S1024x512 = slotB M s := by
  subst e; rfl
theorem slotG_congr (M : Memref sig .tc .vmem S3x1024x1024 .bf16) {off : Fin 3 → ℕ} {s : Fin 3} (e : off = slotOff s) (hh hs) :
    (M.slice (Rect.unit (s := S3x1024x1024) off S1x1024x1024.size hh) hs).squeeze S1024x1024 squeezes_S1x1024x1024_S1024x1024 = slotG M s := by
  subst e; rfl
theorem slotH_congr (M : Memref sig .tc .vmem S3x1024x1024 .f32) {off : Fin 3 → ℕ} {s : Fin 3} (e : off = slotOff s) (hh hs) :
    (M.slice (Rect.unit (s := S3x1024x1024) off S1x1024x1024.size hh) hs).squeeze S1024x1024 squeezes_S1x1024x1024_S1024x1024 = slotH M s := by
  subst e; rfl
theorem slotO_congr (M : Memref sig .tc .vmem S2x1024x1024 .f32) {off : Fin 3 → ℕ} {s : Fin 2} (e : off = slotOff s) (hh hs) :
    (M.slice (Rect.unit (s := S2x1024x1024) off S1x1024x1024.size hh) hs).squeeze S1024x1024 squeezes_S1x1024x1024_S1024x1024 = slotO M s := by
  subst e; rfl
theorem blkA_congr (M : Memref sig .tc .hbm S16384x256 .bf16) {off : Fin 2 → ℕ} {b : Fin 16} (e : off = blkOff b) (hh hs) :
    M.slice (Rect.unit (s := S16384x256) off S1024x256.size hh) hs = blkA M b := by subst e; rfl
theorem blkB_congr (M : Memref sig .tc .hbm S16384x512 .bf16) {off : Fin 2 → ℕ} {b : Fin 16} (e : off = blkOff b) (hh hs) :
    M.slice (Rect.unit (s := S16384x512) off S1024x512.size hh) hs = blkB M b := by subst e; rfl
theorem blkH_congr (M : Memref sig .tc .hbm S16384x1024 .f32) {off : Fin 2 → ℕ} {b : Fin 16} (e : off = blkOff b) (hh hs) :
    M.slice (Rect.unit (s := S16384x1024) off S1024x1024.size hh) hs = blkH M b := by subst e; rfl
theorem csm_congr (A : DmaSems sig S3) {off : Fin 1 → ℕ} {s : Fin 3} (e : off = cellOff s) (hh) :
    (A.slice (Rect.unit (s := S3) off S1.size hh)).squeeze S_ squeezes_S1_S_ = csm A s := by subst e; rfl
theorem csm2_congr (A : DmaSems sig S2) {off : Fin 1 → ℕ} {s : Fin 2} (e : off = cellOff s) (hh) :
    (A.slice (Rect.unit (s := S2) off S1.size hh)).squeeze S_ squeezes_S1_S_ = csm2 A s := by subst e; rfl

/-- The pair of offsets and extents of a gate's rows, and of a slot of a gate's ring. -/
abbrev gateBox (j : Fin 3) (b : Fin 16) : (Fin 2 → ℕ) × (Fin 2 → ℕ) := (gateOff j b, S1024x1024.size)
abbrev ringBox (s : Fin 3) : (Fin 3 → ℕ) × (Fin 3 → ℕ) := (slotOff s, S1x1024x1024.size)

section Gate
variable {p : (Fin 2 → ℕ) × (Fin 2 → ℕ)} {q : (Fin 3 → ℕ) × (Fin 3 → ℕ)} {j : Fin 3} {b : Fin 16} {s : Fin 3}
  (ep : p = gateBox j b) (eq : q = ringBox s)
  (A : Memref sig .tc .hbm S16384x4608 .bf16) (M : Memref sig .tc .vmem S3x1024x1024 .bf16) (sm : DmaSem sig)
  (hp : ∀ a, p.2 a = 0 ∨ p.1 a + p.2 a ≤ S16384x4608.size a) (hq : ∀ a, q.2 a = 0 ∨ q.1 a + q.2 a ≤ S3x1024x1024.size a)
  (h1) (h2) (hsq : Shape.Squeezes (⟨3, q.2⟩ : Shape) ⟨2, p.2⟩)

theorem gate_src (w : (A.slice (Rect.unitDyn (s := S16384x4608) p.1 p.2 hp) h1).view.WordExact) (ep : p = gateBox j b) :
    (blkG A j b).view.WordExact := by subst ep; exact w
theorem gate_dst (w : ((M.slice (Rect.unitDyn (s := S3x1024x1024) q.1 q.2 hq) h2).squeeze (⟨2, p.2⟩ : Shape) hsq).view.WordExact)
    (ep : p = gateBox j b) (eq : q = ringBox s) : (slotG M s).view.WordExact := by subst ep eq; exact w

/-- The start of a gate's transfer, its extents run-time words, is the start of the transfer of the gate's block. -/
theorem gate_issue (w1 w2 w3) :
    (TpuEff.enqueueDma (A.slice (Rect.unitDyn (s := S16384x4608) p.1 p.2 hp) h1)
      (.here ((M.slice (Rect.unitDyn (s := S3x1024x1024) q.1 q.2 hq) h2).squeeze (⟨2, p.2⟩ : Shape) hsq)) (.dma sm) w1 w2 w3 :
      TpuEff nD τ sig (Elt F) Λ₀ .tc PUnit)
    = TpuEff.enqueueDma (blkG A j b) (DmaTarget.here (slotG M s) : DmaTarget nD τ sig (.tc : Proc τ) .vmem S1024x1024 .bf16) (.dma sm) (gate_src A hp h1 w1 ep) (gate_dst M hq h2 hsq w2 ep eq) ⟨Or.inl rfl, trivial⟩ := by
  subst ep eq; rfl
end Gate

end Congr

/-! ## The pipeline's counters before trip `k` -/

/-- The number of blocks started, of blocks waited for. -/
def wI (k : ℕ) : BitVec 32 := BitVec.ofNat 32 (min (k + 2) 16)
def wW (k : ℕ) : BitVec 32 := BitVec.ofNat 32 k
/-- The number of whole weights passed: none before the pipeline's end. -/
def wP (k : ℕ) : BitVec 32 := BitVec.ofNat 32 (k / 16)
/-- The number of results waited for. -/
def wT (k : ℕ) : BitVec 32 := BitVec.ofNat 32 (k - 1)
/-- The block at hand. -/
def wG (k : ℕ) : BitVec 32 := BitVec.ofNat 32 (k % 16)

abbrev Words : Type := BitVec 32 × BitVec 32 × BitVec 32 × BitVec 32 × BitVec 32 × BitVec 32 × BitVec 32 × BitVec 32 × BitVec 32 × BitVec 32 × BitVec 32
  × BitVec 32 × BitVec 32 × BitVec 32 × BitVec 32 × BitVec 32 × BitVec 32 × BitVec 32 × BitVec 32 × BitVec 32 × BitVec 32 × BitVec 32
/-- The words the loop carries into trip `k`. -/
abbrev words (k : ℕ) : Words :=
  (wI k, wW k, wI k, wW k, wI k, wW k, wI k, wW k, wI k, wW k, wI k, wW k, wI k, wW k, wP k, wP k, wP k, wP k, wP k, wW k, wT k, wG k)

theorem trips_eq : k0_t1_loop.trips = 16 := by decide

section Facts
variable (k : Fin k0_t1_loop.trips)

theorem lt16 : k.val < 16 := trips_eq ▸ k.isLt

/-! The cells, slots and blocks of the trip, in closed form. -/
theorem cellI (h : k.val < 14) : (![(Scalar.remui (wI k) 3#32).toNat] : Fin 1 → ℕ) = cellOff (Ring.sl 3 (k.val + 2)) := by
  revert k; decide
theorem cellW : (![(Scalar.remui (wW k) 3#32).toNat] : Fin 1 → ℕ) = cellOff (Ring.sl 3 k.val) := by revert k; decide
theorem ringI (h : k.val < 14) : (![(Scalar.remui (wI k) 3#32).toNat, 0, 0] : Fin 3 → ℕ) = slotOff (Ring.sl 3 (k.val + 2)) := by
  revert k; decide
theorem ringW : (![(Scalar.remui (wW k) 3#32).toNat, 0, 0] : Fin 3 → ℕ) = slotOff (Ring.sl 3 k.val) := by revert k; decide
theorem blockI (h : k.val < 14) : k0_off32 (wG k) = blkOff (Ring.bk 16 (k.val + 2)) := by revert k; decide
theorem blockW : k0_off53 (wG k) = blkOff (Ring.bk 16 k.val) := by revert k; decide
theorem gateI0 (h : k.val < 14) : k0_off41 (wG k) = gateBox 0 (Ring.bk 16 (k.val + 2)) := by revert k; decide
theorem gateI1 (h : k.val < 14) : k0_off44 (wG k) = gateBox 1 (Ring.bk 16 (k.val + 2)) := by revert k; decide
theorem gateI2 (h : k.val < 14) : k0_off47 (wG k) = gateBox 2 (Ring.bk 16 (k.val + 2)) := by revert k; decide
theorem boxI (h : k.val < 14) : k0_off40 (wI k) = ringBox (Ring.sl 3 (k.val + 2)) := Prod.ext (ringI k h) rfl
theorem cellO : k0_off80 (wW k) = cellOff (Ring.sl 2 k.val) := by revert k; decide
theorem ringO : k0_off82 (wW k) = slotOff (Ring.sl 2 k.val) := by revert k; decide
theorem blockO : k0_off81 (wG k) = blkOff (Ring.bk 16 k.val) := by revert k; decide
theorem cellT (h : 1 ≤ k.val) : k0_off83 (wT k) = cellOff (Ring.sl 2 (k.val + 1)) := by revert k; decide
theorem ringT (h : 1 ≤ k.val) : k0_off85 (wT k) = slotOff (Ring.sl 2 (k.val + 1)) := by revert k; decide
theorem blockT (h : 1 ≤ k.val) : k0_off84 (wG k) = blkOff (Ring.bk 16 (k.val - 1)) := by revert k; decide

/-! The conditions: a block is started while there is one two ahead, a block is waited for and a result started at
every trip, a result is waited for at every trip but the first. -/
theorem condI (h : k.val < 14) : k0_cond8 k (wG k) = 1#1 ∧ k0_cond9 k (wG k) = 1#1 ∧ k0_cond10 k (wG k) = 1#1 ∧ k0_cond11 k (wG k) = 1#1
    ∧ k0_cond12 k (wG k) = 1#1 ∧ k0_cond13 k (wG k) = 1#1 ∧ k0_cond14 k (wG k) = 1#1 := by revert k; decide
theorem condI' (h : 14 ≤ k.val) : ¬k0_cond8 k (wG k) = 1#1 ∧ ¬k0_cond9 k (wG k) = 1#1 ∧ ¬k0_cond10 k (wG k) = 1#1 ∧ ¬k0_cond11 k (wG k) = 1#1
    ∧ ¬k0_cond12 k (wG k) = 1#1 ∧ ¬k0_cond13 k (wG k) = 1#1 ∧ ¬k0_cond14 k (wG k) = 1#1 := by revert k; decide
theorem condW : k0_cond15 k (wG k) = 1#1 ∧ k0_cond16 k (wG k) = 1#1 ∧ k0_cond17 k (wG k) = 1#1 ∧ k0_cond18 k (wG k) = 1#1
    ∧ k0_cond19 k (wG k) = 1#1 ∧ k0_cond20 k (wG k) = 1#1 ∧ k0_cond21 k (wG k) = 1#1 ∧ k0_cond30 k (wG k) = 1#1 := by revert k; decide
theorem condT (h : 1 ≤ k.val) : k0_cond38 k (wG k) = 1#1 := by revert k; decide
theorem condT' (h : ¬1 ≤ k.val) : ¬k0_cond38 k (wG k) = 1#1 := by revert k; decide

/-! The checks. -/
theorem chkW : k0_chk2 (wW k) ∧ k0_chk3 (wW k) ∧ k0_chk4 (wW k) ∧ k0_chk5 (wW k) ∧ k0_chk6 (wW k) ∧ k0_chk7 (wW k) ∧ k0_chk8 (wW k) ∧ k0_chk9 (wW k) := by
  revert k; decide
theorem chkAll : k0_chk1 k (wI k) (wW k) (wI k) (wW k) (wI k) (wW k) (wI k) (wW k) (wI k) (wW k) (wI k) (wW k) (wI k) (wW k) (wW k) (wT k) (wG k) := by
  revert k; decide
theorem chkEnd : k0_chk10 (wT 16) ∧ k0_chk11 (wG 16) := by decide

end Facts

/-! ## The trip's slices by their names -/

section Canon
variable (k : Fin k0_t1_loop.trips)

@[sl_canon] theorem cellAI (A : DmaSems sig S3) (h : k.val < 14) (hh) :
    (A.slice (Rect.unit (s := S3) (k0_off30 (wI k)) S1.size hh)).squeeze S_ squeezes_S1_S_ = csm A (Ring.sl 3 (k.val + 2)) := csm_congr A (cellI k h) _
@[sl_canon] theorem cellAW (A : DmaSems sig S3) (hh) :
    (A.slice (Rect.unit (s := S3) (k0_off51 (wW k)) S1.size hh)).squeeze S_ squeezes_S1_S_ = csm A (Ring.sl 3 k.val) := csm_congr A (cellW k) _
@[sl_canon] theorem slotAI (M : Memref sig .tc .vmem S3x1024x256 .bf16) (h : k.val < 14) (hh hs) :
    (M.slice (Rect.unit (s := S3x1024x256) (k0_off31 (wI k)) S1x1024x256.size hh) hs).squeeze S1024x256 squeezes_S1x1024x256_S1024x256 = slotA M (Ring.sl 3 (k.val + 2)) := slotA_congr M (ringI k h) _ _
@[sl_canon] theorem slotAW (M : Memref sig .tc .vmem S3x1024x256 .bf16) (hh hs) :
    (M.slice (Rect.unit (s := S3x1024x256) (k0_off52 (wW k)) S1x1024x256.size hh) hs).squeeze S1024x256 squeezes_S1x1024x256_S1024x256 = slotA M (Ring.sl 3 k.val) := slotA_congr M (ringW k) _ _
@[sl_canon] theorem blkAI (M : Memref sig .tc .hbm S16384x256 .bf16) (h : k.val < 14) (hh hs) :
    M.slice (Rect.unit (s := S16384x256) (k0_off32 (wG k)) S1024x256.size hh) hs = blkA M (Ring.bk 16 (k.val + 2)) := blkA_congr M (blockI k h) _ _
@[sl_canon] theorem blkAW (M : Memref sig .tc .hbm S16384x256 .bf16) (hh hs) :
    M.slice (Rect.unit (s := S16384x256) (k0_off53 (wG k)) S1024x256.size hh) hs = blkA M (Ring.bk 16 k.val) := blkA_congr M (blockW k) _ _
@[sl_canon] theorem cellBI (A : DmaSems sig S3) (h : k.val < 14) (hh) :
    (A.slice (Rect.unit (s := S3) (k0_off33 (wI k)) S1.size hh)).squeeze S_ squeezes_S1_S_ = csm A (Ring.sl 3 (k.val + 2)) := csm_congr A (cellI k h) _
@[sl_canon] theorem cellBW (A : DmaSems sig S3) (hh) :
    (A.slice (Rect.unit (s := S3) (k0_off54 (wW k)) S1.size hh)).squeeze S_ squeezes_S1_S_ = csm A (Ring.sl 3 k.val) := csm_congr A (cellW k) _
@[sl_canon] theorem slotBI (M : Memref sig .tc .vmem S3x1024x512 .bf16) (h : k.val < 14) (hh hs) :
    (M.slice (Rect.unit (s := S3x1024x512) (k0_off34 (wI k)) S1x1024x512.size hh) hs).squeeze S1024x512 squeezes_S1x1024x512_S1024x512 = slotB M (Ring.sl 3 (k.val + 2)) := slotB_congr M (ringI k h) _ _
@[sl_canon] theorem slotBW (M : Memref sig .tc .vmem S3x1024x512 .bf16) (hh hs) :
    (M.slice (Rect.unit (s := S3x1024x512) (k0_off55 (wW k)) S1x1024x512.size hh) hs).squeeze S1024x512 squeezes_S1x1024x512_S1024x512 = slotB M (Ring.sl 3 k.val) := slotB_congr M (ringW k) _ _
@[sl_canon] theorem blkBI (M : Memref sig .tc .hbm S16384x512 .bf16) (h : k.val < 14) (hh hs) :
    M.slice (Rect.unit (s := S16384x512) (k0_off35 (wG k)) S1024x512.size hh) hs = blkB M (Ring.bk 16 (k.val + 2)) := blkB_congr M (blockI k h) _ _
@[sl_canon] theorem blkBW (M : Memref sig .tc .hbm S16384x512 .bf16) (hh hs) :
    M.slice (Rect.unit (s := S16384x512) (k0_off56 (wG k)) S1024x512.size hh) hs = blkB M (Ring.bk 16 k.val) := blkB_congr M (blockW k) _ _
@[sl_canon] theorem cellCI (A : DmaSems sig S3) (h : k.val < 14) (hh) :
    (A.slice (Rect.unit (s := S3) (k0_off36 (wI k)) S1.size hh)).squeeze S_ squeezes_S1_S_ = csm A (Ring.sl 3 (k.val + 2)) := csm_congr A (cellI k h) _
@[sl_canon] theorem cellCW (A : DmaSems sig S3) (hh) :
    (A.slice (Rect.unit (s := S3) (k0_off57 (wW k)) S1.size hh)).squeeze S_ squeezes_S1_S_ = csm A (Ring.sl 3 k.val) := csm_congr A (cellW k) _
@[sl_canon] theorem slotCI (M : Memref sig .tc .vmem S3x1024x512 .bf16) (h : k.val < 14) (hh hs) :
    (M.slice (Rect.unit (s := S3x1024x512) (k0_off37 (wI k)) S1x1024x512.size hh) hs).squeeze S1024x512 squeezes_S1x1024x512_S1024x512 = slotB M (Ring.sl 3 (k.val + 2)) := slotB_congr M (ringI k h) _ _
@[sl_canon] theorem slotCW (M : Memref sig .tc .vmem S3x1024x512 .bf16) (hh hs) :
    (M.slice (Rect.unit (s := S3x1024x512) (k0_off58 (wW k)) S1x1024x512.size hh) hs).squeeze S1024x512 squeezes_S1x1024x512_S1024x512 = slotB M (Ring.sl 3 k.val) := slotB_congr M (ringW k) _ _
@[sl_canon] theorem blkCI (M : Memref sig .tc .hbm S16384x512 .bf16) (h : k.val < 14) (hh hs) :
    M.slice (Rect.unit (s := S16384x512) (k0_off38 (wG k)) S1024x512.size hh) hs = blkB M (Ring.bk 16 (k.val + 2)) := blkB_congr M (blockI k h) _ _
@[sl_canon] theorem blkCW (M : Memref sig .tc .hbm S16384x512 .bf16) (hh hs) :
    M.slice (Rect.unit (s := S16384x512) (k0_off59 (wG k)) S1024x512.size hh) hs = blkB M (Ring.bk 16 k.val) := blkB_congr M (blockW k) _ _
@[sl_canon] theorem cellHI (A : DmaSems sig S3) (h : k.val < 14) (hh) :
    (A.slice (Rect.unit (s := S3) (k0_off48 (wI k)) S1.size hh)).squeeze S_ squeezes_S1_S_ = csm A (Ring.sl 3 (k.val + 2)) := csm_congr A (cellI k h) _
@[sl_canon] theorem cellHW (A : DmaSems sig S3) (hh) :
    (A.slice (Rect.unit (s := S3) (k0_off69 (wW k)) S1.size hh)).squeeze S_ squeezes_S1_S_ = csm A (Ring.sl 3 k.val) := csm_congr A (cellW k) _
@[sl_canon] theorem slotHI (M : Memref sig .tc .vmem S3x1024x1024 .f32) (h : k.val < 14) (hh hs) :
    (M.slice (Rect.unit (s := S3x1024x1024) (k0_off49 (wI k)) S1x1024x1024.size hh) hs).squeeze S1024x1024 squeezes_S1x1024x1024_S1024x1024 = slotH M (Ring.sl 3 (k.val + 2)) := slotH_congr M (ringI k h) _ _
@[sl_canon] theorem slotHW (M : Memref sig .tc .vmem S3x1024x1024 .f32) (hh hs) :
    (M.slice (Rect.unit (s := S3x1024x1024) (k0_off70 (wW k)) S1x1024x1024.size hh) hs).squeeze S1024x1024 squeezes_S1x1024x1024_S1024x1024 = slotH M (Ring.sl 3 k.val) := slotH_congr M (ringW k) _ _
@[sl_canon] theorem blkHI (M : Memref sig .tc .hbm S16384x1024 .f32) (h : k.val < 14) (hh hs) :
    M.slice (Rect.unit (s := S16384x1024) (k0_off50 (wG k)) S1024x1024.size hh) hs = blkH M (Ring.bk 16 (k.val + 2)) := blkH_congr M (blockI k h) _ _
@[sl_canon] theorem blkHW (M : Memref sig .tc .hbm S16384x1024 .f32) (hh hs) :
    M.slice (Rect.unit (s := S16384x1024) (k0_off71 (wG k)) S1024x1024.size hh) hs = blkH M (Ring.bk 16 k.val) := blkH_congr M (blockW k) _ _
@[sl_canon] theorem cellG0I (A : DmaSems sig S3) (h : k.val < 14) (hh) :
    (A.slice (Rect.unit (s := S3) (k0_off39 (wI k)) S1.size hh)).squeeze S_ squeezes_S1_S_ = csm A (Ring.sl 3 (k.val + 2)) := csm_congr A (cellI k h) _
@[sl_canon] theorem cellG0W (A : DmaSems sig S3) (hh) :
    (A.slice (Rect.unit (s := S3) (k0_off60 (wW k)) S1.size hh)).squeeze S_ squeezes_S1_S_ = csm A (Ring.sl 3 k.val) := csm_congr A (cellW k) _
@[sl_canon] theorem slotG0L (M : Memref sig .tc .vmem S3x1024x1024 .bf16) (hh hs) :
    (M.slice (Rect.unit (s := S3x1024x1024) (k0_off75 (wW k)) S1x1024x1024.size hh) hs).squeeze S1024x1024 squeezes_S1x1024x1024_S1024x1024
      = slotG M (Ring.sl 3 k.val) := slotG_congr M (ringW k) _ _
@[sl_canon] theorem sizeG0W : k0_sz8 = S1024x1024.size := rfl
@[sl_canon] theorem issueG0 (A : Memref sig .tc .hbm S16384x4608 .bf16) (M : Memref sig .tc .vmem S3x1024x1024 .bf16) (sm : DmaSem sig)
    (h : k.val < 14) (hp hq h1 h2 hsq w1 w2 w3) :
    (TpuEff.enqueueDma (s := ⟨2, (k0_off41 (wG k)).2⟩) (A.slice (Rect.unitDyn (s := S16384x4608) (k0_off41 (wG k)).1 (k0_off41 (wG k)).2 hp) h1)
      (.here (s := ⟨2, (k0_off41 (wG k)).2⟩) (Memref.squeeze (s := ⟨3, (k0_off40 (wI k)).2⟩)
        (M.slice (Rect.unitDyn (s := S3x1024x1024) (k0_off40 (wI k)).1 (k0_off40 (wI k)).2 hq) h2) (⟨2, k0_sz5⟩ : Shape) hsq))
      (.dma sm) w1 w2 w3 : TpuEff nD τ sig (Elt F) Λ₀ .tc PUnit)
    = TpuEff.enqueueDma (blkG A 0 (Ring.bk 16 (k.val + 2))) (DmaTarget.here (slotG M (Ring.sl 3 (k.val + 2))) : DmaTarget nD τ sig (.tc : Proc τ) .vmem S1024x1024 .bf16)
        (.dma sm) (gate_src A hp h1 w1 (gateI0 k h)) (gate_dst (p := k0_off41 (wG k)) M hq h2 hsq w2 (gateI0 k h) (boxI k h)) ⟨Or.inl rfl, trivial⟩ :=
  gate_issue (gateI0 k h) (boxI k h) A M sm hp hq h1 h2 hsq w1 w2 w3
@[sl_canon] theorem cellG1I (A : DmaSems sig S3) (h : k.val < 14) (hh) :
    (A.slice (Rect.unit (s := S3) (k0_off42 (wI k)) S1.size hh)).squeeze S_ squeezes_S1_S_ = csm A (Ring.sl 3 (k.val + 2)) := csm_congr A (cellI k h) _
@[sl_canon] theorem cellG1W (A : DmaSems sig S3) (hh) :
    (A.slice (Rect.unit (s := S3) (k0_off63 (wW k)) S1.size hh)).squeeze S_ squeezes_S1_S_ = csm A (Ring.sl 3 k.val) := csm_congr A (cellW k) _
@[sl_canon] theorem slotG1L (M : Memref sig .tc .vmem S3x1024x1024 .bf16) (hh hs) :
    (M.slice (Rect.unit (s := S3x1024x1024) (k0_off76 (wW k)) S1x1024x1024.size hh) hs).squeeze S1024x1024 squeezes_S1x1024x1024_S1024x1024
      = slotG M (Ring.sl 3 k.val) := slotG_congr M (ringW k) _ _
@[sl_canon] theorem sizeG1W : k0_sz9 = S1024x1024.size := rfl
@[sl_canon] theorem issueG1 (A : Memref sig .tc .hbm S16384x4608 .bf16) (M : Memref sig .tc .vmem S3x1024x1024 .bf16) (sm : DmaSem sig)
    (h : k.val < 14) (hp hq h1 h2 hsq w1 w2 w3) :
    (TpuEff.enqueueDma (s := ⟨2, (k0_off44 (wG k)).2⟩) (A.slice (Rect.unitDyn (s := S16384x4608) (k0_off44 (wG k)).1 (k0_off44 (wG k)).2 hp) h1)
      (.here (s := ⟨2, (k0_off44 (wG k)).2⟩) (Memref.squeeze (s := ⟨3, (k0_off43 (wI k)).2⟩)
        (M.slice (Rect.unitDyn (s := S3x1024x1024) (k0_off43 (wI k)).1 (k0_off43 (wI k)).2 hq) h2) (⟨2, k0_sz6⟩ : Shape) hsq))
      (.dma sm) w1 w2 w3 : TpuEff nD τ sig (Elt F) Λ₀ .tc PUnit)
    = TpuEff.enqueueDma (blkG A 1 (Ring.bk 16 (k.val + 2))) (DmaTarget.here (slotG M (Ring.sl 3 (k.val + 2))) : DmaTarget nD τ sig (.tc : Proc τ) .vmem S1024x1024 .bf16)
        (.dma sm) (gate_src A hp h1 w1 (gateI1 k h)) (gate_dst (p := k0_off44 (wG k)) M hq h2 hsq w2 (gateI1 k h) (boxI k h)) ⟨Or.inl rfl, trivial⟩ :=
  gate_issue (gateI1 k h) (boxI k h) A M sm hp hq h1 h2 hsq w1 w2 w3
@[sl_canon] theorem cellG2I (A : DmaSems sig S3) (h : k.val < 14) (hh) :
    (A.slice (Rect.unit (s := S3) (k0_off45 (wI k)) S1.size hh)).squeeze S_ squeezes_S1_S_ = csm A (Ring.sl 3 (k.val + 2)) := csm_congr A (cellI k h) _
@[sl_canon] theorem cellG2W (A : DmaSems sig S3) (hh) :
    (A.slice (Rect.unit (s := S3) (k0_off66 (wW k)) S1.size hh)).squeeze S_ squeezes_S1_S_ = csm A (Ring.sl 3 k.val) := csm_congr A (cellW k) _
@[sl_canon] theorem slotG2L (M : Memref sig .tc .vmem S3x1024x1024 .bf16) (hh hs) :
    (M.slice (Rect.unit (s := S3x1024x1024) (k0_off77 (wW k)) S1x1024x1024.size hh) hs).squeeze S1024x1024 squeezes_S1x1024x1024_S1024x1024
      = slotG M (Ring.sl 3 k.val) := slotG_congr M (ringW k) _ _
@[sl_canon] theorem sizeG2W : k0_sz10 = S1024x1024.size := rfl
@[sl_canon] theorem issueG2 (A : Memref sig .tc .hbm S16384x4608 .bf16) (M : Memref sig .tc .vmem S3x1024x1024 .bf16) (sm : DmaSem sig)
    (h : k.val < 14) (hp hq h1 h2 hsq w1 w2 w3) :
    (TpuEff.enqueueDma (s := ⟨2, (k0_off47 (wG k)).2⟩) (A.slice (Rect.unitDyn (s := S16384x4608) (k0_off47 (wG k)).1 (k0_off47 (wG k)).2 hp) h1)
      (.here (s := ⟨2, (k0_off47 (wG k)).2⟩) (Memref.squeeze (s := ⟨3, (k0_off46 (wI k)).2⟩)
        (M.slice (Rect.unitDyn (s := S3x1024x1024) (k0_off46 (wI k)).1 (k0_off46 (wI k)).2 hq) h2) (⟨2, k0_sz7⟩ : Shape) hsq))
      (.dma sm) w1 w2 w3 : TpuEff nD τ sig (Elt F) Λ₀ .tc PUnit)
    = TpuEff.enqueueDma (blkG A 2 (Ring.bk 16 (k.val + 2))) (DmaTarget.here (slotG M (Ring.sl 3 (k.val + 2))) : DmaTarget nD τ sig (.tc : Proc τ) .vmem S1024x1024 .bf16)
        (.dma sm) (gate_src A hp h1 w1 (gateI2 k h)) (gate_dst (p := k0_off47 (wG k)) M hq h2 hsq w2 (gateI2 k h) (boxI k h)) ⟨Or.inl rfl, trivial⟩ :=
  gate_issue (gateI2 k h) (boxI k h) A M sm hp hq h1 h2 hsq w1 w2 w3
@[sl_canon] theorem cellOI (A : DmaSems sig S2) (hh) :
    (A.slice (Rect.unit (s := S2) (k0_off80 (wW k)) S1.size hh)).squeeze S_ squeezes_S1_S_ = csm2 A (Ring.sl 2 k.val) := csm2_congr A (cellO k) _
@[sl_canon] theorem slotOI (M : Memref sig .tc .vmem S2x1024x1024 .f32) (hh hs) :
    (M.slice (Rect.unit (s := S2x1024x1024) (k0_off82 (wW k)) S1x1024x1024.size hh) hs).squeeze S1024x1024 squeezes_S1x1024x1024_S1024x1024
      = slotO M (Ring.sl 2 k.val) := slotO_congr M (ringO k) _ _
@[sl_canon] theorem blkOI (M : Memref sig .tc .hbm S16384x1024 .f32) (hh hs) :
    M.slice (Rect.unit (s := S16384x1024) (k0_off81 (wG k)) S1024x1024.size hh) hs = blkH M (Ring.bk 16 k.val) := blkH_congr M (blockO k) _ _
@[sl_canon] theorem cellOW (A : DmaSems sig S2) (h : 1 ≤ k.val) (hh) :
    (A.slice (Rect.unit (s := S2) (k0_off83 (wT k)) S1.size hh)).squeeze S_ squeezes_S1_S_ = csm2 A (Ring.sl 2 (k.val + 1)) := csm2_congr A (cellT k h) _
@[sl_canon] theorem slotOW (M : Memref sig .tc .vmem S2x1024x1024 .f32) (h : 1 ≤ k.val) (hh hs) :
    (M.slice (Rect.unit (s := S2x1024x1024) (k0_off85 (wT k)) S1x1024x1024.size hh) hs).squeeze S1024x1024 squeezes_S1x1024x1024_S1024x1024
      = slotO M (Ring.sl 2 (k.val + 1)) := slotO_congr M (ringT k h) _ _
@[sl_canon] theorem blkOW (M : Memref sig .tc .hbm S16384x1024 .f32) (h : 1 ≤ k.val) (hh hs) :
    M.slice (Rect.unit (s := S16384x1024) (k0_off84 (wG k)) S1024x1024.size hh) hs = blkH M (Ring.bk 16 (k.val - 1)) := blkH_congr M (blockT k h) _ _

/-! The loads through a whole ring, and the store: the box is the slot. -/
instance : ClosedOff (k0_off72 (wW k)) := ⟨slotOff (Ring.sl 3 k.val), ringW k⟩
instance : ClosedOff (k0_off73 (wW k)) := ⟨slotOff (Ring.sl 3 k.val), ringW k⟩
instance : ClosedOff (k0_off74 (wW k)) := ⟨slotOff (Ring.sl 3 k.val), ringW k⟩
instance : ClosedOff (k0_off78 (wW k)) := ⟨slotOff (Ring.sl 3 k.val), ringW k⟩
instance : ClosedOff (k0_off79 (wW k)) := ⟨slotOff (Ring.sl 2 k.val), ringO k⟩

end Canon

end Cert.KernelIdeal.Merge
-- ==== Proof.Held.lean ====
/-
  What the pipeline holds — blocks at home, slots free, blocks on their way — and the block of the result a trip
  computes.
-/
module

public import proofs.«01_k».proof.Proof.Base
public import Idealize.ShloMosaic.Lib.Pipeline.FrameBody
public import Idealize.ShloMosaic.Lib.Pipeline.Value
public import Idealize.ShloMosaic.Lib.VecWindow

@[expose] public section

noncomputable section

namespace Cert.KernelIdeal.Merge

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The arrays and the buffers -/

abbrev oaM : Memref sig .tc .hbm S16384x256 .bf16 := Memref.whole main_arg0
abbrev obM : Memref sig .tc .hbm S16384x512 .bf16 := Memref.whole main_arg1
abbrev ocM : Memref sig .tc .hbm S16384x512 .bf16 := Memref.whole main_arg2
abbrev natM : Memref sig .tc .hbm S16384x4608 .bf16 := Memref.whole main_arg3
abbrev hM : Memref sig .tc .hbm S16384x1024 .f32 := Memref.whole main_arg4
abbrev outM : Memref sig .tc .hbm S16384x1024 .f32 := Memref.whole main_v5
abbrev aR : Memref sig .tc .vmem S3x1024x256 .bf16 := Memref.whole cc0_scoped0
abbrev bR : Memref sig .tc .vmem S3x1024x512 .bf16 := Memref.whole cc0_scoped2
abbrev cR : Memref sig .tc .vmem S3x1024x512 .bf16 := Memref.whole cc0_scoped4
abbrev g0R : Memref sig .tc .vmem S3x1024x1024 .bf16 := Memref.whole cc0_scoped6
abbrev g1R : Memref sig .tc .vmem S3x1024x1024 .bf16 := Memref.whole cc0_scoped8
abbrev g2R : Memref sig .tc .vmem S3x1024x1024 .bf16 := Memref.whole cc0_scoped10
abbrev hR : Memref sig .tc .vmem S3x1024x1024 .f32 := Memref.whole cc0_scoped12
abbrev waV : Memref sig .tc .vmem S256x1024 .bf16 := Memref.whole cc0_scoped14
abbrev wbV : Memref sig .tc .vmem S512x1024 .bf16 := Memref.whole cc0_scoped15
abbrev wcV : Memref sig .tc .vmem S512x1024 .bf16 := Memref.whole cc0_scoped16
abbrev woV : Memref sig .tc .vmem S1024x1024 .bf16 := Memref.whole cc0_scoped17
abbrev nmV : Memref sig .tc .vmem S1x1024 .f32 := Memref.whole cc0_scoped18
abbrev oR : Memref sig .tc .vmem S2x1024x1024 .f32 := Memref.whole cc0_scoped19

/-! ## What is held -/

section Held
variable (c : Dev nD)

/-- A memref's elements at contents `f`; a cell at zero. -/
abbrev pt {sp : Space} {s : Shape} {e : EltTy} (M : Memref sig .tc sp s e) (f : Buf (Elt F) (M.view.loc (c : Thread nD τ))) : sProp 𝕄 :=
  M.view.loc (c : Thread nD τ) ↦[M.view.set]{fullShare} f
abbrev cell0 (A : DmaSems sig S_) : sProp 𝕄 := semVal ((c : Thread nD τ), SemLoc.dma A.sem) 0
/-- A destination over `f` once a block's words `v` have landed in it. -/
abbrev landed {sp : Space} {s : Shape} {e : EltTy} (D : Memref sig .tc sp s e) (v : s.Idx → Elt F e) (f : Buf (Elt F) (D.view.loc (c : Thread nD τ))) :
    Buf (Elt F) (D.view.loc (c : Thread nD τ)) := D.view.writes (Elt F) f [⟨Rect.whole s, v⟩]
/-- A block's words. -/
abbrev rd {sp : Space} {s : Shape} {e : EltTy} (S : Memref sig .tc sp s e) (X : Buf (Elt F) (S.view.loc (c : Thread nD τ))) : s.Idx → Elt F e :=
  ReadAs.same.apply (S.view.read (Elt F) X)
/-- A transfer on its way, from `S` at `X` to `D` over `f`. -/
abbrev flight {sp sp' : Space} {s : Shape} {e : EltTy} (A : DmaSems sig S_) (N : ℕ) (D : Memref sig .tc sp s e) (S : Memref sig .tc sp' s e)
    (X : Buf (Elt F) (S.view.loc (c : Thread nD τ))) (f : Buf (Elt F) (D.view.loc (c : Thread nD τ))) : sProp 𝕄 :=
  Transfers.Flight countersEmb (c : Thread nD τ) (SemLoc.dma A.sem) () N iprop(pt c D (landed c D (rd c S X) f) ∗ pt c S X)

/-- The contents of the arrays the kernel reads by blocks. -/
structure Ins where
  a : Buf (Elt F) (oaM.view.loc (c : Thread nD τ))
  b : Buf (Elt F) (obM.view.loc (c : Thread nD τ))
  c' : Buf (Elt F) (ocM.view.loc (c : Thread nD τ))
  n : Buf (Elt F) (natM.view.loc (c : Thread nD τ))
  h : Buf (Elt F) (hM.view.loc (c : Thread nD τ))

variable (X : Ins (F := F) c)

/-- The seven blocks numbered `b`, at home. -/
def home (b : Fin 16) : sProp 𝕄 :=
  iprop(pt c (blkA oaM b) X.a ∗ pt c (blkB obM b) X.b ∗ pt c (blkB ocM b) X.c' ∗ pt c (blkG natM 0 b) X.n ∗ pt c (blkG natM 1 b) X.n
    ∗ pt c (blkG natM 2 b) X.n ∗ pt c (blkH hM b) X.h)
/-- The seven slots numbered `s`, with their cells, free. -/
def freeS (s : Fin 3) : sProp 𝕄 :=
  iprop((cell0 c (csm cc0_scoped1 s) ∗ ∃ f, pt (F := F) c (slotA aR s) f) ∗ (cell0 c (csm cc0_scoped3 s) ∗ ∃ f, pt (F := F) c (slotB bR s) f)
    ∗ (cell0 c (csm cc0_scoped5 s) ∗ ∃ f, pt (F := F) c (slotB cR s) f) ∗ (cell0 c (csm cc0_scoped7 s) ∗ ∃ f, pt (F := F) c (slotG g0R s) f)
    ∗ (cell0 c (csm cc0_scoped9 s) ∗ ∃ f, pt (F := F) c (slotG g1R s) f) ∗ (cell0 c (csm cc0_scoped11 s) ∗ ∃ f, pt (F := F) c (slotG g2R s) f)
    ∗ (cell0 c (csm cc0_scoped13 s) ∗ ∃ f, pt (F := F) c (slotH hR s) f))
/-- The seven blocks numbered `b` on their way into the slots numbered `s`. -/
def inflS (s : Fin 3) (b : Fin 16) : sProp 𝕄 :=
  iprop((∃ f, flight c (csm cc0_scoped1 s) 16384 (slotA aR s) (blkA oaM b) X.a f) ∗ (∃ f, flight c (csm cc0_scoped3 s) 32768 (slotB bR s) (blkB obM b) X.b f)
    ∗ (∃ f, flight c (csm cc0_scoped5 s) 32768 (slotB cR s) (blkB ocM b) X.c' f) ∗ (∃ f, flight c (csm cc0_scoped7 s) 65536 (slotG g0R s) (blkG natM 0 b) X.n f)
    ∗ (∃ f, flight c (csm cc0_scoped9 s) 65536 (slotG g1R s) (blkG natM 1 b) X.n f) ∗ (∃ f, flight c (csm cc0_scoped11 s) 65536 (slotG g2R s) (blkG natM 2 b) X.n f)
    ∗ (∃ f, flight c (csm cc0_scoped13 s) 131072 (slotH hR s) (blkH hM b) X.h f))

/-- The contents of the weights' buffers. -/
structure Ws where
  a : Buf (Elt F) (waV.view.loc (c : Thread nD τ))
  b : Buf (Elt F) (wbV.view.loc (c : Thread nD τ))
  c' : Buf (Elt F) (wcV.view.loc (c : Thread nD τ))
  o : Buf (Elt F) (woV.view.loc (c : Thread nD τ))
  n : Buf (Elt F) (nmV.view.loc (c : Thread nD τ))
variable (Y : Ws (F := F) c)
def wts : sProp 𝕄 := iprop(pt c waV Y.a ∗ pt c wbV Y.b ∗ pt c wcV Y.c' ∗ pt c woV Y.o ∗ pt c nmV Y.n)

/-- The loop's body at trip `k`, on the pipeline's words. -/
abbrev trip (k : Fin k0_t1_loop.trips) : Prog (TpuEff nD τ sig (Elt F) Λ₀ .tc) Words :=
  k0_t1_body (F := F) oaM (Memref.isWhole_whole _) obM (Memref.isWhole_whole _) ocM (Memref.isWhole_whole _) natM (Memref.isWhole_whole _)
    natM (Memref.isWhole_whole _) natM (Memref.isWhole_whole _) hM (Memref.isWhole_whole _)
    (Memref.whole main_v0) (Memref.isWhole_whole _) (Memref.whole main_v1) (Memref.isWhole_whole _) (Memref.whole main_v2) (Memref.isWhole_whole _)
    (Memref.whole main_v3) (Memref.isWhole_whole _) (Memref.whole main_v4) (Memref.isWhole_whole _) outM (Memref.isWhole_whole _)
    aR (Memref.isWhole_whole _) cc0_scoped1 bR (Memref.isWhole_whole _) cc0_scoped3 cR (Memref.isWhole_whole _) cc0_scoped5
    g0R (Memref.isWhole_whole _) cc0_scoped7 g1R (Memref.isWhole_whole _) cc0_scoped9 g2R (Memref.isWhole_whole _) cc0_scoped11
    hR (Memref.isWhole_whole _) cc0_scoped13 waV (Memref.isWhole_whole _) wbV (Memref.isWhole_whole _) wcV (Memref.isWhole_whole _)
    woV (Memref.isWhole_whole _) nmV (Memref.isWhole_whole _) oR (Memref.isWhole_whole _) cc0_scoped20
    cc0_scoped21 cc0_scoped22 cc0_scoped23 cc0_scoped24 cc0_scoped25
    1#32 1#32 1#32 1#32 2#32 2#32 2#32 2#32 1#1 1#32 k (words k.val)

/-! ## What a trip computes

The payloads of the body, from the blocks' words. -/

/-- The result's block, from what the trip loads: the three operands' blocks, the twelve pieces of the gates, the
    residual block, the twelve column pieces of the branch weights, the output weight and the norm's weight. -/
def mixed (va : Vec F S1x1024x256 .bf16) (vb vc : Vec F S1x1024x512 .bf16) (g : Fin 3 → Fin 4 → Vec F S1024x256 .bf16)
    (wa : Fin 4 → Vec F S256x256 .bf16) (wb wc : Fin 4 → Vec F S512x256 .bf16) (wo : Vec F S1024x1024 .bf16) : FVec F S1024x1024 .f32 :=
  k0_pay23 (k0_pay10 (k0_pay2 vb (wb 0)) (k0_pay5 (k0_pay3 vc) (k0_pay4 (wc 0))) (k0_pay9 (k0_pay1 va (wa 0)) (g 0 0)) (g 1 0) (g 2 0))
    (k0_pay16 (k0_pay8 vc (wc 1)) (k0_pay14 (k0_pay6 va (wa 1)) (k0_pay7 vb (wb 1)) (g 0 1) (g 1 1)) (k0_pay15 (g 2 1)) (FloatOps.ofBits .f32 1065353216#32))
    (k0_pay18 vb (wb 3)) (k0_pay19 vc (wc 3))
    (k0_pay21 (k0_pay12 vb (wb 2)) (k0_pay13 vc (wc 2)) (k0_pay20 (k0_pay11 va (wa 2)) (g 0 2)) (g 1 2) (g 2 2))
    (k0_pay22 (k0_pay17 va (wa 3)) (g 0 3)) (g 1 3) (g 2 3) wo
def sumsq (va : Vec F S1x1024x256 .bf16) (vb vc : Vec F S1x1024x512 .bf16) (g : Fin 3 → Fin 4 → Vec F S1024x256 .bf16)
    (wa : Fin 4 → Vec F S256x256 .bf16) (wb wc : Fin 4 → Vec F S512x256 .bf16) (wo : Vec F S1024x1024 .bf16) : FVec F S1024 .f32 :=
  k0_pay26 (k0_pay10 (k0_pay2 vb (wb 0)) (k0_pay5 (k0_pay3 vc) (k0_pay4 (wc 0))) (k0_pay9 (k0_pay1 va (wa 0)) (g 0 0)) (g 1 0) (g 2 0))
    (k0_pay16 (k0_pay8 vc (wc 1)) (k0_pay14 (k0_pay6 va (wa 1)) (k0_pay7 vb (wb 1)) (g 0 1) (g 1 1)) (k0_pay15 (g 2 1)) (FloatOps.ofBits .f32 1065353216#32))
    (k0_pay18 vb (wb 3)) (k0_pay19 vc (wc 3))
    (k0_pay21 (k0_pay12 vb (wb 2)) (k0_pay13 vc (wc 2)) (k0_pay20 (k0_pay11 va (wa 2)) (g 0 2)) (g 1 2) (g 2 2))
    (k0_pay22 (k0_pay17 va (wa 3)) (g 0 3)) (g 1 3) (g 2 3) wo
def stored (va : Vec F S1x1024x256 .bf16) (vb vc : Vec F S1x1024x512 .bf16) (g : Fin 3 → Fin 4 → Vec F S1024x256 .bf16) (vh : Vec F S1x1024x1024 .f32)
    (wa : Fin 4 → Vec F S256x256 .bf16) (wb wc : Fin 4 → Vec F S512x256 .bf16) (wo : Vec F S1024x1024 .bf16) (wn : Vec F S1x1024 .f32) :
    FVec F S1x1024x1024 .f32 :=
  k0_pay27 (mixed va vb vc g wa wb wc wo) (k0_pay24 vh) (k0_pay25 wn) (sumsq va vb vc g wa wb wc wo)

theorem stored_congr {va va' : Vec F S1x1024x256 .bf16} {vb vb' vc vc' : Vec F S1x1024x512 .bf16} {g g' : Fin 3 → Fin 4 → Vec F S1024x256 .bf16}
    {vh vh' : Vec F S1x1024x1024 .f32} {wa wa' : Fin 4 → Vec F S256x256 .bf16} {wb wb' wc wc' : Fin 4 → Vec F S512x256 .bf16} {wo wo' : Vec F S1024x1024 .bf16}
    {wn wn' : Vec F S1x1024 .f32} (ea : va = va') (eb : vb = vb') (ec : vc = vc') (eg : ∀ i j, g i j = g' i j) (eh : vh = vh') (e1 : wa = wa') (e2 : wb = wb')
    (e3 : wc = wc') (e4 : wo = wo') (e5 : wn = wn') : stored va vb vc g vh wa wb wc wo wn = stored va' vb' vc' g' vh' wa' wb' wc' wo' wn' := by
  obtain rfl : g = g' := funext fun i => funext fun j => eg i j
  subst ea eb ec eh e1 e2 e3 e4 e5; rfl

/-- Piece `j` of a wide array's columns. -/
abbrev colOff (j : Fin 4) : Fin 2 → ℕ := ![0, 256 * j.val]
theorem inb_col {R : ℕ} (j : Fin 4) : ∀ a, colOff j a + (![R, 256] : Fin 2 → ℕ) a ≤ (![R, 1024] : Fin 2 → ℕ) a := by
  have := j.2; intro a; fin_cases a <;> simp [colOff] <;> omega
abbrev piece {R : ℕ} {e : EltTy} (v : (⟨2, ![R, 1024]⟩ : Shape).Idx → Elt F e) (j : Fin 4) : (⟨2, ![R, 256]⟩ : Shape).Idx → Elt F e :=
  View.ld v (Rect.unit (s := ⟨2, ![R, 1024]⟩) (colOff j) ![R, 256] (inb_col j))

theorem casts3 {a b : ℕ} : (⟨2, ![a, b]⟩ : Shape).ShapeCasts ⟨3, ![1, a, b]⟩ := by
  show (⟨3, ![1, a, b]⟩ : Shape).numel = (⟨2, ![a, b]⟩ : Shape).numel
  simp [Shape.numel, Fin.prod_univ_succ]
/-- The result's block `b`. -/
def outB (b : Fin 16) : S1024x1024.Idx → Elt F .f32 :=
  shapeCast S1024x1024 (stored (shapeCast S1x1024x256 (rd c (blkA oaM b) X.a) casts3) (shapeCast S1x1024x512 (rd c (blkB obM b) X.b) casts3)
    (shapeCast S1x1024x512 (rd c (blkB ocM b) X.c') casts3) (fun i j => piece (rd c (blkG natM i b) X.n) j)
    (shapeCast S1x1024x1024 (rd c (blkH hM b) X.h) casts3)
    (piece (waV.view.read (Elt F) Y.a)) (piece (wbV.view.read (Elt F) Y.b)) (piece (wcV.view.read (Elt F) Y.c'))
    (woV.view.read (Elt F) Y.o) (nmV.view.read (Elt F) Y.n)) casts3.symm

omit [FloatOps F] in
theorem read_landed {sp : Space} {s : Shape} {e : EltTy} (D : View sig .tc sp s e) (v : s.Idx → Elt F e) (f) :
    D.read (Elt F) (D.writes (Elt F) f [⟨Rect.whole s, v⟩]) = v := by
  funext x
  have h := View.read_writes_cons_emb D f (Rect.whole s) v [] x
  rwa [Rect.emb_whole_apply] at h
omit [FloatOps F] in
/-- A load of a whole slot through its buffer, once the slot's words are `v`. -/
theorem load_slot {s s' : Shape} {e : EltTy} {sz : Fin s.rank → ℕ} (M : Memref sig .tc .vmem s e) {off off' : Fin s.rank → ℕ} (he : off' = off)
    (hh : ∀ a, off a + sz a ≤ s.size a) (hh' : ∀ a, off' a + sz a ≤ s.size a)
    (hq : (Rect.unit off sz hh).shape.Squeezes s') (hs) (f) (v : s'.Idx → Elt F e) (hc : s'.ShapeCasts (Rect.unit off' sz hh').shape) :
    M.view.readAt (Elt F) (Rect.unit off' sz hh').toLoadRect
      (((M.slice (Rect.unit off sz hh) hs).squeeze s' hq).view.writes (Elt F) f [⟨Rect.whole s', v⟩]) = shapeCast _ v hc := by
  subst he
  have h := read_landed ((M.slice (Rect.unit off' sz hh) hs).squeeze s' hq).view v f
  rw [Memref.read_squeeze_slice (hc := hq.numel_eq)] at h
  exact (shapeCast_shapeCast _ hq.numel_eq hc).symm.trans (congrArg (fun w => shapeCast _ w hc) h)
omit [FloatOps F] in
/-- A slot read after a store of it through its buffer. -/
theorem slot_stored {s s' : Shape} {e : EltTy} {sz : Fin s.rank → ℕ} (M : Memref sig .tc .vmem s e) {off off' : Fin s.rank → ℕ} (he : off' = off)
    (hh : ∀ a, off a + sz a ≤ s.size a) (hh' : ∀ a, off' a + sz a ≤ s.size a)
    (hq : (Rect.unit off sz hh).shape.Squeezes s') (hs) (f) (v : (Rect.unit off' sz hh').shape.Idx → Elt F e) (hc : (Rect.unit off' sz hh').shape.ShapeCasts s') :
    ((M.slice (Rect.unit off sz hh) hs).squeeze s' hq).view.read (Elt F) (View.write (Elt F) (M.access (Rect.unit off' sz hh')) f v Finset.univ)
      = shapeCast s' v hc := by
  subst he
  rw [Memref.read_squeeze_slice (hc := hq.numel_eq)]
  refine congrArg (fun w => shapeCast s' w hc) ?_
  exact View.read_write_univ _ _
/-- A load of a piece of the columns of a landed gate. -/
theorem load_piece (D : Memref sig .tc .vmem S1024x1024 .bf16) (v : S1024x1024.Idx → Elt F .bf16) (j : Fin 4) {off : Fin 2 → ℕ} (he : off = colOff j)
    (hh : ∀ a, off a + S1024x256.size a ≤ S1024x1024.size a) :
    D.view.readCov [⟨Rect.whole S1024x1024, v⟩] (Rect.unit (s := S1024x1024) off S1024x256.size hh).toLoadRect = piece v j := by
  subst he
  exact congrArg (fun w => piece w j) (read_landed D.view v _)
omit [FloatOps F] in
theorem load_cols {R : ℕ} {e : EltTy} (D : Memref sig .tc .vmem ⟨2, ![R, 1024]⟩ e) (f : Buf (Elt F) (D.view.loc (c : Thread nD τ))) (j : Fin 4) {off : Fin 2 → ℕ}
    (he : off = colOff j) (hh : ∀ a, off a + (![R, 256] : Fin 2 → ℕ) a ≤ (![R, 1024] : Fin 2 → ℕ) a) :
    D.view.readAt (Elt F) (Rect.unit (s := ⟨2, ![R, 1024]⟩) off ![R, 256] hh).toLoadRect f = piece (D.view.read (Elt F) f) j := by
  subst he; rfl
omit [FloatOps F] in
theorem load_whole {R C : ℕ} {e : EltTy} (D : Memref sig .tc .vmem ⟨2, ![R, C]⟩ e) (f : Buf (Elt F) (D.view.loc (c : Thread nD τ)))
    (hh : ∀ a, (![0, 0] : Fin 2 → ℕ) a + (![R, C] : Fin 2 → ℕ) a ≤ (![R, C] : Fin 2 → ℕ) a) :
    D.view.readAt (Elt F) (Rect.unit (s := ⟨2, ![R, C]⟩) ![0, 0] ![R, C] hh).toLoadRect f = D.view.read (Elt F) f := by
  exact View.readAt_full (Val := Elt F) D.view f (off := ![0, 0]) hh

omit [FloatOps F] in
theorem load_slotA (M : Memref sig .tc .vmem S3x1024x256 .bf16) (s : Fin 3) {off : Fin 3 → ℕ} (he : off = slotOff s) (hh) (v f) (hc) :
    M.view.readAt (Elt F) (Rect.unit (s := S3x1024x256) off S1x1024x256.size hh).toLoadRect (landed c (slotA M s) v f) = shapeCast S1x1024x256 v hc :=
  load_slot M he _ _ squeezes_S1x1024x256_S1024x256 _ _ _ _
omit [FloatOps F] in
theorem load_slotB (M : Memref sig .tc .vmem S3x1024x512 .bf16) (s : Fin 3) {off : Fin 3 → ℕ} (he : off = slotOff s) (hh) (v f) (hc) :
    M.view.readAt (Elt F) (Rect.unit (s := S3x1024x512) off S1x1024x512.size hh).toLoadRect (landed c (slotB M s) v f) = shapeCast S1x1024x512 v hc :=
  load_slot M he _ _ squeezes_S1x1024x512_S1024x512 _ _ _ _
omit [FloatOps F] in
theorem load_slotH (M : Memref sig .tc .vmem S3x1024x1024 .f32) (s : Fin 3) {off : Fin 3 → ℕ} (he : off = slotOff s) (hh) (v f) (hc) :
    M.view.readAt (Elt F) (Rect.unit (s := S3x1024x1024) off S1x1024x1024.size hh).toLoadRect (landed c (slotH M s) v f) = shapeCast S1x1024x1024 v hc :=
  load_slot M he _ _ squeezes_S1x1024x1024_S1024x1024 _ _ _ _
omit [FloatOps F] in
theorem slotO_stored (M : Memref sig .tc .vmem S2x1024x1024 .f32) (s : Fin 2) {off : Fin 3 → ℕ} (he : off = slotOff s) (hh)
    (v : Vec F S1x1024x1024 .f32) (f : Buf (Elt F) ((slotO M s).view.loc (c : Thread nD τ))) (hc) :
    rd c (slotO M s) (View.write (Elt F) (M.access (Rect.unit (s := S2x1024x1024) off S1x1024x1024.size hh)) f v Finset.univ) = shapeCast S1024x1024 v hc :=
  slot_stored M he _ _ squeezes_S1x1024x1024_S1024x1024 _ _ _ _

/-! ## The trip's loads and its store, as it spells them -/

section AsSpelt
variable (k : Fin k0_t1_loop.trips) (q2 : k0_chk2 (wW k.val)) (q3 : k0_chk3 (wW k.val)) (q4 : k0_chk4 (wW k.val)) (q8 : k0_chk8 (wW k.val)) (q9 : k0_chk9 (wW k.val))

/-- What the trip stores, as it loads it. -/
def storedAt : FVec F S1x1024x1024 .f32 :=
  stored
    (aR.view.readAt (Elt F) (Rect.unit (s := S3x1024x256) (k0_off72 (wW k)) S1x1024x256.size (k0_off72_inb _ q2)).toLoadRect
      (landed c (slotA aR (Ring.sl 3 k.val)) (rd c (blkA oaM (Ring.bk 16 k.val)) X.a) (slotA aR (Ring.sl 3 k.val)).view.junk))
    (bR.view.readAt (Elt F) (Rect.unit (s := S3x1024x512) (k0_off73 (wW k)) S1x1024x512.size (k0_off73_inb _ q3)).toLoadRect
      (landed c (slotB bR (Ring.sl 3 k.val)) (rd c (blkB obM (Ring.bk 16 k.val)) X.b) (slotB bR (Ring.sl 3 k.val)).view.junk))
    (cR.view.readAt (Elt F) (Rect.unit (s := S3x1024x512) (k0_off74 (wW k)) S1x1024x512.size (k0_off74_inb _ q4)).toLoadRect
      (landed c (slotB cR (Ring.sl 3 k.val)) (rd c (blkB ocM (Ring.bk 16 k.val)) X.c') (slotB cR (Ring.sl 3 k.val)).view.junk))
    (fun i j => (![slotG g0R (Ring.sl 3 k.val), slotG g1R (Ring.sl 3 k.val), slotG g2R (Ring.sl 3 k.val)] i).view.readCov
      [⟨Rect.whole S1024x1024, rd c (blkG natM i (Ring.bk 16 k.val)) X.n⟩] (Rect.unit (s := S1024x1024) (colOff j) S1024x256.size (inb_col j)).toLoadRect)
    (hR.view.readAt (Elt F) (Rect.unit (s := S3x1024x1024) (k0_off78 (wW k)) S1x1024x1024.size (k0_off78_inb _ q8)).toLoadRect
      (landed c (slotH hR (Ring.sl 3 k.val)) (rd c (blkH hM (Ring.bk 16 k.val)) X.h) (slotH hR (Ring.sl 3 k.val)).view.junk))
    (fun j => waV.view.readAt (Elt F) (Rect.unit (s := S256x1024) (colOff j) S256x256.size (inb_col j)).toLoadRect Y.a)
    (fun j => wbV.view.readAt (Elt F) (Rect.unit (s := S512x1024) (colOff j) S512x256.size (inb_col j)).toLoadRect Y.b)
    (fun j => wcV.view.readAt (Elt F) (Rect.unit (s := S512x1024) (colOff j) S512x256.size (inb_col j)).toLoadRect Y.c')
    (woV.view.readAt (Elt F) (Rect.unit (s := S1024x1024) ![0, 0] S1024x1024.size inb_S1024x1024_S1024x1024_0_0).toLoadRect Y.o)
    (nmV.view.readAt (Elt F) (Rect.unit (s := S1x1024) ![0, 0] S1x1024.size inb_S1x1024_S1x1024_0_0).toLoadRect Y.n)

set_option backward.isDefEq.respectTransparency false in
theorem out_read (fo : Buf (Elt F) ((slotO oR (Ring.sl 2 k.val)).view.loc (c : Thread nD τ))) :
    rd c (slotO oR (Ring.sl 2 k.val)) (View.write (Elt F) (oR.access (Rect.unit (s := S2x1024x1024) (k0_off79 (wW k)) S1x1024x1024.size (k0_off79_inb _ q9))) fo
      (storedAt c X Y k q2 q3 q4 q8) Finset.univ) = outB c X Y (Ring.bk 16 k.val) := by
  refine (slotO_stored c oR _ (ringO k : k0_off79 (wW k) = _) _ _ _ casts3.symm).trans ?_
  refine congrArg (fun w => shapeCast S1024x1024 w casts3.symm) (stored_congr (load_slotA c aR _ (ringW k) _ _ _ casts3) (load_slotB c bR _ (ringW k) _ _ _ casts3)
    (load_slotB c cR _ (ringW k) _ _ _ casts3) (fun i j => load_piece _ _ j rfl _) (load_slotH c hR _ (ringW k) _ _ _ casts3)
    (funext fun j => load_cols c waV _ j rfl _) (funext fun j => load_cols c wbV _ j rfl _) (funext fun j => load_cols c wcV _ j rfl _)
    (load_whole c woV _ _) (load_whole c nmV _ _))
end AsSpelt

end Held

end Cert.KernelIdeal.Merge
-- ==== Proof.Trip.lean ====
/-
  One trip of the pipeline's loop: the next block but one is started, the block at hand is waited for, read and worked
  on, its result is started on its way out, and the result before it waited for. The first trip has no result before
  it; the last two start no block.
-/
module

public import proofs.«01_k».proof.Proof.Held

@[expose] public section

noncomputable section

namespace Cert.KernelIdeal.Merge

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD) (X : Ins (F := F) c) (Y : Ws (F := F) c) (Z : Buf (Elt F) (outM.view.loc (c : Thread nD τ)))

/-- The result's slot `s`, free. -/
def freeO (s : Fin 2) : sProp 𝕄 := iprop(cell0 c (csm2 cc0_scoped20 s) ∗ ∃ f, pt (F := F) c (slotO oR s) f)
/-- Block `b` of the result on its way from slot `s`, over `Z`. -/
def outF (s : Fin 2) (b : Fin 16) : sProp 𝕄 :=
  iprop(∃ f, ⌜rd c (slotO oR s) f = outB c X Y b⌝ ∗ flight c (csm2 cc0_scoped20 s) 131072 (blkH outM b) (slotO oR s) f Z)
/-- Block `b` of the result, landed. -/
def doneO (b : Fin 16) : sProp 𝕄 := pt c (blkH outM b) (landed c (blkH outM b) (outB c X Y b) Z)
/-- What the trip owes at its waits: nothing. -/
def idle : sProp 𝕄 := iprop(∃ W, owes (c : Thread nD τ) 0 W)

theorem words_ext {k : ℕ} {i w p t g : BitVec 32} (hi : i = wI k) (hw : w = wW k) (hp : p = wP k) (ht : t = wT k) (hg : g = wG k) :
    ((i, w, i, w, i, w, i, w, i, w, i, w, i, w, p, p, p, p, p, w, t, g) : Words) = words k := by
  subst hi hw hp ht hg; rfl
omit [FloatOps F] in
theorem to_words {P : sProp 𝕄} {Q : Words → sProp 𝕄} {w w' : Words} (h : Entails' P (Q w')) (e : w = w') : Entails' P (Q w) := by rw [e]; exact h

set_option backward.proofsInPublic true in
set_option backward.isDefEq.respectTransparency false in
theorem tripMid (k : Fin k0_t1_loop.trips) (h1 : 1 ≤ k.val) (h14 : k.val < 14) (Q : Words → sProp 𝕄) :
    iprop((inflS c X (Ring.sl 3 k.val) (Ring.bk 16 k.val) ∗ wts c Y ∗ freeO c (Ring.sl 2 k.val) ∗ pt c (blkH outM (Ring.bk 16 k.val)) Z ∗ idle c ∗ outF c X Y Z (Ring.sl 2 (k.val + 1)) (Ring.bk 16 (k.val - 1)) ∗ home c X (Ring.bk 16 (k.val + 2)) ∗ freeS c (Ring.sl 3 (k.val + 2)))
        ∗ (home c X (Ring.bk 16 k.val) ∗ freeS c (Ring.sl 3 k.val) ∗ wts c Y ∗ outF c X Y Z (Ring.sl 2 k.val) (Ring.bk 16 k.val) ∗ idle c ∗ freeO c (Ring.sl 2 (k.val + 1)) ∗ doneO c X Y Z (Ring.bk 16 (k.val - 1)) ∗ inflS c X (Ring.sl 3 (k.val + 2)) (Ring.bk 16 (k.val + 2))
          -∗ Q (words (k.val + 1))))
      ⊢ wp frame (wpE (defs₀ (F := F)) 𝒱₀ (c : Thread nD τ) none) Set.univ (trip k) Q := by
  obtain ⟨i1, i2, i3, i4, i5, i6, i7⟩ := condI k h14
  have t1 := condT k h1
  obtain ⟨v1, v2, v3, v4, v5, v6, v7, v8⟩ := condW k
  obtain ⟨q2, q3, q4, q5, q6, q7, q8, q9⟩ := chkW k
  have q1 := chkAll k
  unfold home inflS freeS wts freeO outF idle
  iintro ⟨⟨⟨⟨%fa, FA⟩, ⟨%fb, FB⟩, ⟨%fc, FC⟩, ⟨%fg0, FG0⟩, ⟨%fg1, FG1⟩, ⟨%fg2, FG2⟩, ⟨%fh, FH⟩⟩, ⟨WA, WB, WC, WO, WN⟩, ⟨CO, ⟨%fo, SO⟩⟩, BO, ⟨%W, HW⟩, ⟨%fs, %hv, FO⟩, ⟨HA, HB, HC, HG0, HG1, HG2, HH⟩, ⟨⟨CA, ⟨%ga, SA⟩⟩, ⟨CB, ⟨%gb, SB⟩⟩, ⟨CC, ⟨%gc, SC⟩⟩, ⟨CG0, ⟨%gg0, SG0⟩⟩, ⟨CG1, ⟨%gg1, SG1⟩⟩, ⟨CG2, ⟨%gg2, SG2⟩⟩, ⟨CH, ⟨%gh, SH⟩⟩⟩⟩, Hk⟩
  dsimp only [trip]
  sl_unfold [k0_t1_body]
  sl_exec
  sl_step
  refine (to_words (w' := words (k.val + 1)) ?_ (words_ext (by clear * - h1 h14; revert k; decide) (by clear * - h1 h14; revert k; decide)
    (by clear * - h1 h14; revert k; decide) (by clear * - h1 h14; revert k; decide) (by clear * - h1 h14; revert k; decide)))
  iapply Hk
  isplitl [FA_src FB_src FC_src FG0_src FG1_src FG2_src FH_src]
  · isplitl [FA_src]; · iexact FA_src
    isplitl [FB_src]; · iexact FB_src
    isplitl [FC_src]; · iexact FC_src
    isplitl [FG0_src]; · iexact FG0_src
    isplitl [FG1_src]; · iexact FG1_src
    isplitl [FG2_src]; · iexact FG2_src
    iexact FH_src
  isplitl [FA FB FC FG0 FG1 FG2 FH FA_dst FB_dst FC_dst FG0_dst FG1_dst FG2_dst FH_dst]
  · isplitl [FA FA_dst]; · isplitl [FA]; · iexact FA
                           · iexists _; iexact FA_dst
    isplitl [FB FB_dst]; · isplitl [FB]; · iexact FB
                           · iexists _; iexact FB_dst
    isplitl [FC FC_dst]; · isplitl [FC]; · iexact FC
                           · iexists _; iexact FC_dst
    isplitl [FG0 FG0_dst]; · isplitl [FG0]; · iexact FG0
                             · iexists _; iexact FG0_dst
    isplitl [FG1 FG1_dst]; · isplitl [FG1]; · iexact FG1
                             · iexists _; iexact FG1_dst
    isplitl [FG2 FG2_dst]; · isplitl [FG2]; · iexact FG2
                             · iexists _; iexact FG2_dst
    isplitl [FH]; · iexact FH
    iexists _; iexact FH_dst
  isplitl [WA WB WC WO WN]
  · isplitl [WA]; · iexact WA
    isplitl [WB]; · iexact WB
    isplitl [WC]; · iexact WC
    isplitl [WO]; · iexact WO
    iexact WN
  isplitl [CO]
  · iexists _; isplitr
    · ipureintro; exact out_read c X Y k q2 q3 q4 q8 q9 fo
    iexact CO
  isplitl [HW]; · iexists _; iexact HW
  isplitl [FO FO_src]
  · isplitl [FO]; · iexact FO
    iexists _; iexact FO_src
  isplitl [FO_dst]
  · unfold doneO; rw [← hv]; iexact FO_dst
  · isplitl [CA]; · iexists _; iexact CA
    isplitl [CB]; · iexists _; iexact CB
    isplitl [CC]; · iexists _; iexact CC
    isplitl [CG0]; · iexists _; iexact CG0
    isplitl [CG1]; · iexists _; iexact CG1
    isplitl [CG2]; · iexists _; iexact CG2
    iexists _; iexact CH

set_option backward.proofsInPublic true in
set_option backward.isDefEq.respectTransparency false in
theorem tripFirst (k : Fin k0_t1_loop.trips) (h1 : k.val = 0) (Q : Words → sProp 𝕄) :
    iprop((inflS c X (Ring.sl 3 k.val) (Ring.bk 16 k.val) ∗ wts c Y ∗ freeO c (Ring.sl 2 k.val) ∗ pt c (blkH outM (Ring.bk 16 k.val)) Z ∗ idle c ∗ home c X (Ring.bk 16 (k.val + 2)) ∗ freeS c (Ring.sl 3 (k.val + 2)))
        ∗ (home c X (Ring.bk 16 k.val) ∗ freeS c (Ring.sl 3 k.val) ∗ wts c Y ∗ outF c X Y Z (Ring.sl 2 k.val) (Ring.bk 16 k.val) ∗ idle c ∗ inflS c X (Ring.sl 3 (k.val + 2)) (Ring.bk 16 (k.val + 2))
          -∗ Q (words (k.val + 1))))
      ⊢ wp frame (wpE (defs₀ (F := F)) 𝒱₀ (c : Thread nD τ) none) Set.univ (trip k) Q := by
  obtain ⟨i1, i2, i3, i4, i5, i6, i7⟩ := condI k (by omega)
  have t1 := condT' k (by omega)
  obtain ⟨v1, v2, v3, v4, v5, v6, v7, v8⟩ := condW k
  obtain ⟨q2, q3, q4, q5, q6, q7, q8, q9⟩ := chkW k
  have q1 := chkAll k
  unfold home inflS freeS wts freeO outF idle
  iintro ⟨⟨⟨⟨%fa, FA⟩, ⟨%fb, FB⟩, ⟨%fc, FC⟩, ⟨%fg0, FG0⟩, ⟨%fg1, FG1⟩, ⟨%fg2, FG2⟩, ⟨%fh, FH⟩⟩, ⟨WA, WB, WC, WO, WN⟩, ⟨CO, ⟨%fo, SO⟩⟩, BO, ⟨%W, HW⟩, ⟨HA, HB, HC, HG0, HG1, HG2, HH⟩, ⟨⟨CA, ⟨%ga, SA⟩⟩, ⟨CB, ⟨%gb, SB⟩⟩, ⟨CC, ⟨%gc, SC⟩⟩, ⟨CG0, ⟨%gg0, SG0⟩⟩, ⟨CG1, ⟨%gg1, SG1⟩⟩, ⟨CG2, ⟨%gg2, SG2⟩⟩, ⟨CH, ⟨%gh, SH⟩⟩⟩⟩, Hk⟩
  dsimp only [trip]
  sl_unfold [k0_t1_body]
  sl_exec
  sl_step
  refine (to_words (w' := words (k.val + 1)) ?_ (words_ext (by clear * - h1; revert k; decide) (by clear * - h1; revert k; decide)
    (by clear * - h1; revert k; decide) (by clear * - h1; revert k; decide) (by clear * - h1; revert k; decide)))
  iapply Hk
  isplitl [FA_src FB_src FC_src FG0_src FG1_src FG2_src FH_src]
  · isplitl [FA_src]; · iexact FA_src
    isplitl [FB_src]; · iexact FB_src
    isplitl [FC_src]; · iexact FC_src
    isplitl [FG0_src]; · iexact FG0_src
    isplitl [FG1_src]; · iexact FG1_src
    isplitl [FG2_src]; · iexact FG2_src
    iexact FH_src
  isplitl [FA FB FC FG0 FG1 FG2 FH FA_dst FB_dst FC_dst FG0_dst FG1_dst FG2_dst FH_dst]
  · isplitl [FA FA_dst]; · isplitl [FA]; · iexact FA
                           · iexists _; iexact FA_dst
    isplitl [FB FB_dst]; · isplitl [FB]; · iexact FB
                           · iexists _; iexact FB_dst
    isplitl [FC FC_dst]; · isplitl [FC]; · iexact FC
                           · iexists _; iexact FC_dst
    isplitl [FG0 FG0_dst]; · isplitl [FG0]; · iexact FG0
                             · iexists _; iexact FG0_dst
    isplitl [FG1 FG1_dst]; · isplitl [FG1]; · iexact FG1
                             · iexists _; iexact FG1_dst
    isplitl [FG2 FG2_dst]; · isplitl [FG2]; · iexact FG2
                             · iexists _; iexact FG2_dst
    isplitl [FH]; · iexact FH
    iexists _; iexact FH_dst
  isplitl [WA WB WC WO WN]
  · isplitl [WA]; · iexact WA
    isplitl [WB]; · iexact WB
    isplitl [WC]; · iexact WC
    isplitl [WO]; · iexact WO
    iexact WN
  isplitl [CO]
  · iexists _; isplitr
    · ipureintro; exact out_read c X Y k q2 q3 q4 q8 q9 fo
    iexact CO
  isplitl [HW]; · iexists _; iexact HW
  · isplitl [CA]; · iexists _; iexact CA
    isplitl [CB]; · iexists _; iexact CB
    isplitl [CC]; · iexists _; iexact CC
    isplitl [CG0]; · iexists _; iexact CG0
    isplitl [CG1]; · iexists _; iexact CG1
    isplitl [CG2]; · iexists _; iexact CG2
    iexists _; iexact CH

set_option backward.proofsInPublic true in
set_option backward.isDefEq.respectTransparency false in
theorem tripLast (k : Fin k0_t1_loop.trips) (h14 : 14 ≤ k.val) (Q : Words → sProp 𝕄) :
    iprop((inflS c X (Ring.sl 3 k.val) (Ring.bk 16 k.val) ∗ wts c Y ∗ freeO c (Ring.sl 2 k.val) ∗ pt c (blkH outM (Ring.bk 16 k.val)) Z ∗ idle c ∗ outF c X Y Z (Ring.sl 2 (k.val + 1)) (Ring.bk 16 (k.val - 1)))
        ∗ (home c X (Ring.bk 16 k.val) ∗ freeS c (Ring.sl 3 k.val) ∗ wts c Y ∗ outF c X Y Z (Ring.sl 2 k.val) (Ring.bk 16 k.val) ∗ idle c ∗ freeO c (Ring.sl 2 (k.val + 1)) ∗ doneO c X Y Z (Ring.bk 16 (k.val - 1))
          -∗ Q (words (k.val + 1))))
      ⊢ wp frame (wpE (defs₀ (F := F)) 𝒱₀ (c : Thread nD τ) none) Set.univ (trip k) Q := by
  obtain ⟨i1, i2, i3, i4, i5, i6, i7⟩ := condI' k h14
  have t1 := condT k (by omega)
  obtain ⟨v1, v2, v3, v4, v5, v6, v7, v8⟩ := condW k
  obtain ⟨q2, q3, q4, q5, q6, q7, q8, q9⟩ := chkW k
  have q1 := chkAll k
  unfold home inflS freeS wts freeO outF idle
  iintro ⟨⟨⟨⟨%fa, FA⟩, ⟨%fb, FB⟩, ⟨%fc, FC⟩, ⟨%fg0, FG0⟩, ⟨%fg1, FG1⟩, ⟨%fg2, FG2⟩, ⟨%fh, FH⟩⟩, ⟨WA, WB, WC, WO, WN⟩, ⟨CO, ⟨%fo, SO⟩⟩, BO, ⟨%W, HW⟩, ⟨%fs, %hv, FO⟩⟩, Hk⟩
  dsimp only [trip]
  sl_unfold [k0_t1_body]
  sl_exec
  sl_step
  refine (to_words (w' := words (k.val + 1)) ?_ (words_ext (by clear * - h14; revert k; decide) (by clear * - h14; revert k; decide)
    (by clear * - h14; revert k; decide) (by clear * - h14; revert k; decide) (by clear * - h14; revert k; decide)))
  iapply Hk
  isplitl [FA_src FB_src FC_src FG0_src FG1_src FG2_src FH_src]
  · isplitl [FA_src]; · iexact FA_src
    isplitl [FB_src]; · iexact FB_src
    isplitl [FC_src]; · iexact FC_src
    isplitl [FG0_src]; · iexact FG0_src
    isplitl [FG1_src]; · iexact FG1_src
    isplitl [FG2_src]; · iexact FG2_src
    iexact FH_src
  isplitl [FA FB FC FG0 FG1 FG2 FH FA_dst FB_dst FC_dst FG0_dst FG1_dst FG2_dst FH_dst]
  · isplitl [FA FA_dst]; · isplitl [FA]; · iexact FA
                           · iexists _; iexact FA_dst
    isplitl [FB FB_dst]; · isplitl [FB]; · iexact FB
                           · iexists _; iexact FB_dst
    isplitl [FC FC_dst]; · isplitl [FC]; · iexact FC
                           · iexists _; iexact FC_dst
    isplitl [FG0 FG0_dst]; · isplitl [FG0]; · iexact FG0
                             · iexists _; iexact FG0_dst
    isplitl [FG1 FG1_dst]; · isplitl [FG1]; · iexact FG1
                             · iexists _; iexact FG1_dst
    isplitl [FG2 FG2_dst]; · isplitl [FG2]; · iexact FG2
                             · iexists _; iexact FG2_dst
    isplitl [FH]; · iexact FH
    iexists _; iexact FH_dst
  isplitl [WA WB WC WO WN]
  · isplitl [WA]; · iexact WA
    isplitl [WB]; · iexact WB
    isplitl [WC]; · iexact WC
    isplitl [WO]; · iexact WO
    iexact WN
  isplitl [CO]
  · iexists _; isplitr
    · ipureintro; exact out_read c X Y k q2 q3 q4 q8 q9 fo
    iexact CO
  isplitl [HW]; · iexists _; iexact HW
  isplitl [FO FO_src]
  · isplitl [FO]; · iexact FO
    iexists _; iexact FO_src
  unfold doneO; rw [← hv]; iexact FO_dst

end Cert.KernelIdeal.Merge
-- ==== Proof.Body.lean ====
/-
  The kernel's body: the weights are fetched, blocks 0 and 1 started, the sixteen trips run at the pipeline's
  invariant, and the last result waited for.
-/
module

public import proofs.«01_k».proof.Proof.Trip

@[expose] public section

noncomputable section

namespace Cert.KernelIdeal.Merge

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## The invariant -/

section Inv
variable (c : Dev nD) (X : Ins (F := F) c) (Y : Ws (F := F) c) (Z : Buf (Elt F) (outM.view.loc (c : Thread nD τ)))

/-- The slots of block `j`: the block on its way, or free past the last block. -/
def role (j : ℕ) : sProp 𝕄 := if j < 16 then inflS c X (Ring.sl 3 j) (Ring.bk 16 j) else freeS c (Ring.sl 3 j)
/-- The result's slot other than trip `k`'s: the result before on its way, free before trip 0. -/
def roleO (k : ℕ) : sProp 𝕄 := if 1 ≤ k then outF c X Y Z (Ring.sl 2 (k + 1)) (Ring.bk 16 (k - 1)) else freeO c (Ring.sl 2 (k + 1))
/-- The result's blocks landed, and those not yet computed, before trip `k`. -/
abbrev doneSet (k : ℕ) : Finset (Fin 16) := Finset.univ.filter fun b => b.val + 1 < k
abbrev restSet (k : ℕ) : Finset (Fin 16) := Finset.univ.filter fun b => k ≤ b.val
def invAt (k : ℕ) : sProp 𝕄 :=
  iprop(bigSep (Ring.homeSet 2 k) (home c X) ∗ role c X k ∗ role c X (k + 1) ∗ freeS c (Ring.sl 3 (k + 2)) ∗ freeO c (Ring.sl 2 k) ∗ roleO c X Y Z k
    ∗ bigSep (doneSet k) (doneO c X Y Z) ∗ bigSep (restSet k) (fun b => pt c (blkH outM b) Z) ∗ wts c Y ∗ idle c)

theorem homes_out (P : Fin 16 → sProp 𝕄) (k : ℕ) (h : k < 14) :
    bigSep (Ring.homeSet 2 k) P = iprop(P (Ring.bk 16 (k + 2)) ∗ bigSep ((Ring.homeSet 2 k).erase (Ring.bk 16 (k + 2))) P) := by
  conv_lhs => rw [Ring.homeSet_out 2 k (by omega), bigSep_insert (Ring.bkL_not_mem_erase 2 k)]
  rfl
theorem homes_in (P : Fin 16 → sProp 𝕄) (k : ℕ) (h : k < 14) :
    bigSep (Ring.homeSet 2 (k + 1)) P = iprop(P (Ring.bk 16 k) ∗ bigSep ((Ring.homeSet 2 k).erase (Ring.bk 16 (k + 2))) P) := by
  rw [Ring.homeSet_succ 2 k (by omega), bigSep_insert (Ring.bk_not_mem_erase 2 k (by omega) (by decide))]; rfl
theorem homes_tail (P : Fin 16 → sProp 𝕄) (k : ℕ) (h : 14 ≤ k) (h' : k < 16) :
    bigSep (Ring.homeSet 2 (k + 1)) P = iprop(P (Ring.bk 16 k) ∗ bigSep (Ring.homeSet 2 k) P) := by
  rw [Ring.homeSet_succ_tail 2 k (by omega) h', bigSep_insert (Ring.bk_not_mem_homeSet 2 k h' (by decide))]; rfl
theorem done_in (P : Fin 16 → sProp 𝕄) (k : ℕ) (h : 1 ≤ k) (h' : k < 17) :
    bigSep (doneSet (k + 1)) P = iprop(P (Ring.bk 16 (k - 1)) ∗ bigSep (doneSet k) P) := by
  have e : doneSet (k + 1) = insert (Ring.bk 16 (k - 1)) (doneSet k) := by
    ext b
    simp only [Finset.mem_filter, Finset.mem_univ, true_and, Finset.mem_insert, Fin.ext_iff, Ring.bk_val (show k - 1 < 16 by omega)]
    omega
  rw [e, bigSep_insert (by simp only [Finset.mem_filter, Finset.mem_univ, true_and, Ring.bk_val (show k - 1 < 16 by omega)]; omega)]; rfl
theorem rest_out (P : Fin 16 → sProp 𝕄) (k : ℕ) (h' : k < 16) :
    bigSep (restSet k) P = iprop(P (Ring.bk 16 k) ∗ bigSep (restSet (k + 1)) P) := by
  have e : restSet k = insert (Ring.bk 16 k) (restSet (k + 1)) := by
    ext b
    simp only [Finset.mem_filter, Finset.mem_univ, true_and, Finset.mem_insert, Fin.ext_iff, Ring.bk_val h']
    omega
  rw [e, bigSep_insert (by simp only [Finset.mem_filter, Finset.mem_univ, true_and, Ring.bk_val h']; omega)]; rfl

theorem sl3 (k : ℕ) : Ring.sl 3 (k + 1 + 2) = Ring.sl 3 k := Fin.ext (by simp [Ring.sl, Fin.ofNat]; omega)
theorem sl2 (k : ℕ) : Ring.sl 2 (k + 1 + 1) = Ring.sl 2 k := Fin.ext (by simp [Ring.sl, Fin.ofNat]; omega)

theorem role_in (j : ℕ) (h : j < 16) : role c X j = inflS c X (Ring.sl 3 j) (Ring.bk 16 j) := if_pos h
theorem role_out (j : ℕ) (h : ¬j < 16) : role c X j = freeS c (Ring.sl 3 j) := if_neg h
theorem roleO_in (k : ℕ) (h : 1 ≤ k) : roleO c X Y Z k = outF c X Y Z (Ring.sl 2 (k + 1)) (Ring.bk 16 (k - 1)) := if_pos h
theorem roleO_out : roleO c X Y Z 0 = freeO c (Ring.sl 2 1) := if_neg (by decide)

/-- One trip takes the invariant on. -/
theorem step (k : Fin k0_t1_loop.trips) :
    invAt c X Y Z k.val ⊢ wp frame (wpE (defs₀ (F := F)) 𝒱₀ (c : Thread nD τ) none) Set.univ (trip k)
      (fun acc => iprop(⌜acc = words (k.val + 1)⌝ ∗ invAt c X Y Z (k.val + 1))) := by
  have hk := lt16 k
  unfold invAt
  rw [rest_out _ k.val hk, role_in c X k.val hk, roleO_in c X Y Z (k.val + 1) (by omega), sl3, sl2, Nat.add_sub_cancel]
  rcases Nat.lt_or_ge k.val 14 with h14 | h14
  · rw [homes_out _ k.val h14, homes_in _ k.val h14, role_in c X (k.val + 1) (by omega), role_in c X (k.val + 1 + 1) (by omega)]
    rcases Nat.eq_zero_or_pos k.val with h0 | h1
    · rw [show roleO c X Y Z k.val = freeO c (Ring.sl 2 (k.val + 1)) from by rw [h0]; exact roleO_out c X Y Z,
        show doneSet (k.val + 1) = doneSet k.val from by
          rw [h0]; ext b; simp only [Finset.mem_filter, Finset.mem_univ, true_and]; omega]
      iintro ⟨⟨HO, HH⟩, H0, H1, H2, O0, O1, D, ⟨U0, U⟩, W, I⟩
      iapply (tripFirst c X Y Z k h0)
      isplitl [H0 W O0 U0 I HO H2]
      · isplitl [H0]; · iexact H0
        isplitl [W]; · iexact W
        isplitl [O0]; · iexact O0
        isplitl [U0]; · iexact U0
        isplitl [I]; · iexact I
        isplitl [HO]; · iexact HO
        iexact H2
      · iintro ⟨HO, H0, W, O0, I, H2⟩
        isplitr; · ipureintro; rfl
        isplitl [HO HH]; · isplitl [HO] <;> iassumption
        isplitl [H1]; · iexact H1
        isplitl [H2]; · iexact H2
        isplitl [H0]; · iexact H0
        isplitl [O1]; · iexact O1
        isplitl [O0]; · iexact O0
        isplitl [D]; · iexact D
        isplitl [U]; · iexact U
        isplitl [W] <;> iassumption
    · rw [roleO_in c X Y Z k.val h1, done_in _ k.val h1 (by omega)]
      iintro ⟨⟨HO, HH⟩, H0, H1, H2, O0, O1, D, ⟨U0, U⟩, W, I⟩
      iapply (tripMid c X Y Z k h1 h14)
      isplitl [H0 W O0 U0 I O1 HO H2]
      · isplitl [H0]; · iexact H0
        isplitl [W]; · iexact W
        isplitl [O0]; · iexact O0
        isplitl [U0]; · iexact U0
        isplitl [I]; · iexact I
        isplitl [O1]; · iexact O1
        isplitl [HO]; · iexact HO
        iexact H2
      · iintro ⟨HO, H0, W, O0, I, O1, D0, H2⟩
        isplitr; · ipureintro; rfl
        isplitl [HO HH]; · isplitl [HO] <;> iassumption
        isplitl [H1]; · iexact H1
        isplitl [H2]; · iexact H2
        isplitl [H0]; · iexact H0
        isplitl [O1]; · iexact O1
        isplitl [O0]; · iexact O0
        isplitl [D D0]; · isplitl [D0] <;> iassumption
        isplitl [U]; · iexact U
        isplitl [W] <;> iassumption
  · rw [homes_tail _ k.val h14 hk, role_out c X (k.val + 1 + 1) (by omega), roleO_in c X Y Z k.val (by omega), done_in _ k.val (by omega) (by omega)]
    iintro ⟨HH, H0, H1, H2, O0, O1, D, ⟨U0, U⟩, W, I⟩
    iapply (tripLast c X Y Z k h14)
    isplitl [H0 W O0 U0 I O1]
    · isplitl [H0]; · iexact H0
      isplitl [W]; · iexact W
      isplitl [O0]; · iexact O0
      isplitl [U0]; · iexact U0
      isplitl [I]; · iexact I
      iexact O1
    · iintro ⟨HO, H0, W, O0, I, O1, D0⟩
      isplitr; · ipureintro; rfl
      isplitl [HO HH]; · isplitl [HO] <;> iassumption
      isplitl [H1]; · iexact H1
      isplitl [H2]; · iexact H2
      isplitl [H0]; · iexact H0
      isplitl [O1]; · iexact O1
      isplitl [O0]; · iexact O0
      isplitl [D D0]; · isplitl [D0] <;> iassumption
      isplitl [U]; · iexact U
      isplitl [W] <;> iassumption
end Inv

/-! ## The slices before and after the loop by their names -/

section Canon

theorem boxP5 : k0_off5 = gateBox 0 (Ring.bk 16 0) := by decide
theorem boxP6 : k0_off6 = gateBox 1 (Ring.bk 16 0) := by decide
theorem boxP7 : k0_off7 = gateBox 2 (Ring.bk 16 0) := by decide
theorem boxP20 : k0_off20 = gateBox 0 (Ring.bk 16 1) := by decide
theorem boxP23 : k0_off23 = gateBox 1 (Ring.bk 16 1) := by decide
theorem boxP26 : k0_off26 = gateBox 2 (Ring.bk 16 1) := by decide
theorem boxQ4 : k0_off4 = ringBox (Ring.sl 3 0) := by decide
theorem boxQ19 : k0_off19 = ringBox (Ring.sl 3 1) := by decide
theorem boxQ22 : k0_off22 = ringBox (Ring.sl 3 1) := by decide
theorem boxQ25 : k0_off25 = ringBox (Ring.sl 3 1) := by decide
@[sl_canon] theorem cellB1 (A : DmaSems sig S3) (hh) :
    (A.slice (Rect.unit (s := S3) k0_off1 S1.size hh)).squeeze S_ squeezes_S1_S_ = csm A (Ring.sl 3 0) := csm_congr A (by decide) _
@[sl_canon] theorem cellB9 (A : DmaSems sig S3) (hh) :
    (A.slice (Rect.unit (s := S3) k0_off9 S1.size hh)).squeeze S_ squeezes_S1_S_ = csm A (Ring.sl 3 1) := csm_congr A (by decide) _
@[sl_canon] theorem cellB12 (A : DmaSems sig S3) (hh) :
    (A.slice (Rect.unit (s := S3) k0_off12 S1.size hh)).squeeze S_ squeezes_S1_S_ = csm A (Ring.sl 3 1) := csm_congr A (by decide) _
@[sl_canon] theorem cellB15 (A : DmaSems sig S3) (hh) :
    (A.slice (Rect.unit (s := S3) k0_off15 S1.size hh)).squeeze S_ squeezes_S1_S_ = csm A (Ring.sl 3 1) := csm_congr A (by decide) _
@[sl_canon] theorem cellB18 (A : DmaSems sig S3) (hh) :
    (A.slice (Rect.unit (s := S3) k0_off18 S1.size hh)).squeeze S_ squeezes_S1_S_ = csm A (Ring.sl 3 1) := csm_congr A (by decide) _
@[sl_canon] theorem cellB21 (A : DmaSems sig S3) (hh) :
    (A.slice (Rect.unit (s := S3) k0_off21 S1.size hh)).squeeze S_ squeezes_S1_S_ = csm A (Ring.sl 3 1) := csm_congr A (by decide) _
@[sl_canon] theorem cellB24 (A : DmaSems sig S3) (hh) :
    (A.slice (Rect.unit (s := S3) k0_off24 S1.size hh)).squeeze S_ squeezes_S1_S_ = csm A (Ring.sl 3 1) := csm_congr A (by decide) _
@[sl_canon] theorem cellB27 (A : DmaSems sig S3) (hh) :
    (A.slice (Rect.unit (s := S3) k0_off27 S1.size hh)).squeeze S_ squeezes_S1_S_ = csm A (Ring.sl 3 1) := csm_congr A (by decide) _
@[sl_canon] theorem cellE (A : DmaSems sig S2) (hh) :
    (A.slice (Rect.unit (s := S2) (k0_off86 (wT 16)) S1.size hh)).squeeze S_ squeezes_S1_S_ = csm2 A (Ring.sl 2 17) := csm2_congr A (by decide) _
@[sl_canon] theorem slotB2 (M : Memref sig .tc .vmem S3x1024x256 .bf16) (hh hs) :
    (M.slice (Rect.unit (s := S3x1024x256) k0_off2 S1x1024x256.size hh) hs).squeeze S1024x256 squeezes_S1x1024x256_S1024x256 = slotA M (Ring.sl 3 0) := slotA_congr M (by decide) _ _
@[sl_canon] theorem slotB10 (M : Memref sig .tc .vmem S3x1024x256 .bf16) (hh hs) :
    (M.slice (Rect.unit (s := S3x1024x256) k0_off10 S1x1024x256.size hh) hs).squeeze S1024x256 squeezes_S1x1024x256_S1024x256 = slotA M (Ring.sl 3 1) := slotA_congr M (by decide) _ _
@[sl_canon] theorem slotB3 (M : Memref sig .tc .vmem S3x1024x512 .bf16) (hh hs) :
    (M.slice (Rect.unit (s := S3x1024x512) k0_off3 S1x1024x512.size hh) hs).squeeze S1024x512 squeezes_S1x1024x512_S1024x512 = slotB M (Ring.sl 3 0) := slotB_congr M (by decide) _ _
@[sl_canon] theorem slotB13 (M : Memref sig .tc .vmem S3x1024x512 .bf16) (hh hs) :
    (M.slice (Rect.unit (s := S3x1024x512) k0_off13 S1x1024x512.size hh) hs).squeeze S1024x512 squeezes_S1x1024x512_S1024x512 = slotB M (Ring.sl 3 1) := slotB_congr M (by decide) _ _
@[sl_canon] theorem slotB16 (M : Memref sig .tc .vmem S3x1024x512 .bf16) (hh hs) :
    (M.slice (Rect.unit (s := S3x1024x512) k0_off16 S1x1024x512.size hh) hs).squeeze S1024x512 squeezes_S1x1024x512_S1024x512 = slotB M (Ring.sl 3 1) := slotB_congr M (by decide) _ _
@[sl_canon] theorem slotB8 (M : Memref sig .tc .vmem S3x1024x1024 .f32) (hh hs) :
    (M.slice (Rect.unit (s := S3x1024x1024) k0_off8 S1x1024x1024.size hh) hs).squeeze S1024x1024 squeezes_S1x1024x1024_S1024x1024 = slotH M (Ring.sl 3 0) := slotH_congr M (by decide) _ _
@[sl_canon] theorem slotB28 (M : Memref sig .tc .vmem S3x1024x1024 .f32) (hh hs) :
    (M.slice (Rect.unit (s := S3x1024x1024) k0_off28 S1x1024x1024.size hh) hs).squeeze S1024x1024 squeezes_S1x1024x1024_S1024x1024 = slotH M (Ring.sl 3 1) := slotH_congr M (by decide) _ _
@[sl_canon] theorem slotE (M : Memref sig .tc .vmem S2x1024x1024 .f32) (hh hs) :
    (M.slice (Rect.unit (s := S2x1024x1024) (k0_off88 (wT 16)) S1x1024x1024.size hh) hs).squeeze S1024x1024 squeezes_S1x1024x1024_S1024x1024 = slotO M (Ring.sl 2 17) := slotO_congr M (by decide) _ _
@[sl_canon] theorem blkBA00 (M : Memref sig .tc .hbm S16384x256 .bf16) (hh hs) :
    M.slice (Rect.unit (s := S16384x256) ![0, 0] S1024x256.size hh) hs = blkA M (Ring.bk 16 0) := blkA_congr M (by decide) _ _
@[sl_canon] theorem blkBAk0off11 (M : Memref sig .tc .hbm S16384x256 .bf16) (hh hs) :
    M.slice (Rect.unit (s := S16384x256) k0_off11 S1024x256.size hh) hs = blkA M (Ring.bk 16 1) := blkA_congr M (by decide) _ _
@[sl_canon] theorem blkBB00 (M : Memref sig .tc .hbm S16384x512 .bf16) (hh hs) :
    M.slice (Rect.unit (s := S16384x512) ![0, 0] S1024x512.size hh) hs = blkB M (Ring.bk 16 0) := blkB_congr M (by decide) _ _
@[sl_canon] theorem blkBBk0off14 (M : Memref sig .tc .hbm S16384x512 .bf16) (hh hs) :
    M.slice (Rect.unit (s := S16384x512) k0_off14 S1024x512.size hh) hs = blkB M (Ring.bk 16 1) := blkB_congr M (by decide) _ _
@[sl_canon] theorem blkBBk0off17 (M : Memref sig .tc .hbm S16384x512 .bf16) (hh hs) :
    M.slice (Rect.unit (s := S16384x512) k0_off17 S1024x512.size hh) hs = blkB M (Ring.bk 16 1) := blkB_congr M (by decide) _ _
@[sl_canon] theorem blkBH00 (M : Memref sig .tc .hbm S16384x1024 .f32) (hh hs) :
    M.slice (Rect.unit (s := S16384x1024) ![0, 0] S1024x1024.size hh) hs = blkH M (Ring.bk 16 0) := blkH_congr M (by decide) _ _
@[sl_canon] theorem blkBHk0off29 (M : Memref sig .tc .hbm S16384x1024 .f32) (hh hs) :
    M.slice (Rect.unit (s := S16384x1024) k0_off29 S1024x1024.size hh) hs = blkH M (Ring.bk 16 1) := blkH_congr M (by decide) _ _
@[sl_canon] theorem blkBHk0off87wG16 (M : Memref sig .tc .hbm S16384x1024 .f32) (hh hs) :
    M.slice (Rect.unit (s := S16384x1024) (k0_off87 (wG 16)) S1024x1024.size hh) hs = blkH M (Ring.bk 16 15) := blkH_congr M (by decide) _ _
@[sl_canon] theorem issueB5 (A : Memref sig .tc .hbm S16384x4608 .bf16) (M : Memref sig .tc .vmem S3x1024x1024 .bf16) (sm : DmaSem sig)
    (hp hq h1 h2 hsq w1 w2 w3) :
    (TpuEff.enqueueDma (s := ⟨2, k0_off5.2⟩) (A.slice (Rect.unitDyn (s := S16384x4608) k0_off5.1 k0_off5.2 hp) h1)
      (.here (s := ⟨2, k0_off5.2⟩) (Memref.squeeze (s := ⟨3, k0_off4.2⟩)
        (M.slice (Rect.unitDyn (s := S3x1024x1024) k0_off4.1 k0_off4.2 hq) h2) (⟨2, k0_sz1⟩ : Shape) hsq))
      (.dma sm) w1 w2 w3 : TpuEff nD τ sig (Elt F) Λ₀ .tc PUnit)
    = TpuEff.enqueueDma (blkG A 0 (Ring.bk 16 0)) (DmaTarget.here (slotG M (Ring.sl 3 0)) : DmaTarget nD τ sig (.tc : Proc τ) .vmem S1024x1024 .bf16)
        (.dma sm) (gate_src A hp h1 w1 (boxP5)) (gate_dst (p := k0_off5) M hq h2 hsq w2 boxP5 boxQ4) ⟨Or.inl rfl, trivial⟩ :=
  gate_issue boxP5 boxQ4 A M sm hp hq h1 h2 hsq w1 w2 w3
@[sl_canon] theorem issueB6 (A : Memref sig .tc .hbm S16384x4608 .bf16) (M : Memref sig .tc .vmem S3x1024x1024 .bf16) (sm : DmaSem sig)
    (hp hq h1 h2 hsq w1 w2 w3) :
    (TpuEff.enqueueDma (s := ⟨2, k0_off6.2⟩) (A.slice (Rect.unitDyn (s := S16384x4608) k0_off6.1 k0_off6.2 hp) h1)
      (.here (s := ⟨2, k0_off6.2⟩) (Memref.squeeze (s := ⟨3, k0_off4.2⟩)
        (M.slice (Rect.unitDyn (s := S3x1024x1024) k0_off4.1 k0_off4.2 hq) h2) (⟨2, k0_sz1⟩ : Shape) hsq))
      (.dma sm) w1 w2 w3 : TpuEff nD τ sig (Elt F) Λ₀ .tc PUnit)
    = TpuEff.enqueueDma (blkG A 1 (Ring.bk 16 0)) (DmaTarget.here (slotG M (Ring.sl 3 0)) : DmaTarget nD τ sig (.tc : Proc τ) .vmem S1024x1024 .bf16)
        (.dma sm) (gate_src A hp h1 w1 (boxP6)) (gate_dst (p := k0_off6) M hq h2 hsq w2 boxP6 boxQ4) ⟨Or.inl rfl, trivial⟩ :=
  gate_issue boxP6 boxQ4 A M sm hp hq h1 h2 hsq w1 w2 w3
@[sl_canon] theorem issueB7 (A : Memref sig .tc .hbm S16384x4608 .bf16) (M : Memref sig .tc .vmem S3x1024x1024 .bf16) (sm : DmaSem sig)
    (hp hq h1 h2 hsq w1 w2 w3) :
    (TpuEff.enqueueDma (s := ⟨2, k0_off7.2⟩) (A.slice (Rect.unitDyn (s := S16384x4608) k0_off7.1 k0_off7.2 hp) h1)
      (.here (s := ⟨2, k0_off7.2⟩) (Memref.squeeze (s := ⟨3, k0_off4.2⟩)
        (M.slice (Rect.unitDyn (s := S3x1024x1024) k0_off4.1 k0_off4.2 hq) h2) (⟨2, k0_sz1⟩ : Shape) hsq))
      (.dma sm) w1 w2 w3 : TpuEff nD τ sig (Elt F) Λ₀ .tc PUnit)
    = TpuEff.enqueueDma (blkG A 2 (Ring.bk 16 0)) (DmaTarget.here (slotG M (Ring.sl 3 0)) : DmaTarget nD τ sig (.tc : Proc τ) .vmem S1024x1024 .bf16)
        (.dma sm) (gate_src A hp h1 w1 (boxP7)) (gate_dst (p := k0_off7) M hq h2 hsq w2 boxP7 boxQ4) ⟨Or.inl rfl, trivial⟩ :=
  gate_issue boxP7 boxQ4 A M sm hp hq h1 h2 hsq w1 w2 w3
@[sl_canon] theorem issueB20 (A : Memref sig .tc .hbm S16384x4608 .bf16) (M : Memref sig .tc .vmem S3x1024x1024 .bf16) (sm : DmaSem sig)
    (hp hq h1 h2 hsq w1 w2 w3) :
    (TpuEff.enqueueDma (s := ⟨2, k0_off20.2⟩) (A.slice (Rect.unitDyn (s := S16384x4608) k0_off20.1 k0_off20.2 hp) h1)
      (.here (s := ⟨2, k0_off20.2⟩) (Memref.squeeze (s := ⟨3, k0_off19.2⟩)
        (M.slice (Rect.unitDyn (s := S3x1024x1024) k0_off19.1 k0_off19.2 hq) h2) (⟨2, k0_sz2⟩ : Shape) hsq))
      (.dma sm) w1 w2 w3 : TpuEff nD τ sig (Elt F) Λ₀ .tc PUnit)
    = TpuEff.enqueueDma (blkG A 0 (Ring.bk 16 1)) (DmaTarget.here (slotG M (Ring.sl 3 1)) : DmaTarget nD τ sig (.tc : Proc τ) .vmem S1024x1024 .bf16)
        (.dma sm) (gate_src A hp h1 w1 (boxP20)) (gate_dst (p := k0_off20) M hq h2 hsq w2 boxP20 boxQ19) ⟨Or.inl rfl, trivial⟩ :=
  gate_issue boxP20 boxQ19 A M sm hp hq h1 h2 hsq w1 w2 w3
@[sl_canon] theorem issueB23 (A : Memref sig .tc .hbm S16384x4608 .bf16) (M : Memref sig .tc .vmem S3x1024x1024 .bf16) (sm : DmaSem sig)
    (hp hq h1 h2 hsq w1 w2 w3) :
    (TpuEff.enqueueDma (s := ⟨2, k0_off23.2⟩) (A.slice (Rect.unitDyn (s := S16384x4608) k0_off23.1 k0_off23.2 hp) h1)
      (.here (s := ⟨2, k0_off23.2⟩) (Memref.squeeze (s := ⟨3, k0_off22.2⟩)
        (M.slice (Rect.unitDyn (s := S3x1024x1024) k0_off22.1 k0_off22.2 hq) h2) (⟨2, k0_sz3⟩ : Shape) hsq))
      (.dma sm) w1 w2 w3 : TpuEff nD τ sig (Elt F) Λ₀ .tc PUnit)
    = TpuEff.enqueueDma (blkG A 1 (Ring.bk 16 1)) (DmaTarget.here (slotG M (Ring.sl 3 1)) : DmaTarget nD τ sig (.tc : Proc τ) .vmem S1024x1024 .bf16)
        (.dma sm) (gate_src A hp h1 w1 (boxP23)) (gate_dst (p := k0_off23) M hq h2 hsq w2 boxP23 boxQ22) ⟨Or.inl rfl, trivial⟩ :=
  gate_issue boxP23 boxQ22 A M sm hp hq h1 h2 hsq w1 w2 w3
@[sl_canon] theorem issueB26 (A : Memref sig .tc .hbm S16384x4608 .bf16) (M : Memref sig .tc .vmem S3x1024x1024 .bf16) (sm : DmaSem sig)
    (hp hq h1 h2 hsq w1 w2 w3) :
    (TpuEff.enqueueDma (s := ⟨2, k0_off26.2⟩) (A.slice (Rect.unitDyn (s := S16384x4608) k0_off26.1 k0_off26.2 hp) h1)
      (.here (s := ⟨2, k0_off26.2⟩) (Memref.squeeze (s := ⟨3, k0_off25.2⟩)
        (M.slice (Rect.unitDyn (s := S3x1024x1024) k0_off25.1 k0_off25.2 hq) h2) (⟨2, k0_sz4⟩ : Shape) hsq))
      (.dma sm) w1 w2 w3 : TpuEff nD τ sig (Elt F) Λ₀ .tc PUnit)
    = TpuEff.enqueueDma (blkG A 2 (Ring.bk 16 1)) (DmaTarget.here (slotG M (Ring.sl 3 1)) : DmaTarget nD τ sig (.tc : Proc τ) .vmem S1024x1024 .bf16)
        (.dma sm) (gate_src A hp h1 w1 (boxP26)) (gate_dst (p := k0_off26) M hq h2 hsq w2 boxP26 boxQ25) ⟨Or.inl rfl, trivial⟩ :=
  gate_issue boxP26 boxQ25 A M sm hp hq h1 h2 hsq w1 w2 w3

end Canon

/-! ## The body -/

section Body
variable (c : Dev nD) (X : Ins (F := F) c) (Z : Buf (Elt F) (outM.view.loc (c : Thread nD τ)))

/-- The contents of the weights' arrays. -/
structure Wins where
  a : Buf (Elt F) ((Memref.whole main_v0).view.loc (c : Thread nD τ))
  b : Buf (Elt F) ((Memref.whole main_v1).view.loc (c : Thread nD τ))
  c' : Buf (Elt F) ((Memref.whole main_v2).view.loc (c : Thread nD τ))
  o : Buf (Elt F) ((Memref.whole main_v3).view.loc (c : Thread nD τ))
  n : Buf (Elt F) ((Memref.whole main_v4).view.loc (c : Thread nD τ))
variable (V : Wins (F := F) c)
/-- The weights' arrays, and their buffers at anything. -/
def wsrc : sProp 𝕄 := iprop(pt c (Memref.whole main_v0) V.a ∗ pt c (Memref.whole main_v1) V.b ∗ pt c (Memref.whole main_v2) V.c'
  ∗ pt c (Memref.whole main_v3) V.o ∗ pt c (Memref.whole main_v4) V.n)
def wany : sProp 𝕄 := iprop((∃ f, pt (F := F) c waV f) ∗ (∃ f, pt (F := F) c wbV f) ∗ (∃ f, pt (F := F) c wcV f) ∗ (∃ f, pt (F := F) c woV f) ∗ (∃ f, pt (F := F) c nmV f))
def wcells : sProp 𝕄 := iprop(cell0 c cc0_scoped21 ∗ cell0 c cc0_scoped22 ∗ cell0 c cc0_scoped23 ∗ cell0 c cc0_scoped24 ∗ cell0 c cc0_scoped25)
/-- The weights' buffers once the weights are in them. -/
def fetched : Ws (F := F) c where
  a := landed c waV (rd c (Memref.whole main_v0) V.a) waV.view.junk
  b := landed c wbV (rd c (Memref.whole main_v1) V.b) wbV.view.junk
  c' := landed c wcV (rd c (Memref.whole main_v2) V.c') wcV.view.junk
  o := landed c woV (rd c (Memref.whole main_v3) V.o) woV.view.junk
  n := landed c nmV (rd c (Memref.whole main_v4) V.n) nmV.view.junk

/-- What the loop leaves. -/
theorem exit (Y : Ws (F := F) c) (k : ℕ) (hk : k = 16) :
    invAt c X Y Z k ⊢ iprop(bigSep Finset.univ (home c X) ∗ freeS c (Ring.sl 3 16) ∗ freeS c (Ring.sl 3 17) ∗ freeS c (Ring.sl 3 18)
      ∗ freeO c (Ring.sl 2 16) ∗ outF c X Y Z (Ring.sl 2 17) (Ring.bk 16 15) ∗ bigSep (doneSet 16) (doneO c X Y Z) ∗ wts c Y ∗ idle c) := by
  subst hk
  unfold invAt
  rw [Ring.homeSet_last 2 16 le_rfl, role_out c X 16 (by decide), role_out c X 17 (by decide), roleO_in c X Y Z 16 (by decide)]
  iintro ⟨HH, H0, H1, H2, O0, O1, D, -, W, I⟩
  isplitl [HH]; · iexact HH
  isplitl [H0]; · iexact H0
  isplitl [H1]; · iexact H1
  isplitl [H2]; · iexact H2
  isplitl [O0]; · iexact O0
  isplitl [O1]; · iexact O1
  isplitl [D]; · iexact D
  isplitl [W] <;> iassumption

theorem done_all (P : Fin 16 → sProp 𝕄) : bigSep Finset.univ P = iprop(P (Ring.bk 16 15) ∗ bigSep (doneSet 16) P) := by
  rw [← done_in P 16 (by decide) (by decide)]; congr 1
theorem rest_all : restSet 0 = Finset.univ := by ext b; simp

/-- The kernel on the buffers the launch gives it. -/
abbrev bodyG : Prog (TpuEff nD τ sig (Elt F) Λ₀ .tc) PUnit :=
  cc0_merge_out (F := F) oaM (Memref.isWhole_whole _) obM (Memref.isWhole_whole _) ocM (Memref.isWhole_whole _) natM (Memref.isWhole_whole _)
    natM (Memref.isWhole_whole _) natM (Memref.isWhole_whole _) hM (Memref.isWhole_whole _)
    (Memref.whole main_v0) (Memref.isWhole_whole _) (Memref.whole main_v1) (Memref.isWhole_whole _) (Memref.whole main_v2) (Memref.isWhole_whole _)
    (Memref.whole main_v3) (Memref.isWhole_whole _) (Memref.whole main_v4) (Memref.isWhole_whole _) outM (Memref.isWhole_whole _)
    aR (Memref.isWhole_whole _) cc0_scoped1 bR (Memref.isWhole_whole _) cc0_scoped3 cR (Memref.isWhole_whole _) cc0_scoped5
    g0R (Memref.isWhole_whole _) cc0_scoped7 g1R (Memref.isWhole_whole _) cc0_scoped9 g2R (Memref.isWhole_whole _) cc0_scoped11
    hR (Memref.isWhole_whole _) cc0_scoped13 waV (Memref.isWhole_whole _) wbV (Memref.isWhole_whole _) wcV (Memref.isWhole_whole _)
    woV (Memref.isWhole_whole _) nmV (Memref.isWhole_whole _) oR (Memref.isWhole_whole _) cc0_scoped20
    cc0_scoped21 cc0_scoped22 cc0_scoped23 cc0_scoped24 cc0_scoped25

theorem condB : k0_cond1 = 1#1 ∧ k0_cond2 = 1#1 ∧ k0_cond3 = 1#1 ∧ k0_cond4 = 1#1 ∧ k0_cond5 = 1#1 ∧ k0_cond6 = 1#1 ∧ k0_cond7 = 1#1 := by decide

set_option maxHeartbeats 800000 in
set_option backward.proofsInPublic true in
set_option backward.isDefEq.respectTransparency false in
theorem bodyRun (Q : PUnit → sProp 𝕄) :
    iprop((home c X (Ring.bk 16 0) ∗ home c X (Ring.bk 16 1) ∗ bigSep (Ring.homeSet 2 0) (home c X) ∗ freeS c (Ring.sl 3 0) ∗ freeS c (Ring.sl 3 1) ∗ freeS c (Ring.sl 3 2)
          ∗ freeO c (Ring.sl 2 0) ∗ freeO c (Ring.sl 2 1) ∗ bigSep Finset.univ (fun b => pt c (blkH outM b) Z) ∗ wsrc c V ∗ wany c ∗ wcells c ∗ idle c)
        ∗ (bigSep Finset.univ (home c X) ∗ freeS c (Ring.sl 3 16) ∗ freeS c (Ring.sl 3 17) ∗ freeS c (Ring.sl 3 18)
            ∗ freeO c (Ring.sl 2 16) ∗ freeO c (Ring.sl 2 17) ∗ bigSep Finset.univ (doneO c X (fetched c V) Z) ∗ wsrc c V ∗ wts c (fetched c V) ∗ wcells c ∗ idle c -∗ Q ⟨⟩))
      ⊢ wp frame (wpE (defs₀ (F := F)) 𝒱₀ (c : Thread nD τ) none) Set.univ (bodyG (F := F)) Q := by
  obtain ⟨i1, i2, i3, i4, i5, i6, i7⟩ := condB
  obtain ⟨q10, q11⟩ := chkEnd
  rw [done_all (doneO c X (fetched c V) Z)]
  iintro ⟨⟨B0, B1, HH, R0, R1, F2, O0, O1, U, S, WY, C, I⟩, Hk⟩
  ihave B0' := (Entails.of_eq (home.eq_def c X (Ring.bk 16 0))) $$ B0
  ihave B1' := (Entails.of_eq (home.eq_def c X (Ring.bk 16 1))) $$ B1
  ihave R0' := (Entails.of_eq (freeS.eq_def c (Ring.sl 3 0))) $$ R0
  ihave R1' := (Entails.of_eq (freeS.eq_def c (Ring.sl 3 1))) $$ R1
  ihave S' := (Entails.of_eq (wsrc.eq_def c V)) $$ S
  ihave WY' := (Entails.of_eq (wany.eq_def c)) $$ WY
  ihave C' := (Entails.of_eq (wcells.eq_def c)) $$ C
  ihave I' := (Entails.of_eq (idle.eq_def c)) $$ I
  icases B0' with ⟨A0, B0, C0, G00, G10, G20, H0⟩
  icases B1' with ⟨A1, B1, C1, G01, G11, G21, H1⟩
  icases R0' with ⟨⟨ca0, ⟨%ga0, sa0⟩⟩, ⟨cb0, ⟨%gb0, sb0⟩⟩, ⟨cc0, ⟨%gc0, sc0⟩⟩, ⟨cg00, ⟨%gg00, sg00⟩⟩, ⟨cg10, ⟨%gg10, sg10⟩⟩, ⟨cg20, ⟨%gg20, sg20⟩⟩, ⟨ch0, ⟨%gh0, sh0⟩⟩⟩
  icases R1' with ⟨⟨ca1, ⟨%ga1, sa1⟩⟩, ⟨cb1, ⟨%gb1, sb1⟩⟩, ⟨cc1, ⟨%gc1, sc1⟩⟩, ⟨cg01, ⟨%gg01, sg01⟩⟩, ⟨cg11, ⟨%gg11, sg11⟩⟩, ⟨cg21, ⟨%gg21, sg21⟩⟩, ⟨ch1, ⟨%gh1, sh1⟩⟩⟩
  icases S' with ⟨S0, S1, S2, S3, S4⟩
  icases WY' with ⟨⟨%w0, W0⟩, ⟨%w1, W1⟩, ⟨%w2, W2⟩, ⟨%w3, W3⟩, ⟨%w4, W4⟩⟩
  icases C' with ⟨c0, c1, c2, c3, c4⟩
  icases I' with ⟨%W, HW⟩
  sl_exec
  sl_for (fun k acc => iprop(⌜acc = words k⌝ ∗ invAt c X (fetched c V) Z k)) $$ [HH F2 O0 O1 U W0 W1 W2 W3 W4 HW ca0 cb0 cc0 cg00 cg10 cg20 ch0 ca1 cb1 cc1 cg01 cg11 cg21 ch1]
  case region =>
    intro k acc
    iintro ⟨%e, H⟩
    subst e
    iapply (step c X (fetched c V) Z k) $$ H
  · isplitr; · ipureintro; rfl
    unfold invAt
    rw [role_in c X 0 (by decide), role_in c X (0 + 1) (by decide), roleO_out, rest_all]
    isplitl [HH]; · iexact HH
    isplitl [ca0 cb0 cc0 cg00 cg10 cg20 ch0]
    · unfold inflS
      isplitl [ca0]; · iexists _; iexact ca0
      isplitl [cb0]; · iexists _; iexact cb0
      isplitl [cc0]; · iexists _; iexact cc0
      isplitl [cg00]; · iexists _; iexact cg00
      isplitl [cg10]; · iexists _; iexact cg10
      isplitl [cg20]; · iexists _; iexact cg20
      iexists _; iexact ch0
    isplitl [ca1 cb1 cc1 cg01 cg11 cg21 ch1]
    · unfold inflS
      isplitl [ca1]; · iexists _; iexact ca1
      isplitl [cb1]; · iexists _; iexact cb1
      isplitl [cc1]; · iexists _; iexact cc1
      isplitl [cg01]; · iexists _; iexact cg01
      isplitl [cg11]; · iexists _; iexact cg11
      isplitl [cg21]; · iexists _; iexact cg21
      iexists _; iexact ch1
    isplitl [F2]; · iexact F2
    isplitl [O0]; · iexact O0
    isplitl [O1]; · iexact O1
    isplitr
    · rw [show doneSet 0 = ∅ from by ext b; simp, bigSep_empty]; iempintro
    isplitl [U]; · iexact U
    isplitl [W0 W1 W2 W3 W4]
    · unfold wts
      dsimp only [fetched, landed]
      isplitl [W0]; · iexact W0
      isplitl [W1]; · iexact W1
      isplitl [W2]; · iexact W2
      isplitl [W3]; · iexact W3
      iexact W4
    unfold idle; iexists _; iexact HW
  iintro %acc ⟨%e, H⟩
  obtain rfl : acc = words 16 := e.trans (congrArg words trips_eq)
  ihave H' := (exit c X Z (fetched c V) _ trips_eq) $$ H
  icases H' with ⟨HH, H0, H1, H2, O0, O1, D, WY, I⟩
  ihave O1' := (Entails.of_eq (outF.eq_def c X (fetched c V) Z (Ring.sl 2 17) (Ring.bk 16 15))) $$ O1
  ihave I' := (Entails.of_eq (idle.eq_def c)) $$ I
  icases O1' with ⟨%fs, %hv, FO⟩
  icases I' with ⟨%W', HW⟩
  sl_exec
  sl_step
  iapply Hk
  isplitl [HH]; · iexact HH
  isplitl [H0]; · iexact H0
  isplitl [H1]; · iexact H1
  isplitl [H2]; · iexact H2
  isplitl [O0]; · iexact O0
  isplitl [FO FO_src]
  · unfold freeO; isplitl [FO]; · iexact FO
    iexists _; iexact FO_src
  isplitl [FO_dst D]
  · isplitl [FO_dst]
    · unfold doneO; rw [← hv]; iexact FO_dst
    · iexact D
  isplitl [S0 S1 S2 S3 S4]
  · unfold wsrc
    isplitl [S0]; · iexact S0
    isplitl [S1]; · iexact S1
    isplitl [S2]; · iexact S2
    isplitl [S3]; · iexact S3
    iexact S4
  isplitl [WY]; · iexact WY
  isplitl [c0 c1 c2 c3 c4]
  · unfold wcells
    isplitl [c0]; · iexact c0
    isplitl [c1]; · iexact c1
    isplitl [c2]; · iexact c2
    isplitl [c3]; · iexact c3
    iexact c4
  unfold idle; iexists _; iexact HW
end Body

end Cert.KernelIdeal.Merge
-- ==== Proof.Split.lean ====
/-
  The arrays as their blocks and the buffers as their slots: the memory the launch hands over, cut into what the
  pipeline passes around, and put together again at the end.
-/
module

public import proofs.«01_k».proof.Proof.Trip

@[expose] public section

noncomputable section

namespace Cert.KernelIdeal.Merge

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Sets of elements -/

/-- The rows of block `b` of an array of `C` columns; slot `s` of a ring. -/
abbrev rowsR (C : ℕ) (b : Fin 16) : Finset (⟨2, ![16384, C]⟩ : Shape).Idx :=
  (Rect.unit (s := ⟨2, ![16384, C]⟩) (blkOff b) ![1024, C] (inb2 b 0 (by omega))).set
abbrev slotR (n R C : ℕ) (s : Fin n) : Finset (⟨3, ![n, R, C]⟩ : Shape).Idx :=
  (Rect.unit (s := ⟨3, ![n, R, C]⟩) (slotOff s) ![1, R, C] (inb3 s)).set

theorem rows_disjoint (C : ℕ) (b b' : Fin 16) (h : b ≠ b') : Disjoint (rowsR C b) (rowsR C b') :=
  Ring.lead_disjoint (s := ⟨2, ![16384, C]⟩) 0 1024 blkOff ![1024, C] (fun b => inb2 b 0 (by omega)) (fun b => Nat.mul_comm _ _) rfl b b' h
theorem rows_cover (C : ℕ) : Finset.univ.biUnion (rowsR C) = Finset.univ :=
  Ring.lead_cover (s := ⟨2, ![16384, C]⟩) 0 1024 blkOff ![1024, C] (fun b => inb2 b 0 (by omega)) (fun b => Nat.mul_comm _ _)
    (fun b a h => by fin_cases a; · exact absurd rfl h
                     rfl) rfl (fun a h => by fin_cases a; · exact absurd rfl h
                                             rfl) rfl
theorem slots_disjoint (n R C : ℕ) (b b' : Fin n) (h : b ≠ b') : Disjoint (slotR n R C b) (slotR n R C b') :=
  Ring.lead_disjoint (s := ⟨3, ![n, R, C]⟩) 0 1 slotOff ![1, R, C] inb3 (fun b => (Nat.one_mul _).symm) rfl b b' h
theorem slots_cover (n R C : ℕ) : Finset.univ.biUnion (slotR n R C) = Finset.univ :=
  Ring.lead_cover (s := ⟨3, ![n, R, C]⟩) 0 1 slotOff ![1, R, C] inb3 (fun b => (Nat.one_mul _).symm)
    (fun b a h => by fin_cases a; · exact absurd rfl h
                     · rfl
                     rfl) rfl (fun a h => by fin_cases a; · exact absurd rfl h
                                             · rfl
                                             rfl) (Nat.mul_one n)

/-- The columns of gate `j` in block `b`, the last of the four those the kernel does not read. -/
abbrev gateLo (j : Fin 4) (b : Fin 16) : Fin 2 → ℕ := ![b.val * 1024, j.val * 1024]
abbrev gateSz (j : Fin 4) : Fin 2 → ℕ := ![1024, if j.val = 3 then 1536 else 1024]
theorem gateLo_inb (j : Fin 4) (b : Fin 16) : ∀ a, gateLo j b a + gateSz j a ≤ S16384x4608.size a := by
  have := b.isLt; have := j.isLt; intro a; fin_cases a
  · show b.val * 1024 + 1024 ≤ 16384; omega
  · show j.val * 1024 + (if j.val = 3 then 1536 else 1024) ≤ 4608; split <;> omega
abbrev gateR (b : Fin 16) (j : Fin 4) : Finset S16384x4608.Idx := (Rect.unit (s := S16384x4608) (gateLo j b) (gateSz j) (gateLo_inb j b)).set

theorem mem_gateR (b : Fin 16) (j : Fin 4) (y : S16384x4608.Idx) :
    y ∈ gateR b j ↔ (b.val * 1024 ≤ (y 0).val ∧ (y 0).val < b.val * 1024 + 1024)
      ∧ (j.val * 1024 ≤ (y 1).val ∧ (y 1).val < j.val * 1024 + (if j.val = 3 then 1536 else 1024)) := by
  rw [Rect.mem_set_unit]
  constructor
  · intro H; exact ⟨H 0, H 1⟩
  · intro H a; fin_cases a
    · exact H.1
    · exact H.2
theorem gate_disjoint (b : Fin 16) (j j' : Fin 4) (h : j ≠ j') : Disjoint (gateR b j) (gateR b j') := by
  rw [Finset.disjoint_left]; intro y hy hy'
  rw [mem_gateR] at hy hy'
  have h1 : j.val ≠ j'.val := fun e => h (Fin.ext e)
  have := j.isLt; have := j'.isLt
  obtain ⟨-, h2, h3⟩ := hy; obtain ⟨-, h4, h5⟩ := hy'
  split at h3 <;> split at h5 <;> omega
theorem gate_cover (b : Fin 16) : Finset.univ.biUnion (gateR b) = rowsR 4608 b := by
  ext y
  simp only [Finset.mem_biUnion, Finset.mem_univ, true_and, mem_gateR]
  rw [Rect.mem_set_unit]
  have h1 : (y 1).val < 4608 := (y 1).isLt
  constructor
  · rintro ⟨j, h, -⟩ a; fin_cases a
    · exact h
    · show 0 ≤ (y 1).val ∧ (y 1).val < 0 + 4608; omega
  · intro H
    have h0 : b.val * 1024 ≤ (y 0).val ∧ (y 0).val < b.val * 1024 + 1024 := H 0
    by_cases h3 : (y 1).val / 1024 < 3
    · refine ⟨⟨(y 1).val / 1024, by omega⟩, h0, ?_⟩
      show (y 1).val / 1024 * 1024 ≤ (y 1).val ∧ (y 1).val < (y 1).val / 1024 * 1024 + (if (y 1).val / 1024 = 3 then 1536 else 1024)
      rw [if_neg (by omega)]; omega
    · refine ⟨3, h0, ?_⟩
      show 3 * 1024 ≤ (y 1).val ∧ (y 1).val < 3 * 1024 + 1536
      omega

theorem slotA_view (s : Fin 3) : (slotA aR s).view.set = slotR 3 1024 256 s := (View.set_reshape _ _).trans (View.set_slice_whole _ _)
theorem slotB_view (s : Fin 3) : (slotB bR s).view.set = slotR 3 1024 512 s := (View.set_reshape _ _).trans (View.set_slice_whole _ _)
theorem slotC_view (s : Fin 3) : (slotB cR s).view.set = slotR 3 1024 512 s := (View.set_reshape _ _).trans (View.set_slice_whole _ _)
theorem slotG0_view (s : Fin 3) : (slotG g0R s).view.set = slotR 3 1024 1024 s := (View.set_reshape _ _).trans (View.set_slice_whole _ _)
theorem slotG1_view (s : Fin 3) : (slotG g1R s).view.set = slotR 3 1024 1024 s := (View.set_reshape _ _).trans (View.set_slice_whole _ _)
theorem slotG2_view (s : Fin 3) : (slotG g2R s).view.set = slotR 3 1024 1024 s := (View.set_reshape _ _).trans (View.set_slice_whole _ _)
theorem slotH_view (s : Fin 3) : (slotH hR s).view.set = slotR 3 1024 1024 s := (View.set_reshape _ _).trans (View.set_slice_whole _ _)
theorem slotO_view (s : Fin 2) : (slotO oR s).view.set = slotR 2 1024 1024 s := (View.set_reshape _ _).trans (View.set_slice_whole _ _)
theorem blkA_view (b : Fin 16) : (blkA oaM b).view.set = rowsR 256 b := View.set_slice_whole _ _
theorem blkB_view (b : Fin 16) : (blkB obM b).view.set = rowsR 512 b := View.set_slice_whole _ _
theorem blkC_view (b : Fin 16) : (blkB ocM b).view.set = rowsR 512 b := View.set_slice_whole _ _
theorem blkH_view (b : Fin 16) : (blkH hM b).view.set = rowsR 1024 b := View.set_slice_whole _ _
theorem blkO_view (b : Fin 16) : (blkH outM b).view.set = rowsR 1024 b := View.set_slice_whole _ _
theorem blkG_view (j : Fin 3) (b : Fin 16) : (blkG natM j b).view.set = gateR b j.castSucc := by
  refine (View.set_slice_whole _ _).trans ?_
  ext y
  rw [mem_gateR, Rect.mem_set_unit]
  have hj : (if j.castSucc.val = 3 then 1536 else 1024) = 1024 := if_neg (by simp; omega)
  rw [hj]
  constructor
  · intro H; exact ⟨H 0, H 1⟩
  · intro H a; fin_cases a
    · exact H.1
    · exact H.2

section Split
variable (c : Dev nD)

omit [FloatOps F] in
/-- A buffer held whole is its parts held, -/
theorem parts_eq {B : Type} [Fintype B] [DecidableEq B] {ℓ : Loc nD τ sig} (I J : B → Finset (Idx ℓ)) (e : ∀ b, J b = I b) (hd : ∀ b b', b ≠ b' → Disjoint (I b) (I b'))
    (hc : Finset.univ.biUnion I = Finset.univ) (f : Buf (Elt F) ℓ) : (ℓ ↦{fullShare} f : sProp 𝕄) = bigSep Finset.univ fun b => ℓ ↦[J b]{fullShare} f := by
  obtain rfl : J = I := funext e
  exact Ring.pointsTo_blocks J hd hc f
omit [FloatOps F] in
/-- and at some contents, its parts at some contents. -/
theorem some_split {B : Type} [Fintype B] [DecidableEq B] {ℓ : Loc nD τ sig} (I J : B → Finset (Idx ℓ)) (e : ∀ b, J b = I b) (hd : ∀ b b', b ≠ b' → Disjoint (I b) (I b'))
    (hc : Finset.univ.biUnion I = Finset.univ) : iprop(∃ f : Buf (Elt F) ℓ, ℓ ↦{fullShare} f) ⊢ (bigSep Finset.univ fun b => iprop(∃ f, ℓ ↦[J b]{fullShare} f) : sProp 𝕄) := by
  iintro ⟨%f, H⟩
  ihave H2 := (Entails.of_eq (parts_eq I J e hd hc f)) $$ H
  have hm : (bigSep Finset.univ fun b => (ℓ ↦[J b]{fullShare} f : sProp 𝕄)) ⊢ (bigSep Finset.univ fun b => iprop(∃ f, ℓ ↦[J b]{fullShare} f) : sProp 𝕄) :=
    BI.bigSep_mono fun b _ => show (ℓ ↦[J b]{fullShare} f : sProp 𝕄) ⊢ iprop(∃ f, ℓ ↦[J b]{fullShare} f) from by iintro H; iexists f; iexact H
  iapply hm; iexact H2
omit [FloatOps F] in
theorem some_join {B : Type} [Fintype B] [DecidableEq B] {ℓ : Loc nD τ sig} (I J : B → Finset (Idx ℓ)) (e : ∀ b, J b = I b) (hd : ∀ b b', b ≠ b' → Disjoint (I b) (I b'))
    (hc : Finset.univ.biUnion I = Finset.univ) (f₀ : Buf (Elt F) ℓ) : (bigSep Finset.univ fun b => iprop(∃ f, ℓ ↦[J b]{fullShare} f) : sProp 𝕄) ⊢ iprop(∃ f : Buf (Elt F) ℓ, ℓ ↦{fullShare} f) := by
  obtain rfl : J = I := funext e
  exact Ring.pointsTo_blocks_join_exists J hd hc f₀

omit [FloatOps F] in
theorem sep2 {B : Type} [Fintype B] [DecidableEq B] (P₁ P₂ : B → sProp 𝕄) :
    (bigSep Finset.univ fun b => iprop(P₁ b ∗ P₂ b)) = iprop(bigSep Finset.univ P₁ ∗ bigSep Finset.univ P₂) := BI.bigSep_sep _ _ _
omit [FloatOps F] in
theorem sep4 {B : Type} [Fintype B] [DecidableEq B] (P₁ P₂ P₃ P₄ : B → sProp 𝕄) :
    (bigSep Finset.univ fun b => iprop(P₁ b ∗ P₂ b ∗ P₃ b ∗ P₄ b))
      = iprop(bigSep Finset.univ P₁ ∗ bigSep Finset.univ P₂ ∗ bigSep Finset.univ P₃ ∗ bigSep Finset.univ P₄) := by
  rw [sep2 P₁, sep2 P₂, sep2 P₃]
omit [FloatOps F] in
theorem sep7 {B : Type} [Fintype B] [DecidableEq B] (P₁ P₂ P₃ P₄ P₅ P₆ P₇ : B → sProp 𝕄) :
    (bigSep Finset.univ fun b => iprop(P₁ b ∗ P₂ b ∗ P₃ b ∗ P₄ b ∗ P₅ b ∗ P₆ b ∗ P₇ b))
      = iprop(bigSep Finset.univ P₁ ∗ bigSep Finset.univ P₂ ∗ bigSep Finset.univ P₃ ∗ bigSep Finset.univ P₄ ∗ bigSep Finset.univ P₅
          ∗ bigSep Finset.univ P₆ ∗ bigSep Finset.univ P₇) := by
  rw [sep2 P₁, sep2 P₂, sep2 P₃, sep4 P₄]
omit [FloatOps F] in
theorem sep7' {B : Type} [Fintype B] [DecidableEq B] (Q₁ P₁ Q₂ P₂ Q₃ P₃ Q₄ P₄ Q₅ P₅ Q₆ P₆ Q₇ P₇ : B → sProp 𝕄) :
    (bigSep Finset.univ fun b => iprop((Q₁ b ∗ P₁ b) ∗ (Q₂ b ∗ P₂ b) ∗ (Q₃ b ∗ P₃ b) ∗ (Q₄ b ∗ P₄ b) ∗ (Q₅ b ∗ P₅ b) ∗ (Q₆ b ∗ P₆ b) ∗ (Q₇ b ∗ P₇ b)))
      = iprop((bigSep Finset.univ Q₁ ∗ bigSep Finset.univ P₁) ∗ (bigSep Finset.univ Q₂ ∗ bigSep Finset.univ P₂) ∗ (bigSep Finset.univ Q₃ ∗ bigSep Finset.univ P₃)
          ∗ (bigSep Finset.univ Q₄ ∗ bigSep Finset.univ P₄) ∗ (bigSep Finset.univ Q₅ ∗ bigSep Finset.univ P₅)
          ∗ (bigSep Finset.univ Q₆ ∗ bigSep Finset.univ P₆) ∗ (bigSep Finset.univ Q₇ ∗ bigSep Finset.univ P₇)) := by
  rw [sep7 (fun b => iprop(Q₁ b ∗ P₁ b)), sep2 Q₁, sep2 Q₂, sep2 Q₃, sep2 Q₄, sep2 Q₅, sep2 Q₆, sep2 Q₇]
theorem exists_emb {κ : Kind} {sp : Space} {s : Shape} {e : EltTy} (v : View sig κ sp s e) {i : v.ty.Idx} (h : i ∈ v.set) : ∃ x, v.emb x = i := by
  obtain ⟨x, -, hx⟩ := Finset.mem_map.mp h; exact ⟨x, hx⟩

/-! ## The arrays read by blocks -/

variable (X : Ins (F := F) c)

/-- The columns of `nat` the kernel does not read. -/
def restN : sProp 𝕄 := bigSep Finset.univ fun b : Fin 16 => ((c : Thread nD τ).loc main_arg3) ↦[gateR b 3]{fullShare} X.n

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rows_gates (b : Fin 16) : (((c : Thread nD τ).loc main_arg3) ↦[rowsR 4608 b]{fullShare} X.n : sProp 𝕄)
    = iprop(pt c (blkG natM 0 b) X.n ∗ pt c (blkG natM 1 b) X.n ∗ pt c (blkG natM 2 b) X.n ∗ ((c : Thread nD τ).loc main_arg3) ↦[gateR b 3]{fullShare} X.n) := by
  have e := pointsTo_biUnion (Ix := Unit) (Name := ℕ) (U := UU nD τ) (Lvl := ℕ) (Val := Elt F) (q := fullShare) (ℓ := (c : Thread nD τ).loc main_arg3) (f := X.n)
    Finset.univ (gateR b) (fun j _ j' _ h => gate_disjoint b j j' h)
  rw [gate_cover] at e
  refine e.trans ((fin4 _).trans ?_)
  unfold pt
  rw [blkG_view 0 b, blkG_view 1 b, blkG_view 2 b]; rfl

theorem nat_eq : (((c : Thread nD τ).loc main_arg3) ↦{fullShare} X.n : sProp 𝕄)
    = iprop(bigSep Finset.univ (fun b => pt c (blkG natM 0 b) X.n) ∗ bigSep Finset.univ (fun b => pt c (blkG natM 1 b) X.n)
        ∗ bigSep Finset.univ (fun b => pt c (blkG natM 2 b) X.n) ∗ restN c X) := by
  refine (parts_eq (ℓ := (c : Thread nD τ).loc main_arg3) (rowsR 4608) (rowsR 4608) (fun _ => rfl) (rows_disjoint _) (rows_cover _) X.n).trans ?_
  exact (bigSep_congr fun b _ => rows_gates c X b).trans (sep4 _ _ _ _)

theorem home_all : (bigSep Finset.univ (home c X) : sProp 𝕄)
    = iprop(bigSep Finset.univ (fun b => pt c (blkA oaM b) X.a) ∗ bigSep Finset.univ (fun b => pt c (blkB obM b) X.b) ∗ bigSep Finset.univ (fun b => pt c (blkB ocM b) X.c')
        ∗ bigSep Finset.univ (fun b => pt c (blkG natM 0 b) X.n) ∗ bigSep Finset.univ (fun b => pt c (blkG natM 1 b) X.n)
        ∗ bigSep Finset.univ (fun b => pt c (blkG natM 2 b) X.n) ∗ bigSep Finset.univ (fun b => pt c (blkH hM b) X.h)) := by
  exact (bigSep_congr fun b _ => home.eq_def c X b).trans (sep7 _ _ _ _ _ _ _)

/-- The five arrays whole. -/
def arrs : sProp 𝕄 := iprop((((c : Thread nD τ).loc main_arg0) ↦{fullShare} X.a) ∗ (((c : Thread nD τ).loc main_arg1) ↦{fullShare} X.b)
  ∗ (((c : Thread nD τ).loc main_arg2) ↦{fullShare} X.c') ∗ (((c : Thread nD τ).loc main_arg3) ↦{fullShare} X.n) ∗ (((c : Thread nD τ).loc main_arg4) ↦{fullShare} X.h))
theorem oa_eq : (((c : Thread nD τ).loc main_arg0) ↦{fullShare} X.a : sProp 𝕄) = bigSep Finset.univ (fun b => pt c (blkA oaM b) X.a) :=
  parts_eq (ℓ := (c : Thread nD τ).loc main_arg0) _ (fun b => (blkA oaM b).view.set) blkA_view (rows_disjoint _) (rows_cover _) X.a
theorem ob_eq : (((c : Thread nD τ).loc main_arg1) ↦{fullShare} X.b : sProp 𝕄) = bigSep Finset.univ (fun b => pt c (blkB obM b) X.b) :=
  parts_eq (ℓ := (c : Thread nD τ).loc main_arg1) _ (fun b => (blkB obM b).view.set) blkB_view (rows_disjoint _) (rows_cover _) X.b
theorem oc_eq : (((c : Thread nD τ).loc main_arg2) ↦{fullShare} X.c' : sProp 𝕄) = bigSep Finset.univ (fun b => pt c (blkB ocM b) X.c') :=
  parts_eq (ℓ := (c : Thread nD τ).loc main_arg2) _ (fun b => (blkB ocM b).view.set) blkC_view (rows_disjoint _) (rows_cover _) X.c'
theorem h_eq : (((c : Thread nD τ).loc main_arg4) ↦{fullShare} X.h : sProp 𝕄) = bigSep Finset.univ (fun b => pt c (blkH hM b) X.h) :=
  parts_eq (ℓ := (c : Thread nD τ).loc main_arg4) _ (fun b => (blkH hM b).view.set) blkH_view (rows_disjoint _) (rows_cover _) X.h
theorem out_eq (Z : Buf (Elt F) (outM.view.loc (c : Thread nD τ))) :
    (((c : Thread nD τ).loc main_v5) ↦{fullShare} Z : sProp 𝕄) = bigSep Finset.univ (fun b => pt c (blkH outM b) Z) :=
  parts_eq (ℓ := (c : Thread nD τ).loc main_v5) _ (fun b => (blkH outM b).view.set) blkO_view (rows_disjoint _) (rows_cover _) Z

theorem arrs_split : arrs c X ⊢ iprop(bigSep Finset.univ (home c X) ∗ restN c X) := by
  unfold arrs
  rw [home_all, nat_eq, oa_eq, ob_eq, oc_eq, h_eq]
  iintro ⟨A, B, C, ⟨G0, G1, G2, R⟩, H⟩
  isplitr [R]
  · isplitl [A]; · iexact A
    isplitl [B]; · iexact B
    isplitl [C]; · iexact C
    isplitl [G0]; · iexact G0
    isplitl [G1]; · iexact G1
    isplitl [G2]; · iexact G2
    iexact H
  iexact R
theorem arrs_join : iprop(bigSep Finset.univ (home c X) ∗ restN c X) ⊢ arrs c X := by
  unfold arrs
  rw [home_all, nat_eq, oa_eq, ob_eq, oc_eq, h_eq]
  iintro ⟨⟨A, B, C, G0, G1, G2, H⟩, R⟩
  isplitl [A]; · iexact A
  isplitl [B]; · iexact B
  isplitl [C]; · iexact C
  isplitr [H]
  · isplitl [G0]; · iexact G0
    isplitl [G1]; · iexact G1
    isplitl [G2]; · iexact G2
    iexact R
  iexact H

/-! ## The result -/

variable (Y : Ws (F := F) c) (Z : Buf (Elt F) (outM.view.loc (c : Thread nD τ)))

/-- The block a row belongs to, and its place there. -/
abbrev rowBlk (i : S16384x1024.Idx) : Fin 16 := ⟨(i 0).val / 1024, by have : (i 0).val < 16384 := (i 0).isLt; omega⟩
abbrev rowIn (i : S16384x1024.Idx) : S1024x1024.Idx := fun
  | ⟨0, _⟩ => ⟨(i 0).val % 1024, Nat.mod_lt _ (by decide)⟩
  | ⟨1, _⟩ => ⟨(i 1).val, (i 1).isLt⟩
/-- The result, row by row from its blocks. -/
def result : Buf (Elt F) (outM.view.loc (c : Thread nD τ)) := fun i : S16384x1024.Idx => outB c X Y (rowBlk i) (rowIn i)

omit [FloatOps F] in
/-- What is held of a memref's elements is known by its words. -/
theorem pt_of_read {sp : Space} {s : Shape} {e : EltTy} (D : Memref sig .tc sp s e) {f g : Buf (Elt F) (D.view.loc (c : Thread nD τ))}
    (h : D.view.read (Elt F) f = D.view.read (Elt F) g) : pt c D f = pt c D g := by
  refine pointsTo_congr fun i hi => ?_
  obtain ⟨x, rfl⟩ := exists_emb D.view hi
  exact (cast_inj _).mp (congrFun h x)

theorem emb_rows (b : Fin 16) (x : S1024x1024.Idx) : rowBlk ((blkH outM b).view.emb x) = b ∧ rowIn ((blkH outM b).view.emb x) = x := by
  have h0 : (x 0).val < 1024 := (x 0).isLt
  have e0 : (rowBlk ((blkH outM b).view.emb x)).val = (b.val * 1024 + 1 * (x 0).val) / 1024 := rfl
  have e1 : (rowIn ((blkH outM b).view.emb x) 0).val = (b.val * 1024 + 1 * (x 0).val) % 1024 := rfl
  have e2 : (rowIn ((blkH outM b).view.emb x) 1).val = 0 + 1 * (x 1).val := rfl
  constructor
  · apply Fin.ext; rw [e0]; omega
  · funext a; apply Fin.ext; fin_cases a
    · refine e1.trans ?_; show _ = (x 0).val; omega
    · refine e2.trans ?_; show _ = (x 1).val; omega

theorem read_result (b : Fin 16) : (blkH outM b).view.read (Elt F) (result c X Y) = outB c X Y b := by
  funext x
  show outB c X Y (rowBlk ((blkH outM b).view.emb x)) (rowIn ((blkH outM b).view.emb x)) = outB c X Y b x
  rw [(emb_rows b x).1, (emb_rows b x).2]

theorem done_eq (b : Fin 16) : doneO c X Y Z b = pt c (blkH outM b) (result c X Y) :=
  (doneO.eq_def c X Y Z b).trans (pt_of_read c (blkH outM b) ((read_landed _ _ _).trans (read_result c X Y b).symm))

theorem result_join : (bigSep Finset.univ (doneO c X Y Z) : sProp 𝕄) = (((c : Thread nD τ).loc main_v5) ↦{fullShare} result c X Y) := by
  rw [out_eq c (result c X Y)]
  exact bigSep_congr fun b _ => done_eq c X Y Z b

/-! ## The rings -/

def rings : sProp 𝕄 := iprop((∃ f : Buf (Elt F) ((c : Thread nD τ).loc cc0_scoped0), ((c : Thread nD τ).loc cc0_scoped0) ↦{fullShare} f)
  ∗ (∃ f : Buf (Elt F) ((c : Thread nD τ).loc cc0_scoped2), ((c : Thread nD τ).loc cc0_scoped2) ↦{fullShare} f)
  ∗ (∃ f : Buf (Elt F) ((c : Thread nD τ).loc cc0_scoped4), ((c : Thread nD τ).loc cc0_scoped4) ↦{fullShare} f)
  ∗ (∃ f : Buf (Elt F) ((c : Thread nD τ).loc cc0_scoped6), ((c : Thread nD τ).loc cc0_scoped6) ↦{fullShare} f)
  ∗ (∃ f : Buf (Elt F) ((c : Thread nD τ).loc cc0_scoped8), ((c : Thread nD τ).loc cc0_scoped8) ↦{fullShare} f)
  ∗ (∃ f : Buf (Elt F) ((c : Thread nD τ).loc cc0_scoped10), ((c : Thread nD τ).loc cc0_scoped10) ↦{fullShare} f)
  ∗ (∃ f : Buf (Elt F) ((c : Thread nD τ).loc cc0_scoped12), ((c : Thread nD τ).loc cc0_scoped12) ↦{fullShare} f))
def oRing : sProp 𝕄 := iprop(∃ f : Buf (Elt F) ((c : Thread nD τ).loc cc0_scoped19), ((c : Thread nD τ).loc cc0_scoped19) ↦{fullShare} f)
/-- The rings' cells. -/
def cellsIn : sProp 𝕄 := iprop(bigSep Finset.univ (fun s => cell0 c (csm cc0_scoped1 s)) ∗ bigSep Finset.univ (fun s => cell0 c (csm cc0_scoped3 s))
  ∗ bigSep Finset.univ (fun s => cell0 c (csm cc0_scoped5 s)) ∗ bigSep Finset.univ (fun s => cell0 c (csm cc0_scoped7 s))
  ∗ bigSep Finset.univ (fun s => cell0 c (csm cc0_scoped9 s)) ∗ bigSep Finset.univ (fun s => cell0 c (csm cc0_scoped11 s))
  ∗ bigSep Finset.univ (fun s => cell0 c (csm cc0_scoped13 s)))
def cellsOut : sProp 𝕄 := bigSep Finset.univ (fun s => cell0 c (csm2 cc0_scoped20 s))

theorem free_all : (bigSep Finset.univ (freeS (F := F) c) : sProp 𝕄)
    = iprop((bigSep Finset.univ (fun s => cell0 c (csm cc0_scoped1 s)) ∗ bigSep Finset.univ (fun s => iprop(∃ f, pt (F := F) c (slotA aR s) f)))
      ∗ (bigSep Finset.univ (fun s => cell0 c (csm cc0_scoped3 s)) ∗ bigSep Finset.univ (fun s => iprop(∃ f, pt (F := F) c (slotB bR s) f)))
      ∗ (bigSep Finset.univ (fun s => cell0 c (csm cc0_scoped5 s)) ∗ bigSep Finset.univ (fun s => iprop(∃ f, pt (F := F) c (slotB cR s) f)))
      ∗ (bigSep Finset.univ (fun s => cell0 c (csm cc0_scoped7 s)) ∗ bigSep Finset.univ (fun s => iprop(∃ f, pt (F := F) c (slotG g0R s) f)))
      ∗ (bigSep Finset.univ (fun s => cell0 c (csm cc0_scoped9 s)) ∗ bigSep Finset.univ (fun s => iprop(∃ f, pt (F := F) c (slotG g1R s) f)))
      ∗ (bigSep Finset.univ (fun s => cell0 c (csm cc0_scoped11 s)) ∗ bigSep Finset.univ (fun s => iprop(∃ f, pt (F := F) c (slotG g2R s) f)))
      ∗ (bigSep Finset.univ (fun s => cell0 c (csm cc0_scoped13 s)) ∗ bigSep Finset.univ (fun s => iprop(∃ f, pt (F := F) c (slotH hR s) f)))) := by
  exact (bigSep_congr fun s _ => freeS.eq_def c s).trans (sep7' _ _ _ _ _ _ _ _ _ _ _ _ _ _)
theorem freeO_all : (bigSep Finset.univ (freeO (F := F) c) : sProp 𝕄)
    = iprop(bigSep Finset.univ (fun s => cell0 c (csm2 cc0_scoped20 s)) ∗ bigSep Finset.univ (fun s => iprop(∃ f, pt (F := F) c (slotO oR s) f))) := by
  exact (bigSep_congr fun s _ => freeO.eq_def c s).trans (sep2 _ _)

theorem free_in : iprop(rings (F := F) c ∗ cellsIn c) ⊢ (bigSep Finset.univ (freeS c) : sProp 𝕄) := by
  rw [free_all]; unfold rings cellsIn
  iintro ⟨⟨A, B, C, G0, G1, G2, H⟩, ⟨ca, cb, cc, cg0, cg1, cg2, ch⟩⟩
  isplitl [A ca]
  · isplitl [ca]; · iexact ca
    iapply (some_split (F := F) (ℓ := (c : Thread nD τ).loc cc0_scoped0) _ (fun s => (slotA aR s).view.set) slotA_view (slots_disjoint _ _ _) (slots_cover _ _ _)) $$ A
  isplitl [B cb]
  · isplitl [cb]; · iexact cb
    iapply (some_split (F := F) (ℓ := (c : Thread nD τ).loc cc0_scoped2) _ (fun s => (slotB bR s).view.set) slotB_view (slots_disjoint _ _ _) (slots_cover _ _ _)) $$ B
  isplitl [C cc]
  · isplitl [cc]; · iexact cc
    iapply (some_split (F := F) (ℓ := (c : Thread nD τ).loc cc0_scoped4) _ (fun s => (slotB cR s).view.set) slotC_view (slots_disjoint _ _ _) (slots_cover _ _ _)) $$ C
  isplitl [G0 cg0]
  · isplitl [cg0]; · iexact cg0
    iapply (some_split (F := F) (ℓ := (c : Thread nD τ).loc cc0_scoped6) _ (fun s => (slotG g0R s).view.set) slotG0_view (slots_disjoint _ _ _) (slots_cover _ _ _)) $$ G0
  isplitl [G1 cg1]
  · isplitl [cg1]; · iexact cg1
    iapply (some_split (F := F) (ℓ := (c : Thread nD τ).loc cc0_scoped8) _ (fun s => (slotG g1R s).view.set) slotG1_view (slots_disjoint _ _ _) (slots_cover _ _ _)) $$ G1
  isplitl [G2 cg2]
  · isplitl [cg2]; · iexact cg2
    iapply (some_split (F := F) (ℓ := (c : Thread nD τ).loc cc0_scoped10) _ (fun s => (slotG g2R s).view.set) slotG2_view (slots_disjoint _ _ _) (slots_cover _ _ _)) $$ G2
  isplitl [ch]; · iexact ch
  iapply (some_split (F := F) (ℓ := (c : Thread nD τ).loc cc0_scoped12) _ (fun s => (slotH hR s).view.set) slotH_view (slots_disjoint _ _ _) (slots_cover _ _ _)) $$ H
theorem free_out : (bigSep Finset.univ (freeS c) : sProp 𝕄) ⊢ iprop(rings (F := F) c ∗ cellsIn c) := by
  rw [free_all]; unfold rings cellsIn
  iintro ⟨⟨ca, A⟩, ⟨cb, B⟩, ⟨cc, C⟩, ⟨cg0, G0⟩, ⟨cg1, G1⟩, ⟨cg2, G2⟩, ⟨ch, H⟩⟩
  isplitl [A B C G0 G1 G2 H]
  · isplitl [A]; · iapply (some_join (F := F) (ℓ := (c : Thread nD τ).loc cc0_scoped0) _ (fun s => (slotA aR s).view.set) slotA_view (slots_disjoint _ _ _) (slots_cover _ _ _) aR.view.junk); iexact A
    isplitl [B]; · iapply (some_join (F := F) (ℓ := (c : Thread nD τ).loc cc0_scoped2) _ (fun s => (slotB bR s).view.set) slotB_view (slots_disjoint _ _ _) (slots_cover _ _ _) bR.view.junk); iexact B
    isplitl [C]; · iapply (some_join (F := F) (ℓ := (c : Thread nD τ).loc cc0_scoped4) _ (fun s => (slotB cR s).view.set) slotC_view (slots_disjoint _ _ _) (slots_cover _ _ _) cR.view.junk); iexact C
    isplitl [G0]; · iapply (some_join (F := F) (ℓ := (c : Thread nD τ).loc cc0_scoped6) _ (fun s => (slotG g0R s).view.set) slotG0_view (slots_disjoint _ _ _) (slots_cover _ _ _) g0R.view.junk); iexact G0
    isplitl [G1]; · iapply (some_join (F := F) (ℓ := (c : Thread nD τ).loc cc0_scoped8) _ (fun s => (slotG g1R s).view.set) slotG1_view (slots_disjoint _ _ _) (slots_cover _ _ _) g1R.view.junk); iexact G1
    isplitl [G2]; · iapply (some_join (F := F) (ℓ := (c : Thread nD τ).loc cc0_scoped10) _ (fun s => (slotG g2R s).view.set) slotG2_view (slots_disjoint _ _ _) (slots_cover _ _ _) g2R.view.junk); iexact G2
    iapply (some_join (F := F) (ℓ := (c : Thread nD τ).loc cc0_scoped12) _ (fun s => (slotH hR s).view.set) slotH_view (slots_disjoint _ _ _) (slots_cover _ _ _) hR.view.junk); iexact H
  isplitl [ca]; · iexact ca
  isplitl [cb]; · iexact cb
  isplitl [cc]; · iexact cc
  isplitl [cg0]; · iexact cg0
  isplitl [cg1]; · iexact cg1
  isplitl [cg2]; · iexact cg2
  iexact ch
theorem freeO_in : iprop(oRing (F := F) c ∗ cellsOut c) ⊢ (bigSep Finset.univ (freeO c) : sProp 𝕄) := by
  rw [freeO_all]; unfold oRing cellsOut
  iintro ⟨O, co⟩
  isplitl [co]; · iexact co
  iapply (some_split (F := F) (ℓ := (c : Thread nD τ).loc cc0_scoped19) _ (fun s => (slotO oR s).view.set) slotO_view (slots_disjoint _ _ _) (slots_cover _ _ _)) $$ O
theorem freeO_out' : (bigSep Finset.univ (freeO c) : sProp 𝕄) ⊢ iprop(oRing (F := F) c ∗ cellsOut c) := by
  rw [freeO_all]; unfold oRing cellsOut
  iintro ⟨co, O⟩
  isplitl [O]
  · iapply (some_join (F := F) (ℓ := (c : Thread nD τ).loc cc0_scoped19) _ (fun s => (slotO oR s).view.set) slotO_view (slots_disjoint _ _ _) (slots_cover _ _ _) oR.view.junk); iexact O
  iexact co

end Split
end Cert.KernelIdeal.Merge
-- ==== Proof.Run.lean ====
/-
  The run: the kernel launched from any memory, the pipeline's body given what the launch hands over, and what memory
  holds at the end.
-/
module

public import proofs.«01_k».proof.Proof.Body
public import proofs.«01_k».proof.Proof.Split
public import proofs.«01_k».proof.Proof.Gen.KernelIdeal
public import proofs.«01_k».proof.Proof.Gen.KernelIdeal.Frame

@[expose] public section

noncomputable section

namespace Cert.KernelIdeal.Merge

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The cells -/

/-- The kernel's own semaphores: every transfer's. -/
abbrev osem : Fin 28 → SemLoc sig := fun i => .dma i
theorem ownSemFacts : Pipeline.OwnSemFacts (cfgs 0).spec osem := by decide

theorem ownSems0_eq (c : Dev nD) : (Pipeline.ownSems0 (Ix := Unit) (Name := ℕ) (U := UU nD τ) (Lvl := ℕ) (Val := Elt F) (τ := τ) osem c : sProp 𝕄)
    = iprop(cell0 c (csm cc0_scoped1 0) ∗ cell0 c (csm cc0_scoped1 1) ∗ cell0 c (csm cc0_scoped1 2)
        ∗ cell0 c (csm cc0_scoped3 0) ∗ cell0 c (csm cc0_scoped3 1) ∗ cell0 c (csm cc0_scoped3 2)
        ∗ cell0 c (csm cc0_scoped5 0) ∗ cell0 c (csm cc0_scoped5 1) ∗ cell0 c (csm cc0_scoped5 2)
        ∗ cell0 c (csm cc0_scoped7 0) ∗ cell0 c (csm cc0_scoped7 1) ∗ cell0 c (csm cc0_scoped7 2)
        ∗ cell0 c (csm cc0_scoped9 0) ∗ cell0 c (csm cc0_scoped9 1) ∗ cell0 c (csm cc0_scoped9 2)
        ∗ cell0 c (csm cc0_scoped11 0) ∗ cell0 c (csm cc0_scoped11 1) ∗ cell0 c (csm cc0_scoped11 2)
        ∗ cell0 c (csm cc0_scoped13 0) ∗ cell0 c (csm cc0_scoped13 1) ∗ cell0 c (csm cc0_scoped13 2)
        ∗ cell0 c (csm2 cc0_scoped20 0) ∗ cell0 c (csm2 cc0_scoped20 1)
        ∗ cell0 c cc0_scoped21 ∗ cell0 c cc0_scoped22 ∗ cell0 c cc0_scoped23 ∗ cell0 c cc0_scoped24 ∗ cell0 c cc0_scoped25) := by
  unfold Pipeline.ownSems0
  exact bigSep_univ_eq_bigSepL (List.finRange 28) (by decide) (by decide) _

theorem cells_split (c : Dev nD) : (Pipeline.ownSems0 (Ix := Unit) (Name := ℕ) (U := UU nD τ) (Lvl := ℕ) (Val := Elt F) (τ := τ) osem c : sProp 𝕄)
    ⊢ iprop(cellsIn c ∗ cellsOut c ∗ wcells c) := by
  rw [ownSems0_eq]; unfold cellsIn cellsOut wcells
  rw [Ring.bigSep_fin3, Ring.bigSep_fin3, Ring.bigSep_fin3, Ring.bigSep_fin3, Ring.bigSep_fin3, Ring.bigSep_fin3, Ring.bigSep_fin3, Ring.bigSep_fin2]
  iintro ⟨a0, a1, a2, b0, b1, b2, c0, c1, c2, d0, d1, d2, e0, e1, e2, f0, f1, f2, g0, g1, g2, o0, o1, w⟩
  isplitr [o0 o1 w]
  · isplitl [a0 a1 a2]; · isplitl [a0]; · iexact a0
                          isplitl [a1]; · iexact a1
                          iexact a2
    isplitl [b0 b1 b2]; · isplitl [b0]; · iexact b0
                          isplitl [b1]; · iexact b1
                          iexact b2
    isplitl [c0 c1 c2]; · isplitl [c0]; · iexact c0
                          isplitl [c1]; · iexact c1
                          iexact c2
    isplitl [d0 d1 d2]; · isplitl [d0]; · iexact d0
                          isplitl [d1]; · iexact d1
                          iexact d2
    isplitl [e0 e1 e2]; · isplitl [e0]; · iexact e0
                          isplitl [e1]; · iexact e1
                          iexact e2
    isplitl [f0 f1 f2]; · isplitl [f0]; · iexact f0
                          isplitl [f1]; · iexact f1
                          iexact f2
    isplitl [g0]; · iexact g0
    isplitl [g1]; · iexact g1
    iexact g2
  isplitl [o0 o1]; · isplitl [o0]; · iexact o0
                     iexact o1
  iexact w
theorem cells_join (c : Dev nD) : iprop(cellsIn c ∗ cellsOut c ∗ wcells c)
    ⊢ (Pipeline.ownSems0 (Ix := Unit) (Name := ℕ) (U := UU nD τ) (Lvl := ℕ) (Val := Elt F) (τ := τ) osem c : sProp 𝕄) := by
  rw [ownSems0_eq]; unfold cellsIn cellsOut wcells
  rw [Ring.bigSep_fin3, Ring.bigSep_fin3, Ring.bigSep_fin3, Ring.bigSep_fin3, Ring.bigSep_fin3, Ring.bigSep_fin3, Ring.bigSep_fin3, Ring.bigSep_fin2]
  iintro ⟨⟨⟨a0, a1, a2⟩, ⟨b0, b1, b2⟩, ⟨c0, c1, c2⟩, ⟨d0, d1, d2⟩, ⟨e0, e1, e2⟩, ⟨f0, f1, f2⟩, ⟨g0, g1, g2⟩⟩, ⟨o0, o1⟩, w⟩
  isplitl [a0]; · iexact a0
  isplitl [a1]; · iexact a1
  isplitl [a2]; · iexact a2
  isplitl [b0]; · iexact b0
  isplitl [b1]; · iexact b1
  isplitl [b2]; · iexact b2
  isplitl [c0]; · iexact c0
  isplitl [c1]; · iexact c1
  isplitl [c2]; · iexact c2
  isplitl [d0]; · iexact d0
  isplitl [d1]; · iexact d1
  isplitl [d2]; · iexact d2
  isplitl [e0]; · iexact e0
  isplitl [e1]; · iexact e1
  isplitl [e2]; · iexact e2
  isplitl [f0]; · iexact f0
  isplitl [f1]; · iexact f1
  isplitl [f2]; · iexact f2
  isplitl [g0]; · iexact g0
  isplitl [g1]; · iexact g1
  isplitl [g2]; · iexact g2
  isplitl [o0]; · iexact o0
  isplitl [o1]; · iexact o1
  iexact w

/-! ## What the kernel's region is given and gives back -/

/-- The arrays' contents when the region is entered, and the weights' as the host prepares them. -/
def xs (c : Dev nD) : Ins (F := F) c := ⟨V m c main_arg0, V m c main_arg1, V m c main_arg2, V m c main_arg3, V m c main_arg4⟩
def wsOf (c : Dev nD) : Wins (F := F) c := ⟨V m c main_v0, V m c main_v1, V m c main_v2, V m c main_v3, V m c main_v4⟩
/-- The result. -/
def out (c : Dev nD) : Buf (Elt F) (outM.view.loc (c : Thread nD τ)) := result c (xs m c) (fetched c (wsOf m c))

/-- The arrays the kernel does not touch. -/
def asides (c : Dev nD) : sProp 𝕄 := iprop((((c : Thread nD τ).loc main_arg5) ↦{fullShare} V m c main_arg5) ∗ (((c : Thread nD τ).loc main_arg6) ↦{fullShare} V m c main_arg6)
  ∗ (((c : Thread nD τ).loc main_arg7) ↦{fullShare} V m c main_arg7) ∗ (((c : Thread nD τ).loc main_arg8) ↦{fullShare} V m c main_arg8)
  ∗ (((c : Thread nD τ).loc main_arg9) ↦{fullShare} V m c main_arg9))
/-- The memory in HBM, the result's array at `Z`. -/
def hbm (c : Dev nD) (Z : Buf (Elt F) (outM.view.loc (c : Thread nD τ))) : sProp 𝕄 :=
  iprop(arrs c (xs m c) ∗ asides m c ∗ wsrc c (wsOf m c) ∗ ((c : Thread nD τ).loc main_v5) ↦{fullShare} Z)
/-- The kernel's own buffers. -/
def bufs (c : Dev nD) : sProp 𝕄 := iprop(rings (F := F) c ∗ wany c ∗ oRing c)

omit [FloatOps F] in
theorem pt_whole (c : Dev nD) (b : Ref sig .tc) (f : Buf (Elt F) ((c : Thread nD τ).loc b)) :
    (((c : Thread nD τ).loc b) ↦[(View.whole b).set]{fullShare} f : sProp 𝕄) = (((c : Thread nD τ).loc b) ↦{fullShare} f) := by rw [View.set_whole]

theorem wsrc_eq (c : Dev nD) (W : Wins (F := F) c) : (wsrc c W : sProp 𝕄) = iprop((((c : Thread nD τ).loc main_v0) ↦{fullShare} W.a)
    ∗ (((c : Thread nD τ).loc main_v1) ↦{fullShare} W.b) ∗ (((c : Thread nD τ).loc main_v2) ↦{fullShare} W.c')
    ∗ (((c : Thread nD τ).loc main_v3) ↦{fullShare} W.o) ∗ (((c : Thread nD τ).loc main_v4) ↦{fullShare} W.n)) := by
  rw [← pt_whole c main_v0, ← pt_whole c main_v1, ← pt_whole c main_v2, ← pt_whole c main_v3, ← pt_whole c main_v4]
  exact wsrc.eq_def c W
theorem wany_eq (c : Dev nD) : (wany c : sProp 𝕄) = iprop((∃ f : Buf (Elt F) ((c : Thread nD τ).loc cc0_scoped14), ((c : Thread nD τ).loc cc0_scoped14) ↦{fullShare} f)
    ∗ (∃ f : Buf (Elt F) ((c : Thread nD τ).loc cc0_scoped15), ((c : Thread nD τ).loc cc0_scoped15) ↦{fullShare} f)
    ∗ (∃ f : Buf (Elt F) ((c : Thread nD τ).loc cc0_scoped16), ((c : Thread nD τ).loc cc0_scoped16) ↦{fullShare} f)
    ∗ (∃ f : Buf (Elt F) ((c : Thread nD τ).loc cc0_scoped17), ((c : Thread nD τ).loc cc0_scoped17) ↦{fullShare} f)
    ∗ (∃ f : Buf (Elt F) ((c : Thread nD τ).loc cc0_scoped18), ((c : Thread nD τ).loc cc0_scoped18) ↦{fullShare} f)) := by
  simp only [← pt_whole c]
  exact wany.eq_def c

theorem hbm_in (c : Dev nD) : (Pipeline.unscopedRest (Ix := Unit) (Name := ℕ) (U := UU nD τ) (Lvl := ℕ) (cfg0.spec) c (V m c) : sProp 𝕄) ⊢ hbm m c (V m c main_v5) := by
  rw [unscopedRest0_eq]; unfold hbm arrs asides; rw [wsrc_eq]
  iintro ⟨a0, a1, a2, a3, a4, a5, a6, a7, a8, a9, v0, v1, v2, v3, v4, v5⟩
  isplitl [a0 a1 a2 a3 a4]
  · isplitl [a0]; · iexact a0
    isplitl [a1]; · iexact a1
    isplitl [a2]; · iexact a2
    isplitl [a3]; · iexact a3
    iexact a4
  isplitl [a5 a6 a7 a8 a9]
  · isplitl [a5]; · iexact a5
    isplitl [a6]; · iexact a6
    isplitl [a7]; · iexact a7
    isplitl [a8]; · iexact a8
    iexact a9
  isplitr [v5]
  · isplitl [v0]; · iexact v0
    isplitl [v1]; · iexact v1
    isplitl [v2]; · iexact v2
    isplitl [v3]; · iexact v3
    iexact v4
  iexact v5
theorem bufs_in (c : Dev nD) : (Pipeline.scopedRest (Ix := Unit) (Name := ℕ) (U := UU nD τ) (Lvl := ℕ) (Val := Elt F) (cfg0.spec) c : sProp 𝕄) ⊢ bufs c := by
  rw [scopedRest0_eq]; unfold bufs rings oRing; rw [wany_eq]
  iintro ⟨r0, r1, r2, r3, r4, r5, r6, w0, w1, w2, w3, w4, o⟩
  isplitr [w0 w1 w2 w3 w4 o]
  · isplitl [r0]; · iexact r0
    isplitl [r1]; · iexact r1
    isplitl [r2]; · iexact r2
    isplitl [r3]; · iexact r3
    isplitl [r4]; · iexact r4
    isplitl [r5]; · iexact r5
    iexact r6
  isplitr [o]
  · isplitl [w0]; · iexact w0
    isplitl [w1]; · iexact w1
    isplitl [w2]; · iexact w2
    isplitl [w3]; · iexact w3
    iexact w4
  iexact o
theorem bufs_out (c : Dev nD) : bufs c ⊢ (Pipeline.scopedRest (Ix := Unit) (Name := ℕ) (U := UU nD τ) (Lvl := ℕ) (Val := Elt F) (cfg0.spec) c : sProp 𝕄) := by
  rw [scopedRest0_eq]; unfold bufs rings oRing; rw [wany_eq]
  iintro ⟨⟨r0, r1, r2, r3, r4, r5, r6⟩, ⟨w0, w1, w2, w3, w4⟩, o⟩
  isplitl [r0]; · iexact r0
  isplitl [r1]; · iexact r1
  isplitl [r2]; · iexact r2
  isplitl [r3]; · iexact r3
  isplitl [r4]; · iexact r4
  isplitl [r5]; · iexact r5
  isplitl [r6]; · iexact r6
  isplitl [w0]; · iexact w0
  isplitl [w1]; · iexact w1
  isplitl [w2]; · iexact w2
  isplitl [w3]; · iexact w3
  isplitl [w4]; · iexact w4
  iexact o

/-! ## The body, from what the region is given -/

/-- What the region holds: the memory, its own buffers, its cells. -/
def held (c : Dev nD) (Z : Buf (Elt F) (outM.view.loc (c : Thread nD τ))) : sProp 𝕄 :=
  iprop(hbm m c Z ∗ bufs c ∗ Pipeline.ownSems0 (Ix := Unit) (Name := ℕ) (U := UU nD τ) (Lvl := ℕ) (Val := Elt F) (τ := τ) osem c)

theorem homes_zero (c : Dev nD) (X : Ins (F := F) c) :
    (bigSep Finset.univ (home c X) : sProp 𝕄) = iprop(home c X (Ring.bk 16 0) ∗ home c X (Ring.bk 16 1) ∗ bigSep (Ring.homeSet 2 0) (home c X)) := by
  have e : (Finset.univ : Finset (Fin 16)) = insert (Ring.bk 16 0) (insert (Ring.bk 16 1) (Ring.homeSet (NB := 16) 2 0)) := by decide
  rw [e, bigSep_insert (by decide), bigSep_insert (by decide)]; rfl
theorem slots_zero (c : Dev nD) : (bigSep Finset.univ (freeS (F := F) c) : sProp 𝕄) = iprop(freeS c (Ring.sl 3 0) ∗ freeS c (Ring.sl 3 1) ∗ freeS c (Ring.sl 3 2)) :=
  Ring.bigSep_fin3 _
theorem slots_end (c : Dev nD) : iprop(freeS c (Ring.sl 3 16) ∗ freeS c (Ring.sl 3 17) ∗ freeS c (Ring.sl 3 18)) ⊢ (bigSep Finset.univ (freeS (F := F) c) : sProp 𝕄) := by
  rw [slots_zero, show Ring.sl 3 16 = Ring.sl 3 1 from by decide, show Ring.sl 3 17 = Ring.sl 3 2 from by decide, show Ring.sl 3 18 = Ring.sl 3 0 from by decide]
  iintro ⟨A, B, C⟩
  isplitl [C]; · iexact C
  isplitl [A]; · iexact A
  iexact B
theorem slotsO_zero (c : Dev nD) : (bigSep Finset.univ (freeO (F := F) c) : sProp 𝕄) = iprop(freeO c (Ring.sl 2 0) ∗ freeO c (Ring.sl 2 1)) :=
  Ring.bigSep_fin2 _
theorem slotsO_end (c : Dev nD) : iprop(freeO c (Ring.sl 2 16) ∗ freeO c (Ring.sl 2 17)) ⊢ (bigSep Finset.univ (freeO (F := F) c) : sProp 𝕄) := by
  rw [slotsO_zero, show Ring.sl 2 16 = Ring.sl 2 0 from by decide, show Ring.sl 2 17 = Ring.sl 2 1 from by decide]

theorem wts_any (c : Dev nD) (Y : Ws (F := F) c) : (wts c Y : sProp 𝕄) ⊢ wany c := by
  unfold wts wany
  iintro ⟨A, B, C, O, N⟩
  isplitl [A]; · iexists Y.a; iexact A
  isplitl [B]; · iexists Y.b; iexact B
  isplitl [C]; · iexists Y.c'; iexact C
  isplitl [O]; · iexists Y.o; iexact O
  iexists Y.n; iexact N

theorem body_held (c : Dev nD) (Z : Buf (Elt F) (outM.view.loc (c : Thread nD τ))) (Q : PUnit → sProp 𝕄) :
    iprop((held m c Z ∗ idle c) ∗ (held m c (out m c) ∗ idle c -∗ Q ⟨⟩)) ⊢ wp frame (wpE (defs₀ (F := F)) 𝒱₀ c none) Set.univ (bodyG (F := F)) Q := by
  unfold held hbm bufs
  iintro ⟨⟨⟨⟨HA, HI, HW, HO⟩, ⟨RR, WY, RO⟩, CS⟩, I⟩, Hk⟩
  ihave HA2 := (arrs_split c (xs m c)) $$ HA
  icases HA2 with ⟨HH, HR⟩
  ihave HH2 := (Entails.of_eq (homes_zero c (xs m c))) $$ HH
  icases HH2 with ⟨B0, B1, BB⟩
  ihave CS2 := (cells_split c) $$ CS
  icases CS2 with ⟨CI, CO, CW⟩
  ihave FS := (free_in (F := F) c) $$ [RR CI]
  · isplitl [RR]; · iexact RR
    iexact CI
  ihave FS2 := (Entails.of_eq (slots_zero c)) $$ FS
  icases FS2 with ⟨F0, F1, F2⟩
  ihave FO := (freeO_in (F := F) c) $$ [RO CO]
  · isplitl [RO]; · iexact RO
    iexact CO
  ihave FO2 := (Entails.of_eq (slotsO_zero c)) $$ FO
  icases FO2 with ⟨O0, O1⟩
  ihave HO2 := (Entails.of_eq (out_eq c Z)) $$ HO
  iapply (bodyRun c (xs m c) Z (wsOf m c) Q)
  isplitr [HI HR Hk]
  · isplitl [B0]; · iexact B0
    isplitl [B1]; · iexact B1
    isplitl [BB]; · iexact BB
    isplitl [F0]; · iexact F0
    isplitl [F1]; · iexact F1
    isplitl [F2]; · iexact F2
    isplitl [O0]; · iexact O0
    isplitl [O1]; · iexact O1
    isplitl [HO2]; · iexact HO2
    isplitl [HW]; · iexact HW
    isplitl [WY]; · iexact WY
    isplitl [CW]; · iexact CW
    iexact I
  iintro ⟨HH, F0, F1, F2, O0, O1, D, HW, WT, CW, I⟩
  iapply Hk
  ihave FS := (slots_end (F := F) c) $$ [F0 F1 F2]
  · isplitl [F0]; · iexact F0
    isplitl [F1]; · iexact F1
    iexact F2
  ihave FS2 := (free_out (F := F) c) $$ FS
  icases FS2 with ⟨RR, CI⟩
  ihave FO := (slotsO_end (F := F) c) $$ [O0 O1]
  · isplitl [O0]; · iexact O0
    iexact O1
  ihave FO2 := (freeO_out' (F := F) c) $$ FO
  icases FO2 with ⟨RO, CO⟩
  ihave D2 := (Entails.of_eq (result_join c (xs m c) (fetched c (wsOf m c)) Z)) $$ D
  ihave WY := (wts_any c _) $$ WT
  isplitr [I]
  · isplitl [HH HR HI HW D2]
    · isplitl [HH HR]
      · iapply (arrs_join c (xs m c))
        isplitl [HH]; · iexact HH
        iexact HR
      isplitl [HI]; · iexact HI
      isplitl [HW]; · iexact HW
      iexact D2
    isplitl [RR WY RO]
    · isplitl [RR]; · iexact RR
      isplitl [WY]; · iexact WY
      iexact RO
    iapply (cells_join (F := F) c)
    isplitl [CI]; · iexact CI
    isplitl [CO]; · iexact CO
    iexact CW
  iexact I

/-! ## The launch -/

def dats (_ : Fin 1) (c : Dev nD) : Dat τ (Elt F) Unit ℕ (UU nD τ) ℕ cfg0 c where
  A w := w.elim0
  after w _ := w.elim0
  Φ t := held m c (if t.val = 0 then V m c main_v5 else out m c)
  q _ := fullShare
  owed _ := 0

theorem defs_tc : (defs₀ (F := F)) .tc cfg0.body = fun _ => bodyG := rfl
theorem prog_eq (t : Fin cfg0.N) : (defs₀ (F := F)) .tc cfg0.body (cfg0.bodyArgs t (cfg0.slots t)) = bodyG (F := F) :=
  (congrFun defs_tc _).trans rfl

omit [FloatOps F] in
theorem no_windows (Φ : Fin cfg0.W → sProp 𝕄) : (BI.emp : sProp 𝕄) ⊢ bigSep Finset.univ Φ :=
  Entails.of_eq (show bigSep (∅ : Finset (Fin cfg0.W)) Φ = BI.emp from bigSep_empty).symm

set_option backward.isDefEq.respectTransparency.types false in
theorem body_obligation (c : Dev nD) : BodyObligation (dats (F := F) m 0 c) (defs₀ (F := F)) 𝒱₀ () Set.univ := fun t => by
  have h0 : t.castSucc.val = 0 := by have := t.isLt; have := N_0; show t.val = 0; rw [fin_N0 t]; rfl
  rw [show (dats m 0 c).Φ t.castSucc = held m c (V m c main_v5) from by show held m c (if t.castSucc.val = 0 then _ else _) = _; rw [if_pos h0],
    show (dats m 0 c).Φ t.succ = held m c (out m c) from by show held m c (if t.succ.val = 0 then _ else _) = _; rw [if_neg (by simp)]]
  unfold Dat.owesAt Pipeline.owesWithin
  rw [show (dats m 0 c).owed t.castSucc = 0 from rfl, show (dats m 0 c).owed t.succ = 0 from rfl]
  iintro ⟨H, ⟨%W, -, HW⟩, HB⟩
  sl_rw [prog_eq t]
  iapply (body_held m c (V m c main_v5))
  isplitl [H HW]
  · isplitl [H]; · iexact H
    unfold idle; iexists W; iexact HW
  iintro ⟨H, I⟩
  ihave I' := (Entails.of_eq (idle.eq_def c)) $$ I
  icases I' with ⟨%W', HW⟩
  isplitl [H]; · iexact H
  isplitl [HW]
  · iexists W'; isplitr; · ipureintro; exact fun _ _ => Or.inl trivial
    iexact HW
  iapply (no_windows (F := F) _)
  iempintro

/-! ## The run -/

def u₀ : UU nD τ := (initOf (Pipeline.cells cfgs Gen.cellOf_inj) (Pipeline.launchToks cfgs Gen.cellOf_inj), 1)

/-- What a final memory is claimed to hold: the arguments as launched, the result. -/
def QY (c : Dev nD) (s : MemSt nD τ sig (Elt F)) : Prop :=
  s.mem ((c : Thread nD τ).loc main_v5) = out m c
  ∧ s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg4) = m ((c : Thread nD τ).loc main_arg4) ∧ s.mem ((c : Thread nD τ).loc main_arg5) = m ((c : Thread nD τ).loc main_arg5)
  ∧ s.mem ((c : Thread nD τ).loc main_arg6) = m ((c : Thread nD τ).loc main_arg6) ∧ s.mem ((c : Thread nD τ).loc main_arg7) = m ((c : Thread nD τ).loc main_arg7)
  ∧ s.mem ((c : Thread nD τ).loc main_arg8) = m ((c : Thread nD τ).loc main_arg8) ∧ s.mem ((c : Thread nD τ).loc main_arg9) = m ((c : Thread nD τ).loc main_arg9)

theorem hbm_reads (c : Dev nD) (s' : Phys nD τ sig (Elt F)) : iprop(hbm m c (out m c) ∗ SI s') ⊢ (|={Set.univ}=> iprop(⌜QY m c s'.mem⌝ ∗ SI s') : sProp 𝕄) := by
  unfold hbm arrs asides
  iintro ⟨⟨⟨a0, a1, a2, a3, a4⟩, ⟨a5, a6, a7, a8, a9⟩, -, v5⟩, HSI⟩
  icombine HSI a0 gives %h0
  icombine HSI a1 gives %h1
  icombine HSI a2 gives %h2
  icombine HSI a3 gives %h3
  icombine HSI a4 gives %h4
  icombine HSI a5 gives %h5
  icombine HSI a6 gives %h6
  icombine HSI a7 gives %h7
  icombine HSI a8 gives %h8
  icombine HSI a9 gives %h9
  icombine HSI v5 gives %hv
  imodintro
  isplitr
  · ipureintro
    exact ⟨Buf.eq_of_forall_mem_univ hv, (Buf.eq_of_forall_mem_univ h0).trans (V_main_arg0 m c), (Buf.eq_of_forall_mem_univ h1).trans (V_main_arg1 m c),
      (Buf.eq_of_forall_mem_univ h2).trans (V_main_arg2 m c), (Buf.eq_of_forall_mem_univ h3).trans (V_main_arg3 m c),
      (Buf.eq_of_forall_mem_univ h4).trans (V_main_arg4 m c), (Buf.eq_of_forall_mem_univ h5).trans (V_main_arg5 m c),
      (Buf.eq_of_forall_mem_univ h6).trans (V_main_arg6 m c), (Buf.eq_of_forall_mem_univ h7).trans (V_main_arg7 m c),
      (Buf.eq_of_forall_mem_univ h8).trans (V_main_arg8 m c), (Buf.eq_of_forall_mem_univ h9).trans (V_main_arg9 m c)⟩
  iexact HSI

set_option backward.isDefEq.respectTransparency.types false in
/-- From any memory with zero counters every execution of the kernel ends, with every counter at zero, the arguments as
    launched and the result as `out` says. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub Gen.hostOps0_fresh main_chain)
    (hA := fun _ w => w.elim0)
    (X := fun c => iprop(hbm m c (V m c main_v5) ∗ Pipeline.ownSems0 osem c)) (Y := fun c => hbm m c (out m c)) (Z := fun _ => iprop(emp))
    (hX := fun c => by
      iintro ⟨H0, HS, -, -, -⟩; imodintro
      ihave H := (hbm_in m c) $$ H0
      isplitl [H HS]
      · isplitl [H]; · iexact H
        iexact HS
      iempintro)
    (hin := fun c => by
      rw [show (dats m 0 c).Φ 0 = held m c (V m c main_v5) from rfl]
      unfold held
      iintro ⟨⟨H0, HS⟩, Hb⟩
      ihave HB := (bufs_in (F := F) c) $$ Hb
      isplitl [H0]; · iexact H0
      isplitl [HB]; · iexact HB
      iexact HS)
    (hout := fun c => by
      rw [show (dats m 0 c).Φ (Fin.last cfg0.N) = held m c (out m c) from by
        show held m c (if (Fin.last cfg0.N).val = 0 then _ else _) = _; rw [if_neg (show ¬ (Fin.last cfg0.N).val = 0 from show ¬ grid0.N = 0 from by rw [N_0]; decide)]]
      unfold held
      iintro ⟨H0, Hb, HS⟩
      isplitl [H0]; · iexact H0
      isplitl [HS]; · iexact HS
      iapply (bufs_out (F := F) c); iexact Hb)
    (QY := QY m)
    (hY := fun c s' => by
      iintro ⟨H0, -, HSI⟩
      iapply (hbm_reads m c s')
      isplitl [H0]; · iexact H0
      iexact HSI)
    (hQ := fun _ hh hz => ⟨fun c => (hh c).2, hz⟩)

end Cert.KernelIdeal.Merge
-- ==== Proof.Frames.lean ====
/-
  The three frames: each program ends with its arguments as launched and every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩) (Cert.KernelIdeal.Merge.run_main (F := Ideal) m ρ)

set_option maxHeartbeats 8000000 in
theorem frame_kernel : Cert.quiescent_Kernel := fun m ρ _ =>
  (θ_run Cert.KernelIdeal.defs _ _).mono (fun _ h => ⟨fun c => (h.1 c).2, h.2⟩) (Cert.KernelIdeal.Merge.run_main (F := Bits) m ρ)

/-- The reference's program names no semaphore at all. -/
theorem no_sem (g : GSem Cert.ReferenceIdeal.nD Cert.ReferenceIdeal.τ Cert.ReferenceIdeal.sig) : False := by
  obtain ⟨⟨d, q⟩, s⟩ := g
  cases q <;> cases s <;> rename_i s <;> exact Nat.not_lt_zero _ s.isLt

theorem frame_referenceIdeal : Cert.quiescent_ReferenceIdeal := fun m ρ _ =>
  (θ_run Cert.ReferenceIdeal.defs _ _).mono (fun _ h => ⟨fun c => (h c).2, funext fun g => (no_sem g).elim⟩) (Cert.ReferenceIdeal.Value.run (F := Ideal) m ρ)

end Cert.Proof

end
-- ==== Proof.Rows.lean ====
/-
  The block's value over the reals: what a trip stores, element by element, as sums over the rows of its operands.
-/
module

public import proofs.«01_k».proof.Proof.Held
public import Idealize.ShloMosaic.Lib.Pointwise

@[expose] public section

noncomputable section

namespace Cert.KernelIdeal.Merge

open Cert.KernelIdeal Cert.KernelIdeal.Gen
open Idealize.ShloMosaic
open scoped BigOperators

/-! ## The merge of one row -/

/-- The logistic function. -/
def gate (x : EReal) : EReal := Ideal.div 1 (1 + Ideal.exp (-x))
/-- Column `q` of the gated sum of the three branches' rows `a`, `b`, `d`, the gates' row being `n`. -/
def mixRow (a : Fin 256 → EReal) (b d : Fin 512 → EReal) (n : Fin 3 → EReal) (wa : Fin 256 → EReal) (wb wd : Fin 512 → EReal) : EReal :=
  gate (n 0) * (∑ k, a k * wa k) + gate (n 1) * (∑ k, b k * wb k) + gate (n 2) * (∑ k, d k * wd k)
/-- Column `l` of the normalised row `y`, weighted, added to the residual. -/
def normRow (y : Fin 1024 → EReal) (h w : EReal) (l : Fin 1024) : EReal :=
  h + y l * Ideal.rsqrt (Ideal.div (∑ k, y k * y k) (Ideal.ofBits .f32 0x44800000#32) + Ideal.ofBits .f32 0x358637BD#32) * w

theorem gate_eq (x : EReal) : Ideal.div 1 (1 + Ideal.exp (0 - x)) = gate x := by rw [zero_sub]; rfl

/-! ## The four pieces of the gated sum -/

section
variable (va : Vec Ideal S1x1024x256 .bf16) (vb vc : Vec Ideal S1x1024x512 .bf16) (g : Fin 3 → Fin 4 → Vec Ideal S1024x256 .bf16)
  (wa : Fin 4 → Vec Ideal S256x256 .bf16) (wb wc : Fin 4 → Vec Ideal S512x256 .bf16) (r : Fin 1024) (q : Fin 256)

/-- Piece `j` of the gated sum. -/
abbrev pieceMix (j : Fin 4) : EReal :=
  mixRow (fun k => va (ix3 0 r k)) (fun k => vb (ix3 0 r k)) (fun k => vc (ix3 0 r k)) (fun i => g i j (ix2 r q))
    (fun k => wa j (ix2 k q)) (fun k => wb j (ix2 k q)) (fun k => wc j (ix2 k q))

theorem piece0 : (k0_pay10 (k0_pay2 vb (wb 0)) (k0_pay5 (k0_pay3 vc) (k0_pay4 (wc 0))) (k0_pay9 (k0_pay1 va (wa 0)) (g 0 0)) (g 1 0) (g 2 0)) (ix2 r q)
    = pieceMix va vb vc g wa wb wc r q 0 := by
  pointwise [k0_pay10, k0_pay2, k0_pay5, k0_pay3, k0_pay4, k0_pay9, k0_pay1, pieceMix, mixRow, gate_eq]
theorem piece1 : (k0_pay16 (k0_pay8 vc (wc 1)) (k0_pay14 (k0_pay6 va (wa 1)) (k0_pay7 vb (wb 1)) (g 0 1) (g 1 1)) (k0_pay15 (g 2 1))
    (FloatOps.ofBits .f32 1065353216#32)) (ix2 r q) = pieceMix va vb vc g wa wb wc r q 1 := by
  pointwise [k0_pay16, k0_pay8, k0_pay14, k0_pay6, k0_pay7, k0_pay15, pieceMix, mixRow, gate_eq]
theorem piece2 : (k0_pay21 (k0_pay12 vb (wb 2)) (k0_pay13 vc (wc 2)) (k0_pay20 (k0_pay11 va (wa 2)) (g 0 2)) (g 1 2) (g 2 2)) (ix2 r q)
    = pieceMix va vb vc g wa wb wc r q 2 := by
  pointwise [k0_pay21, k0_pay12, k0_pay13, k0_pay20, k0_pay11, pieceMix, mixRow, gate_eq]

theorem piece3 : addf (addf (k0_pay22 (k0_pay17 va (wa 3)) (g 0 3)) (mulf (divf (broadcast S1024x256 (Scalar.ofBits .f32 0x3F800000#32)) (addf (broadcast S1024x256 (Scalar.ofBits .f32 0x3F800000#32))
      (exp (subf (broadcast S1024x256 (Scalar.ofBits .f32 0x00000000#32)) (extf .f32 (g 1 3) bitsLt_bf16_f32))))) (k0_pay18 vb (wb 3))))
      (mulf (divf (broadcast S1024x256 (Scalar.ofBits .f32 0x3F800000#32)) (addf (broadcast S1024x256 (Scalar.ofBits .f32 0x3F800000#32))
      (exp (subf (broadcast S1024x256 (Scalar.ofBits .f32 0x00000000#32)) (extf .f32 (g 2 3) bitsLt_bf16_f32))))) (k0_pay19 vc (wc 3))) (ix2 r q)
    = pieceMix va vb vc g wa wb wc r q 3 := by
  pointwise [k0_pay22, k0_pay17, k0_pay18, k0_pay19, pieceMix, mixRow, gate_eq]
end

/-! ## The whole row

The four pieces side by side, projected, normalised and added to the residual. -/

section
variable (va : Vec Ideal S1x1024x256 .bf16) (vb vc : Vec Ideal S1x1024x512 .bf16) (vn : Fin 3 → Vec Ideal S1024x1024 .bf16) (vh : Vec Ideal S1x1024x1024 .f32)
  (wa : Vec Ideal S256x1024 .bf16) (wb wc : Vec Ideal S512x1024 .bf16) (wo : Vec Ideal S1024x1024 .bf16) (wn : Vec Ideal S1x1024 .f32) (r l : Fin 1024)

/-- Column `k` of the gated sum of row `r`. -/
def mixCol (k : Fin 1024) : EReal :=
  mixRow (fun i => va (ix3 0 r i)) (fun i => vb (ix3 0 r i)) (fun i => vc (ix3 0 r i)) (fun i => vn i (ix2 r k))
    (fun i => wa (ix2 i k)) (fun i => wb (ix2 i k)) (fun i => wc (ix2 i k))
/-- Column `l` of the projected row `r`. -/
def projCol : EReal := ∑ k, mixCol va vb vc vn wa wb wc r k * wo (ix2 k l)

theorem piece_apply {R : ℕ} {e : EltTy} (v : (⟨2, ![R, 1024]⟩ : Shape).Idx → Elt Ideal e) (j : Fin 4) (a : Fin R) (q : Fin 256) :
    piece v j (ix2 a q) = v (ix2 a ⟨256 * j.val + q.val, by omega⟩) := by
  refine congrArg v (funext fun d => Fin.ext ?_)
  match d with
  | ⟨0, h⟩ => simp [Rect.unit, LoadRect.idx, Rect.toLoadRect]
  | ⟨1, h⟩ => simp [Rect.unit, LoadRect.idx, Rect.toLoadRect]

theorem piece_mix (j : Fin 4) (q : Fin 256) :
    pieceMix va vb vc (fun i j => piece (vn i) j) (piece wa) (piece wb) (piece wc) r q j = mixCol va vb vc vn wa wb wc r ⟨256 * j.val + q.val, by omega⟩ := by
  unfold pieceMix mixCol
  congr 1 <;> funext i <;> exact piece_apply _ j _ q

/-- Four pieces side by side, where piece `j`'s row reads as columns `256 j …` of one row. -/
theorem beside_apply (x0 x1 x2 x3 : FVec Ideal S1024x256 .bf16) (f : Fin 1024 → EReal)
    (h0 : ∀ q : Fin 256, x0 (ix2 r q) = f ⟨256 * (0 : Fin 4).val + q.val, by omega⟩) (h1 : ∀ q : Fin 256, x1 (ix2 r q) = f ⟨256 * (1 : Fin 4).val + q.val, by omega⟩)
    (h2 : ∀ q : Fin 256, x2 (ix2 r q) = f ⟨256 * (2 : Fin 4).val + q.val, by omega⟩) (h3 : ∀ q : Fin 256, x3 (ix2 r q) = f ⟨256 * (3 : Fin 4).val + q.val, by omega⟩)
    (k : Fin 1024) : concatenate S1024x1024 1 [⟨S1024x256, x0⟩, ⟨S1024x256, x1⟩, ⟨S1024x256, x2⟩, ⟨S1024x256, x3⟩]
      concatenates_S1024x256_S1024x256_S1024x256_S1024x256_S1024x1024_d1 (ix2 r k) = f k := by
  pointwise
  split
  · exact (h0 ⟨k.val, by assumption⟩).trans (congrArg f (Fin.ext (by simp)))
  split
  · exact (h1 ⟨k.val - 256, by assumption⟩).trans (congrArg f (Fin.ext (by simp; omega)))
  split
  · exact (h2 ⟨k.val - 256 - 256, by assumption⟩).trans (congrArg f (Fin.ext (by simp; omega)))
  · exact (h3 ⟨k.val - 256 - 256 - 256, by omega⟩).trans (congrArg f (Fin.ext (by simp; omega)))

/-- A product whose left operand's row is known. -/
theorem proj_apply (x : FVec Ideal S1024x1024 .bf16) (f : Fin 1024 → EReal) (hx : ∀ k, x (ix2 r k) = f k) :
    matmul (F := Ideal) (φ₁ := .bf16) (φ₂ := .bf16) dot_S1024x1024_S1024x1024_S1024x1024_1_0_0_1_n_n none x (shapeCast S1024x1024 wo shapeCasts_S1024x1024_S1024x1024)
      (constant S1024x1024 .f32 0x00000000#32) (ix2 r l) = ∑ k, f k * wo (ix2 k l) := by
  pointwise
  exact Finset.sum_congr rfl fun k _ => by rw [hx]

theorem mixed_apply : mixed va vb vc (fun i j => piece (vn i) j) (piece wa) (piece wb) (piece wc) wo (ix2 r l) = projCol va vb vc vn wa wb wc wo r l := by
  unfold mixed k0_pay23
  exact proj_apply wo r l _ _ (beside_apply r _ _ _ _ _
    (fun q => (piece0 va vb vc (fun i j => piece (vn i) j) (piece wa) (piece wb) (piece wc) r q).trans (piece_mix va vb vc vn wa wb wc r 0 q))
    (fun q => (piece1 va vb vc (fun i j => piece (vn i) j) (piece wa) (piece wb) (piece wc) r q).trans (piece_mix va vb vc vn wa wb wc r 1 q))
    (fun q => (piece2 va vb vc (fun i j => piece (vn i) j) (piece wa) (piece wb) (piece wc) r q).trans (piece_mix va vb vc vn wa wb wc r 2 q))
    (fun q => (piece3 va vb vc (fun i j => piece (vn i) j) (piece wa) (piece wb) (piece wc) r q).trans (piece_mix va vb vc vn wa wb wc r 3 q)))

theorem sumsq_apply : sumsq va vb vc (fun i j => piece (vn i) j) (piece wa) (piece wb) (piece wc) wo (ix1 r)
    = ∑ k, projCol va vb vc vn wa wb wc wo r k * projCol va vb vc vn wa wb wc wo r k := by
  have h : sumsq va vb vc (fun i j => piece (vn i) j) (piece wa) (piece wb) (piece wc) wo
      = multiReduction .add [1] S1024 (mulf (mixed va vb vc (fun i j => piece (vn i) j) (piece wa) (piece wb) (piece wc) wo)
        (mixed va vb vc (fun i j => piece (vn i) j) (piece wa) (piece wb) (piece wc) wo)) 0x00000000#32 reduces_S1024x1024_S1024 (.inl rfl) rfl := rfl
  rw [h]
  generalize hy : mixed va vb vc (fun i j => piece (vn i) j) (piece wa) (piece wb) (piece wc) wo = y
  pointwise
  exact Finset.sum_congr rfl fun k _ => by rw [← hy, mixed_apply]

/-- Row `r`, column `l` of what a trip stores. -/
theorem stored_apply : shapeCast S1024x1024 (stored va vb vc (fun i j => piece (vn i) j) vh (piece wa) (piece wb) (piece wc) wo wn) casts3.symm (ix2 r l)
    = normRow (projCol va vb vc vn wa wb wc wo r) (vh (ix3 0 r l)) (wn (ix2 0 l)) l := by
  unfold stored k0_pay27 k0_pay24 k0_pay25 normRow
  rw [← sumsq_apply, ← mixed_apply]
  generalize mixed va vb vc (fun i j => piece (vn i) j) (piece wa) (piece wb) (piece wc) wo = y
  generalize sumsq va vb vc (fun i j => piece (vn i) j) (piece wa) (piece wb) (piece wc) wo = z
  pointwise
end

end Cert.KernelIdeal.Merge

end
-- ==== Proof.Value.lean ====
/-
  The kernel's result over the reals is the reference's.
-/
module

public import proofs.«01_k».proof.Proof.Rows
public import proofs.«01_k».proof.Proof.Run
public import proofs.«01_k».proof.Proof.Gen.ReferenceIdeal
public import proofs.«01_k».proof.Proof.Gen.ReferenceIdeal.Run
public import Idealize.ShloMosaic.Lib.Pointwise
public import Idealize.ShloMosaic.Lib.Claim

@[expose] public section

noncomputable section

namespace Cert.KernelIdeal.Merge

open Idealize.ShloMosaic Idealize.ShloMosaic.TcCoe
open scoped BigOperators

/-! ## The reference, element by element -/

section
variable (a0 : FVec Ideal S16384x256 .bf16) (a1 a2 : FVec Ideal S16384x512 .bf16) (a3 : FVec Ideal S16384x4608 .bf16) (a4 : FVec Ideal S16384x1024 .f32)
  (a5 : FVec Ideal S256x1024 .f32) (a6 a7 : FVec Ideal S512x1024 .f32) (a8 : FVec Ideal S1024x1024 .f32) (a9 : FVec Ideal S1024 .f32) (t : Fin 16384) (l : Fin 1024)

/-- Column `k` of token `t`'s gated sum. -/
def mixTok (k : Fin 1024) : EReal :=
  mixRow (fun i => a0 (ix2 t i)) (fun i => a1 (ix2 t i)) (fun i => a2 (ix2 t i)) (fun i => a3 (ix2 t ⟨1024 * i.val + k.val, by omega⟩))
    (fun i => a5 (ix2 i k)) (fun i => a6 (ix2 i k)) (fun i => a7 (ix2 i k))
/-- Column `l` of token `t`'s projection. -/
def projTok : EReal := ∑ k, mixTok a0 a1 a2 a3 a5 a6 a7 t k * a8 (ix2 k l)
/-- The layer's merge of token `t`, column `l`. -/
def mergeTok : EReal := normRow (projTok a0 a1 a2 a3 a5 a6 a7 a8 t) (a4 (ix2 t l)) (a9 (ix1 l)) l
end

end Cert.KernelIdeal.Merge

namespace Cert.ReferenceIdeal.Merge

open Idealize.ShloMosaic Idealize.ShloMosaic.TcCoe Cert.KernelIdeal.Merge

variable (m : (ℓ : Loc nD τ sig) → Buf (Elt Ideal) ℓ) (c : Dev nD) (t : Fin 16384) (l : Fin 1024)

theorem ref_apply : Cert.ReferenceIdeal.Value.res_main_v40 (F := Ideal) m c (ix2 t l)
    = mergeTok (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) t l := by
  unfold Cert.ReferenceIdeal.Value.res_main_v40
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  generalize m ((c.tc : Thread nD τ).loc main_arg6) = a6
  generalize m ((c.tc : Thread nD τ).loc main_arg7) = a7
  generalize m ((c.tc : Thread nD τ).loc main_arg8) = a8
  generalize m ((c.tc : Thread nD τ).loc main_arg9) = a9
  pointwise [mergeTok, normRow, projTok, mixTok, mixRow, gate]

end Cert.ReferenceIdeal.Merge

namespace Cert.KernelIdeal.Merge

open Cert.KernelIdeal Cert.KernelIdeal.Gen
open Idealize.ShloMosaic Idealize.ShloMosaic.TcCoe
open scoped BigOperators

theorem normRow_congr {y y' : Fin 1024 → EReal} {h h' w w' : EReal} (l : Fin 1024) (ey : ∀ k, y k = y' k) (eh : h = h') (ew : w = w') :
    normRow y h w l = normRow y' h' w' l := by rw [funext ey, eh, ew]
theorem mixRow_congr {a a' : Fin 256 → EReal} {b b' d d' : Fin 512 → EReal} {n n' : Fin 3 → EReal} {wa wa' : Fin 256 → EReal} {wb wb' wd wd' : Fin 512 → EReal}
    (ea : ∀ i, a i = a' i) (eb : ∀ i, b i = b' i) (ed : ∀ i, d i = d' i) (en : ∀ i, n i = n' i) (fa : ∀ i, wa i = wa' i) (fb : ∀ i, wb i = wb' i)
    (fd : ∀ i, wd i = wd' i) : mixRow a b d n wa wb wd = mixRow a' b' d' n' wa' wb' wd' := by
  rw [funext ea, funext eb, funext ed, funext en, funext fa, funext fb, funext fd]

/-! ## The kernel's blocks are the arrays' rows -/

section
variable (c : Dev nD) (b : Fin 16) (r : Fin 1024)

/-- The token of row `r` of block `b`. -/
abbrev tok : Fin 16384 := ⟨1024 * b.val + r.val, by omega⟩

variable {c b r}
theorem rd_blkA (X) (k : Fin 256) : rd (F := Ideal) c (blkA oaM b) X (ix2 r k) = X (ix2 (tok b r) k) := by
  refine congrArg X (funext fun a => Fin.ext ?_)
  fin_cases a
  · show b.val * 1024 + 1 * r.val = 1024 * b.val + r.val; omega
  · show 0 + 1 * k.val = k.val; omega
theorem rd_blkB (X) (k : Fin 512) : rd (F := Ideal) c (blkB obM b) X (ix2 r k) = X (ix2 (tok b r) k) := by
  refine congrArg X (funext fun a => Fin.ext ?_)
  fin_cases a
  · show b.val * 1024 + 1 * r.val = 1024 * b.val + r.val; omega
  · show 0 + 1 * k.val = k.val; omega
theorem rd_blkC (X) (k : Fin 512) : rd (F := Ideal) c (blkB ocM b) X (ix2 r k) = X (ix2 (tok b r) k) := by
  refine congrArg X (funext fun a => Fin.ext ?_)
  fin_cases a
  · show b.val * 1024 + 1 * r.val = 1024 * b.val + r.val; omega
  · show 0 + 1 * k.val = k.val; omega
theorem rd_blkG (X : Buf (Elt Ideal) ((c.tc : Thread nD τ).loc main_arg3)) (i : Fin 3) (k : Fin 1024) : rd (F := Ideal) c (blkG natM i b) X (ix2 r k) = X (ix2 (tok b r) ⟨1024 * i.val + k.val, by omega⟩) := by
  refine congrArg X (funext fun a => Fin.ext ?_)
  fin_cases a
  · show b.val * 1024 + 1 * r.val = 1024 * b.val + r.val; omega
  · show i.val * 1024 + 1 * k.val = 1024 * i.val + k.val; omega
theorem rd_blkH (X) (k : Fin 1024) : rd (F := Ideal) c (blkH hM b) X (ix2 r k) = X (ix2 (tok b r) k) := by
  refine congrArg X (funext fun a => Fin.ext ?_)
  fin_cases a
  · show b.val * 1024 + 1 * r.val = 1024 * b.val + r.val; omega
  · show 0 + 1 * k.val = k.val; omega
end

/-! ## What the fetch of a weight leaves -/

section
variable {F : FTy → Type} [FloatOps F] (c : Dev nD) (W : Wins (F := F) c)

omit [FloatOps F] in
theorem landed_reads {sp : Space} {s : Shape} {e : EltTy} (D : Memref sig .tc sp s e) (v : s.Idx → Elt F e) (f) : D.view.read (Elt F) (landed c D v f) = v :=
  read_landed _ _ _
omit [FloatOps F] in
theorem rd_whole (r : Ref sig .tc) (X : Buf (Elt F) ((c.tc : Thread nD τ).loc r)) : rd c (Memref.whole r) X = X := rfl

theorem fetched_wa : waV.view.read (Elt F) (fetched c W).a = W.a := by
  have h : (fetched c W).a = landed c waV (rd c (Memref.whole main_v0) W.a) waV.view.junk := by delta fetched; dsimp only
  rw [h]; exact (landed_reads c waV _ _).trans (rd_whole c main_v0 W.a)
theorem fetched_wb : wbV.view.read (Elt F) (fetched c W).b = W.b := by
  have h : (fetched c W).b = landed c wbV (rd c (Memref.whole main_v1) W.b) wbV.view.junk := by delta fetched; dsimp only
  rw [h]; exact (landed_reads c wbV _ _).trans (rd_whole c main_v1 W.b)
theorem fetched_wc : wcV.view.read (Elt F) (fetched c W).c' = W.c' := by
  have h : (fetched c W).c' = landed c wcV (rd c (Memref.whole main_v2) W.c') wcV.view.junk := by delta fetched; dsimp only
  rw [h]; exact (landed_reads c wcV _ _).trans (rd_whole c main_v2 W.c')
theorem fetched_wo : woV.view.read (Elt F) (fetched c W).o = W.o := by
  have h : (fetched c W).o = landed c woV (rd c (Memref.whole main_v3) W.o) woV.view.junk := by delta fetched; dsimp only
  rw [h]; exact (landed_reads c woV _ _).trans (rd_whole c main_v3 W.o)
theorem fetched_nm : nmV.view.read (Elt F) (fetched c W).n = W.n := by
  have h : (fetched c W).n = landed c nmV (rd c (Memref.whole main_v4) W.n) nmV.view.junk := by delta fetched; dsimp only
  rw [h]; exact (landed_reads c nmV _ _).trans (rd_whole c main_v4 W.n)
end

/-! ## The weights as the host leaves them -/

section
variable (m : (ℓ : Loc nD τ sig) → Buf (Elt Ideal) ℓ) (c : Dev nD)

theorem wa_at (i : Fin 256) (k : Fin 1024) : V (F := Ideal) m c main_v0 (ix2 i k) = m ((c.tc : Thread nD τ).loc main_arg5) (ix2 i k) := by
  entry_read; pointwise
theorem wb_at (i : Fin 512) (k : Fin 1024) : V (F := Ideal) m c main_v1 (ix2 i k) = m ((c.tc : Thread nD τ).loc main_arg6) (ix2 i k) := by
  entry_read; pointwise
theorem wc_at (i : Fin 512) (k : Fin 1024) : V (F := Ideal) m c main_v2 (ix2 i k) = m ((c.tc : Thread nD τ).loc main_arg7) (ix2 i k) := by
  entry_read; pointwise
theorem wo_at (i : Fin 1024) (k : Fin 1024) : V (F := Ideal) m c main_v3 (ix2 i k) = m ((c.tc : Thread nD τ).loc main_arg8) (ix2 i k) := by
  entry_read; pointwise
theorem nm_at (k : Fin 1024) : V (F := Ideal) m c main_v4 (ix2 0 k) = m ((c.tc : Thread nD τ).loc main_arg9) (ix1 k) := by
  entry_read; pointwise

/-- The kernel's operands at row `r` of block `b`. -/
theorem op_a (b : Fin 16) (r : Fin 1024) (i : Fin 256) : shapeCast S1x1024x256 (rd c (blkA oaM b) (xs m c).a) casts3 (ix3 0 r i)
    = m ((c.tc : Thread nD τ).loc main_arg0) (ix2 (tok b r) i) := by
  generalize hv : rd c (blkA oaM b) (xs m c).a = v
  refine Eq.trans (b := v (ix2 r i)) (by pointwise) ?_
  subst hv
  exact (rd_blkA _ i).trans (congrFun (V_main_arg0 m c) _)
theorem op_b (b : Fin 16) (r : Fin 1024) (i : Fin 512) : shapeCast S1x1024x512 (rd c (blkB obM b) (xs m c).b) casts3 (ix3 0 r i)
    = m ((c.tc : Thread nD τ).loc main_arg1) (ix2 (tok b r) i) := by
  generalize hv : rd c (blkB obM b) (xs m c).b = v
  refine Eq.trans (b := v (ix2 r i)) (by pointwise) ?_
  subst hv
  exact (rd_blkB _ i).trans (congrFun (V_main_arg1 m c) _)
theorem op_c (b : Fin 16) (r : Fin 1024) (i : Fin 512) : shapeCast S1x1024x512 (rd c (blkB ocM b) (xs m c).c') casts3 (ix3 0 r i)
    = m ((c.tc : Thread nD τ).loc main_arg2) (ix2 (tok b r) i) := by
  generalize hv : rd c (blkB ocM b) (xs m c).c' = v
  refine Eq.trans (b := v (ix2 r i)) (by pointwise) ?_
  subst hv
  exact (rd_blkC _ i).trans (congrFun (V_main_arg2 m c) _)
theorem op_n (b : Fin 16) (r : Fin 1024) (i : Fin 3) (k : Fin 1024) : rd c (blkG natM i b) (xs m c).n (ix2 r k)
    = m ((c.tc : Thread nD τ).loc main_arg3) (ix2 (tok b r) ⟨1024 * i.val + k.val, by omega⟩) :=
  (rd_blkG _ i k).trans (congrFun (V_main_arg3 m c) _)
theorem op_h (b : Fin 16) (r l : Fin 1024) : shapeCast S1x1024x1024 (rd c (blkH hM b) (xs m c).h) casts3 (ix3 0 r l)
    = m ((c.tc : Thread nD τ).loc main_arg4) (ix2 (tok b r) l) := by
  generalize hv : rd c (blkH hM b) (xs m c).h = v
  refine Eq.trans (b := v (ix2 r l)) (by pointwise) ?_
  subst hv
  exact (rd_blkH _ l).trans (congrFun (V_main_arg4 m c) _)

theorem out_apply (t : Fin 16384) (l : Fin 1024) : out (F := Ideal) m c (ix2 t l)
    = mergeTok (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) t l := by
  obtain ⟨b, r, rfl⟩ : ∃ b r, t = tok b r := ⟨⟨t.val / 1024, by omega⟩, ⟨t.val % 1024, by omega⟩, Fin.ext (by show t.val = 1024 * (t.val / 1024) + t.val % 1024; omega)⟩
  have eb : rowBlk (ix2 (tok b r) l) = b := Fin.ext (by show (1024 * b.val + r.val) / 1024 = b.val; omega)
  have er : rowIn (ix2 (tok b r) l) = ix2 r l := by
    funext a; fin_cases a
    · exact Fin.ext (by show (1024 * b.val + r.val) % 1024 = r.val; omega)
    · rfl
  show outB c (xs m c) (fetched c (wsOf m c)) (rowBlk (ix2 (tok b r) l)) (rowIn (ix2 (tok b r) l)) = _
  rw [eb, er]
  unfold outB
  rw [stored_apply]
  rw [fetched_wa, fetched_wb, fetched_wc, fetched_wo, fetched_nm]
  exact normRow_congr l (fun l' => Finset.sum_congr rfl fun k _ => congrArg₂ (· * ·)
      (mixRow_congr (op_a m c b r) (op_b m c b r) (op_c m c b r) (fun i => op_n m c b r i k) (fun i => wa_at m c i k) (fun i => wb_at m c i k) (fun i => wc_at m c i k))
      (wo_at m c k l')) (op_h m c b r l) (nm_at m c l)
end

end Cert.KernelIdeal.Merge

end
-- ==== Proof.Algebraic.lean ====
/-
  The two idealized programs end with equal results.
-/
module

public import proofs.«01_k».proof.Defs
public import proofs.«01_k».proof.Proof.Value

@[expose] public section

noncomputable section

namespace Cert.Proof

open Idealize.ShloMosaic Idealize.SL.Sem

theorem algebraic : Cert.algebraic_KernelIdeal_ReferenceIdeal := fun m g m' g' _ hag => by
  refine ⟨fun c => Cert.KernelIdeal.Merge.out m c,
    (θ_run Cert.KernelIdeal.defs _ _).mono (fun _ h => h.1) (Cert.KernelIdeal.Merge.run_main (F := Ideal) m g),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6, h7, h8, h9⟩ := hag c
  funext j
  obtain ⟨t, l, rfl⟩ : ∃ (t : Fin 16384) (l : Fin 1024), j = ix2 t l := ⟨j 0, j 1, by funext a; fin_cases a <;> rfl⟩
  refine (Cert.ReferenceIdeal.Merge.ref_apply m' c t l).trans (Eq.trans ?_ (Cert.KernelIdeal.Merge.out_apply m c t l).symm)
  rw [h0, h1, h2, h3, h4, h5, h6, h7, h8, h9]

end Cert.Proof

end
-- ==== Proof.Ffn.Body.lean ====
/-
  The feed-forward kernel's body at one grid point, on any staging buffers: what it leaves in the result's buffer and
  in the four scratch buffers, as values the run finds, with the proof that it leaves them.
-/
module

public import proofs.«01_k».proof.Proof.Gen.Kernel2Ideal.Frame
public import proofs.«01_k».proof.Proof.Gen.Kernel2Ideal.Skeleton
public import Idealize.ShloMosaic.Lib.Tactic

@[expose] public section

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

abbrev 𝒱₀ : Variants := Variants.none

/-- What the four scratch buffers hold between points: the normalized rows, the partial sums, and the last eight rows
    of the two halves of the up-projection, per column tile. -/
structure Scr (F : FTy → Type) [FloatOps F] where
  hn : Vec F S1024x1024 .bf16
  acc : Vec F S1024x1024 .f32
  ca : Vec F S4x8x1024 .f32
  cb : Vec F S4x8x1024 .f32

/-- What a point leaves: the scratch buffers, and the result's block from what its buffer held. -/
structure Left (F : FTy → Type) [FloatOps F] extends Scr F where
  out : Vec F S1024x1024 .f32 → Vec F S1024x1024 .f32

set_option maxHeartbeats 8000000 in
/-- The body's run at the point of coordinates `i`: what it leaves, found by the run. -/
def bodyRun (c : Dev nD) (i : grid0.Coords)
    (M2 : Memref sig .tc .vmem S1024x1024 .f32) (h2 : M2.IsWhole)
    (M3 : Memref sig .tc .vmem S1x1024 .f32) (h3 : M3.IsWhole)
    (M4 : Memref sig .tc .vmem S1024x1024 .bf16) (h4 : M4.IsWhole)
    (M5 : Memref sig .tc .vmem S1024x1024 .bf16) (h5 : M5.IsWhole)
    (M6 : Memref sig .tc .vmem S3x1024 .f32) (h6 : M6.IsWhole)
    (M7 : Memref sig .tc .vmem S3x1024 .f32) (h7 : M7.IsWhole)
    (M8 : Memref sig .tc .vmem S1x1024 .f32) (h8 : M8.IsWhole)
    (M9 : Memref sig .tc .vmem S1x1024 .f32) (h9 : M9.IsWhole)
    (M10 : Memref sig .tc .vmem S1024x1024 .bf16) (h10 : M10.IsWhole)
    (M11 : Memref sig .tc .vmem S1x1024 .f32) (h11 : M11.IsWhole)
    (M12 : Memref sig .tc .vmem S1024x1024 .f32) (h12 : M12.IsWhole)
    (M13 : Memref sig .tc .vmem S1024x1024 .bf16) (h13 : M13.IsWhole)
    (M14 : Memref sig .tc .vmem S1024x1024 .f32) (h14 : M14.IsWhole)
    (M15 : Memref sig .tc .vmem S4x8x1024 .f32) (h15 : M15.IsWhole)
    (M16 : Memref sig .tc .vmem S4x8x1024 .f32) (h16 : M16.IsWhole)
    (x2 : Vec F S1024x1024 .f32)
    (x3 : Vec F S1x1024 .f32)
    (x4 : Vec F S1024x1024 .bf16)
    (x5 : Vec F S1024x1024 .bf16)
    (x6 : Vec F S3x1024 .f32)
    (x7 : Vec F S3x1024 .f32)
    (x8 : Vec F S1x1024 .f32)
    (x9 : Vec F S1x1024 .f32)
    (x10 : Vec F S1024x1024 .bf16)
    (x11 : Vec F S1x1024 .f32)
    (x13 : Vec F S1024x1024 .bf16)
    (x14 : Vec F S1024x1024 .f32)
    (x15 : Vec F S4x8x1024 .f32)
    (x16 : Vec F S4x8x1024 .f32) :
    { R : Left F // ∀ (x12 : Vec F S1024x1024 .f32) (E : Set ℕ) (K : PUnit → sProp 𝕄),
        iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14 ∗ owns (c : Thread nD τ) M15 fullShare x15 ∗ owns (c : Thread nD τ) M16 fullShare x16
            ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare (R.out x12) ∗ owns (c : Thread nD τ) M13 fullShare R.hn ∗ owns (c : Thread nD τ) M14 fullShare R.acc ∗ owns (c : Thread nD τ) M15 fullShare R.ca ∗ owns (c : Thread nD τ) M16 fullShare R.cb) -∗ K ⟨⟩))
          ⊢ wp frame (wpE (defs₀ (F := F)) 𝒱₀ c none) E (cc0_conv_ffn i M2 h2 M3 h3 M4 h4 M5 h5 M6 h6 M7 h7 M8 h8 M9 h9 M10 h10 M11 h11 M12 h12 M13 h13 M14 h14 M15 h15 M16 h16) K } := by
  refine ⟨⟨⟨?_, ?_, ?_, ?_⟩, ?_⟩, fun x12 E K => ?run⟩
  case run =>
    dsimp only; unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14; obtain rfl := h15.eq_unread hf15; obtain rfl := h16.eq_unread hf16
    sl_unfold [cc0_conv_ffn]
    sl_exec!
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    iexists _; isplitr; swap; · iexact H16
    ipureintro; rfl

end Cert.Kernel2Ideal.Ffn
-- ==== Proof.Ffn.Run.lean ====
/-
  The feed-forward kernel's run: the scratch buffers before each point by recursion on the point from whatever they held
  first, the body at each point, and the launch. The result's block at a point that writes it back is what the body leaves
  there from some first contents of the scratch buffers.
-/
module

public import proofs.«01_k».proof.Proof.Ffn.Body
public import Idealize.ShloMosaic.Lib.Pipeline.DatRel
public import Idealize.ShloMosaic.Lib.Quiescent

@[expose] public section

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- What the body leaves at point `t`, from scratch contents `s`. -/
def left (c : Dev nD) (t : Fin cfg0.N) (s : Scr F) : Left F :=
  (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) s.hn s.acc s.ca s.cb).1

/-- The scratch buffers before point `n`, from `s` before the first. -/
def scr (c : Dev nD) (s : Scr F) : ℕ → Scr F
  | 0 => s
  | n + 1 => if h : n < cfg0.N then (left m c ⟨n, h⟩ (scr c s n)).toScr else scr c s n

theorem scr_succ (c : Dev nD) (s : Scr F) (t : Fin cfg0.N) : scr m c s (t.val + 1) = (left m c t (scr m c s t.val)).toScr := by
  rw [scr]; exact dif_pos t.isLt

/-- The scratch buffers held at `s`. -/
def held (c : Dev nD) (s : Scr F) : sProp 𝕄 :=
  iprop(owns (c : Thread nD τ) (Memref.whole cc0_scratch0) fullShare s.hn ∗ owns (c : Thread nD τ) (Memref.whole cc0_scratch1) fullShare s.acc
    ∗ owns (c : Thread nD τ) (Memref.whole cc0_scratch2) fullShare s.ca ∗ owns (c : Thread nD τ) (Memref.whole cc0_scratch3) fullShare s.cb)

/-- The invariant before point `n`. -/
def inv (c : Dev nD) (n : ℕ) : sProp 𝕄 := iprop((∃ s : Scr F, held c (scr m c s n)) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ n := inv m c n.val
  q w := Pipeline.shareOf spec0 w
  owed _ := 0

/-- The one window whose contents the data do not name: the result's. -/
def marked : Fin cfg0.W → Bool
  | ⟨10, _⟩ => true
  | _ => false

/-- What the result's buffer holds where it is written back. -/
def leaves (c : Dev nD) : (w : Fin cfg0.W) → Fin cfg0.N → ((cfg0.win w).block.Idx → Elt F (cfg0.win w).elt) → Prop
  | ⟨10, _⟩ => fun t X => ∃ (s : Scr F) (y : Vec F S1024x1024 .f32), X = (left m c t (scr m c s t.val)).out y
  | _ => fun _ _ => True

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem marked_0 : marked 0 = false := rfl
theorem marked_1 : marked 1 = false := rfl
theorem marked_2 : marked 2 = false := rfl
theorem marked_3 : marked 3 = false := rfl
theorem marked_4 : marked 4 = false := rfl
theorem marked_5 : marked 5 = false := rfl
theorem marked_6 : marked 6 = false := rfl
theorem marked_7 : marked 7 = false := rfl
theorem marked_8 : marked 8 = false := rfl
theorem marked_9 : marked 9 = false := rfl
theorem marked_10 : marked 10 = true := rfl

theorem body_obligation (c : Dev nD) : BodyObligationRel (dats (F := F) m 0 c) (defs₀ (F := F)) 𝒱₀ () Set.univ marked (leaves m c) := fun t => by
  rw [bigSep_W0, bigSep_W0]
  sl_whnfR [defs₀, Defs.onTc]
  simp only [marked_0, marked_1, marked_2, marked_3, marked_4, marked_5, marked_6, marked_7, marked_8, marked_9, marked_10,
    before0_0, before0_1, before0_2, before0_3, before0_4, before0_5, before0_6, before0_7, before0_8, before0_9]
  rw [show (dats m 0 c).Φ t.succ = inv m c (t.val + 1) from rfl, show (dats m 0 c).Φ t.castSucc = inv m c t.val from rfl,
    show (dats m 0 c).owesAt () t.succ = (dats m 0 c).owesAt () t.castSucc from rfl, after0_0, after0_1, after0_2, after0_3, after0_4, after0_5, after0_6, after0_7, after0_8, after0_9]
  unfold inv
  iintro ⟨⟨⟨%s, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%y, -, H10⟩⟩
  unfold held
  icases Hs with ⟨S0, S1, S2, S3⟩
  iapply ((bodyRun c _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ _ _ _).2 y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hp]
  · isplitr [Hp]
    · iexists s
      rw [scr_succ]
      unfold left
      isplitl [S0]; · iexact S0
      isplitl [S1]; · iexact S1
      isplitl [S2]; · iexact S2
      iexact S3
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; isplitr; swap; · iexact H10
  ipureintro; exact ⟨s, y, rfl⟩

/-- The scratch buffers at anything are the scratch buffers held at something. -/
theorem scratch_eq (c : Dev nD) : (Pipeline.scopedRest (Ix := Unit) (Name := ℕ) (U := UR sig nD τ) (Lvl := ℕ) (Val := Elt F) spec0 c : sProp 𝕄)
    = iprop((∃ X : Vec F S1024x1024 .bf16, owns (c : Thread nD τ) (Memref.whole cc0_scratch0) fullShare X)
      ∗ (∃ X : Vec F S1024x1024 .f32, owns (c : Thread nD τ) (Memref.whole cc0_scratch1) fullShare X)
      ∗ (∃ X : Vec F S4x8x1024 .f32, owns (c : Thread nD τ) (Memref.whole cc0_scratch2) fullShare X)
      ∗ (∃ X : Vec F S4x8x1024 .f32, owns (c : Thread nD τ) (Memref.whole cc0_scratch3) fullShare X)) := by
  rw [scopedRest0_eq]
  congr 1
  · exact congrArg BIBase.exists (funext fun X => (owns_whole (Val := Elt F) (c : Thread nD τ) cc0_scratch0 fullShare X).symm)
  congr 1
  · exact congrArg BIBase.exists (funext fun X => (owns_whole (Val := Elt F) (c : Thread nD τ) cc0_scratch1 fullShare X).symm)
  congr 1
  · exact congrArg BIBase.exists (funext fun X => (owns_whole (Val := Elt F) (c : Thread nD τ) cc0_scratch2 fullShare X).symm)
  · exact congrArg BIBase.exists (funext fun X => (owns_whole (Val := Elt F) (c : Thread nD τ) cc0_scratch3 fullShare X).symm)

/-- The invariant before the first point, from the scratch buffers at anything. -/
theorem inv_in (c : Dev nD) : (ΦA spec0 c : sProp 𝕄) ⊢ inv m c 0 := by
  unfold ΦA inv held
  rw [scratch_eq]
  simp only [scr]
  iintro ⟨⟨⟨%f0, H0⟩, ⟨%f1, H1⟩, ⟨%f2, H2⟩, ⟨%f3, H3⟩⟩, Hp⟩
  isplitr [Hp]
  · iexists (⟨f0, f1, f2, f3⟩ : Scr F)
    isplitl [H0]; · iexact H0
    isplitl [H1]; · iexact H1
    isplitl [H2]; · iexact H2
    iexact H3
  · iexact Hp

/-- The invariant gives the scratch buffers back. -/
theorem inv_out (c : Dev nD) (n : ℕ) : inv m c n ⊢ (ΦA spec0 c : sProp 𝕄) := by
  unfold ΦA inv held
  rw [scratch_eq]
  generalize scr m c = g
  iintro ⟨⟨%s, H0, H1, H2, H3⟩, Hp⟩
  isplitr [Hp]
  · isplitl [H0]; · iexists _; iexact H0
    isplitl [H1]; · iexists _; iexact H1
    isplitl [H2]; · iexists _; iexact H2
    iexists _; iexact H3
  · iexact Hp

set_option backward.isDefEq.respectTransparency.types false in
/-- From any memory with zero counters every weakly fair execution of @main terminates, the arrays at contents the data
    allow and every counter at zero. -/
theorem run_main : θ_run defs (onTc (τ := τ) (main (F := F))) (s₀ m ρ)
    (fun r => Pipeline.RDat.FramePost cfg0 (fun c => (dats m 0 c).toRRel marked (leaves m c)) (V m) r ∧ r.2.sem = fun _ => 0) :=
  Pipeline.RDat.θ_run_frame_track_shared (Q' := _) cfgs (0 : Fin 1) launch₀0 defs₀ 𝒱₀
    (fun c => (dats m 0 c).toRRel marked (leaves m c)) m ρ main
    (hbody := fun c => (body_obligation m c).toRRel) (hq := fun _ _ _ => rfl)
    (howed := fun _ _ => rfl) (V := V m) (hmain := hmain m 𝒱₀) (hA := fun _ _ => rfl)
    (hin := inv_in m) (hout := fun c => inv_out m c _)
    (hQ' := fun _ h => h)

end Cert.Kernel2Ideal.Ffn
-- ==== Proof.Ffn.Ends.lean ====
/-
  What every ending of the feed-forward program has: the arguments as launched, and the result's array at contents some
  choice of its blocks gives.
-/
module

public import proofs.«01_k».proof.Proof.Ffn.Run
public import Idealize.ShloMosaic.Lib.Pipeline.ArrRel

@[expose] public section

noncomputable section

namespace Cert.Kernel2Ideal.Ffn

open Cert.Kernel2Ideal Cert.Kernel2Ideal.Gen
open Idealize.ShloMosaic Idealize.ShloMosaic.TcCoe Idealize.SL.Sem

variable {F : FTy → Type} [FloatOps F] (m : (ℓ : Loc nD τ sig) → Buf (Elt F) ℓ) (ρ : Dev nD → PrngReg)

theorem args_kept {r : PUnit × MemSt nD τ sig (Elt F)} (h : Pipeline.RDat.FramePost cfg0 (fun c => (dats m 0 c).toRRel marked (leaves m c)) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  have kept (b : Ref sig .tc) (hb : b ∈ Pipeline.restRefs sig spec0) : r.2.mem ((c.tc : Thread nD τ).loc b) = V m c b := (h c).2 b hb
  refine ⟨?_, ?_, ?_, ?_, ?_, ?_, ?_⟩
  · exact (Pipeline.RDat.FramePost.arr_in h c 0 rfl).trans (V_main_arg0 m c)
  · exact (kept main_arg1 (Pipeline.mem_restRefs_of main_arg1 (by decide) (by decide))).trans (V_main_arg1 m c)
  · exact (kept main_arg2 (Pipeline.mem_restRefs_of main_arg2 (by decide) (by decide))).trans (V_main_arg2 m c)
  · exact (Pipeline.RDat.FramePost.arr_in h c 5 rfl).trans (V_main_arg3 m c)
  · exact (kept main_arg4 (Pipeline.mem_restRefs_of main_arg4 (by decide) (by decide))).trans (V_main_arg4 m c)
  · exact (kept main_arg5 (Pipeline.mem_restRefs_of main_arg5 (by decide) (by decide))).trans (V_main_arg5 m c)
  · exact (kept main_arg6 (Pipeline.mem_restRefs_of main_arg6 (by decide) (by decide))).trans (V_main_arg6 m c)

/-- Every weakly fair execution of @main terminates, the arguments as launched and every counter at zero. -/
theorem run_args : θ_run defs (onTc (τ := τ) (main (F := F))) ⟨m, fun _ => 0, ρ⟩
    (fun r => (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) ∧ r.2.sem = fun _ => 0) :=
  (θ_run defs _ _).mono (fun _ h => ⟨fun c => args_kept m h.1 c, h.2⟩) (run_main m ρ)

end Cert.Kernel2Ideal.Ffn

end
-- ==== Proof.Ffn.Frames.lean ====
/-
  The three frames of the feed-forward call: each program ends with its arguments as launched and every counter at zero.
-/
module

public import proofs.«01_k».proof.Defs
public import proofs.«01_k».proof.Proof.Gen.Kernel2
public import proofs.«01_k».proof.Proof.Gen.Reference2Ideal
public import proofs.«01_k».proof.Proof.Gen.Reference2Ideal.Run
public import proofs.«01_k».proof.Proof.Ffn.Ends

@[expose] public section

noncomputable section

namespace Cert.Proof.Ffn

open Idealize.ShloMosaic Idealize.SL.Sem

theorem frame_kernelIdeal : Cert.quiescent_Kernel2Ideal := fun m ρ _ =>
  Cert.Kernel2Ideal.Ffn.run_args (F := Ideal) m ρ

/-- The kernel and its idealization are one text: their bodies, body tables and programs agree over any floats. -/
theorem body_eq (F) [FloatOps F] : @Cert.Kernel2.cc0_conv_ffn F _ _ = @Cert.Kernel2Ideal.cc0_conv_ffn F _ _ := rfl
theorem body_table_eq (F : FTy → Type) [FloatOps F] : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | 0, (t, s) =>
    dsimp only
    rw [body_eq]; rfl
theorem table_eq (F : FTy → Type) [FloatOps F] : Cert.Kernel2.defs (F := F) = Cert.Kernel2Ideal.defs (F := F) := by
  unfold Cert.Kernel2.defs Cert.Kernel2Ideal.defs
  exact congrArg (Pipeline.defs Cert.Kernel2Ideal.pcfgs) (body_table_eq F)
theorem main_eq (F : FTy → Type) [FloatOps F] : Cert.Kernel2.main (F := F) = Cert.Kernel2Ideal.main (F := F) := rfl

theorem frame_kernel : Cert.quiescent_Kernel2 := fun m ρ _ => by
  have h := Cert.Kernel2Ideal.Ffn.run_args (F := Bits) m ρ
  rw [← table_eq, ← main_eq] at h
  exact h

/-- The reference's program names no semaphore at all. -/
theorem no_sem (g : GSem Cert.Reference2Ideal.nD Cert.Reference2Ideal.τ Cert.Reference2Ideal.sig) : False := by
  obtain ⟨⟨d, q⟩, s⟩ := g
  cases q <;> cases s <;> rename_i s <;> exact Nat.not_lt_zero _ s.isLt

theorem frame_referenceIdeal : Cert.quiescent_Reference2Ideal := fun m ρ _ =>
  (θ_run Cert.Reference2Ideal.defs _ _).mono (fun _ h => ⟨fun c => (h c).2, funext fun g => (no_sem g).elim⟩) (Cert.Reference2Ideal.Value.run (F := Ideal) m ρ)

end Cert.Proof.Ffn

end
-- ==== Proof.Ffn.Step.lean ====
/-
  What the body leaves at a point, as plain vector expressions: the normalized rows, the partial sums, the result's block.
  The four column pieces of a tile are one expression at four offsets.
-/
module

public import proofs.«01_k».proof.Proof.Ffn.Body
public import Idealize.ShloMosaic.Lib.Pipeline.Value
public import Idealize.ShloMosaic.Lib.VecWindow

@[expose] public section

noncomputable section

namespace Cert.Kernel2Ideal.Ffn

open Cert.Kernel2Ideal Cert.Kernel2Ideal.Gen
open Idealize.ShloMosaic
open Idealize.ShloMosaic.TcCoe Idealize.ShloMosaic.Tactic

variable {F : FTy → Type} [FloatOps F]

/-! ## One piece of 256 columns -/

/-- Columns `o … o + 255` of a block of weights, of taps, of biases, and of tile `i 1`'s carried rows. -/
abbrev colR (o : ℕ) (h : o + 256 ≤ 1024) : Rect S1024x1024 := Rect.unit ![0, o] S1024x256.size (by intro a; fin_cases a; exacts [Nat.le_refl _, h])
abbrev tapR (o : ℕ) (h : o + 256 ≤ 1024) : Rect S3x1024 := Rect.unit ![0, o] S3x256.size (by intro a; fin_cases a; exacts [Nat.le_refl _, h])
abbrev biasR (o : ℕ) (h : o + 256 ≤ 1024) : Rect S1x1024 := Rect.unit ![0, o] S1x256.size (by intro a; fin_cases a; exacts [Nat.le_refl _, h])
theorem tile_lt (i : grid0.Coords) : (BitVec.ofNat 32 (i 1).val).toNat < 4 := by
  have h : (i 1).val < 4 := (i 1).isLt
  rw [BitVec.toNat_ofNat]; omega
abbrev carR (i : grid0.Coords) (o : ℕ) (h : o + 256 ≤ 1024) : Rect S4x8x1024 :=
  Rect.unit ![(BitVec.ofNat 32 (i 1).val).toNat, 0, o] S1x8x256.size (by
    intro a; fin_cases a
    exacts [tile_lt i, Nat.le_refl _, h])

/-- The convolution of a piece: its rows `u`, the carried rows `k` (not used where a sequence starts), taps and biases. -/
def convV (s : BitVec 1) (u : FVec F S1024x256 .f32) (k : Vec F S1x8x256 .f32) (w : Vec F S3x256 .f32) (b : Vec F S1x256 .f32) : FVec F S1024x256 .f32 :=
  k0_pay27 u (k0_pay25 s k) w b
/-- The gated product of a piece. -/
def gateV (a b : FVec F S1024x256 .f32) : FVec F S1024x256 .bf16 := k0_pay34 b (k0_pay31 a) (k0_pay32 a) k0_pay33

/-- A piece of the hidden row, from the point's blocks. -/
def piece (i : grid0.Coords) (s : BitVec 1) (hn : Vec F S1024x1024 .bf16) (x4 x5 : Vec F S1024x1024 .bf16) (x6 x7 : Vec F S3x1024 .f32) (x8 x9 : Vec F S1x1024 .f32)
    (k15 k16 : Vec F S4x8x1024 .f32) (o : ℕ) (h : o + 256 ≤ 1024) : FVec F S1024x256 .bf16 :=
  gateV (convV s (k0_pay7 hn (View.ld x4 (colR o h))) (View.ld k15 (carR i o h)) (View.ld x6 (tapR o h)) (View.ld x8 (biasR o h)))
    (convV s (k0_pay7 hn (View.ld x5 (colR o h))) (View.ld k16 (carR i o h)) (View.ld x7 (tapR o h)) (View.ld x9 (biasR o h)))

/-- The partial sums after a point. -/
def accV (i : grid0.Coords) (s : BitVec 1) (hn : Vec F S1024x1024 .bf16) (acc : Vec F S1024x1024 .f32) (x4 x5 : Vec F S1024x1024 .bf16) (x6 x7 : Vec F S3x1024 .f32)
    (x8 x9 : Vec F S1x1024 .f32) (x10 : Vec F S1024x1024 .bf16) (k15 k16 : Vec F S4x8x1024 .f32) : FVec F S1024x1024 .f32 :=
  k0_pay1 (piece i s hn x4 x5 x6 x7 x8 x9 k15 k16 0 (by decide)) (piece i s hn x4 x5 x6 x7 x8 x9 k15 k16 256 (by decide))
    (piece i s hn x4 x5 x6 x7 x8 x9 k15 k16 512 (by decide)) (piece i s hn x4 x5 x6 x7 x8 x9 k15 k16 768 (by decide)) acc x10

/-- The first tile's point stores the normalized rows and zeroes the sums. -/
abbrev first (i : grid0.Coords) : Prop := bodyRun.sl.v2 i = 1#1
/-- A sequence starts with this block of rows. -/
abbrev seq (i : grid0.Coords) : BitVec 1 := bodyRun.sl.v16 i
def hnV (i : grid0.Coords) (x2 : Vec F S1024x1024 .f32) (x3 : Vec F S1x1024 .f32) (x13 : Vec F S1024x1024 .bf16) : Vec F S1024x1024 .bf16 :=
  if first i then k0_pay3 x2 x3 else x13
def acc0V (i : grid0.Coords) (x14 : Vec F S1024x1024 .f32) : Vec F S1024x1024 .f32 := if first i then k0_pay4 else x14

/-- The carried rows as the pieces read them. -/
def carV (i : grid0.Coords) (M : Memref sig .tc .vmem S4x8x1024 .f32) (h : M.IsWhole) (z : FVec F S1x8x1024 .f32) (x : Vec F S4x8x1024 .f32) : Vec F S4x8x1024 .f32 :=
  M.view.read (Elt F) (if hc : k0_cond2 i = 1#1 then M.view.writes (Elt F) (h.unread x) [⟨Rect.unit (k0_off1 i) S1x8x1024.size (k0_off1_inb i hc), z⟩] else h.unread x)
theorem carV_of_not {i : grid0.Coords} (hi : ¬ k0_cond2 i = 1#1) (M : Memref sig .tc .vmem S4x8x1024 .f32) (h : M.IsWhole) (z : FVec F S1x8x1024 .f32) (x : Vec F S4x8x1024 .f32) :
    carV i M h z x = x := by
  unfold carV; rw [dif_neg hi, h.read_unread]

theorem hz2 : (![0, 0] : Fin 2 → ℕ) = fun _ => 0 := by funext a; fin_cases a <;> rfl
/-- A buffer written whole or not at all. -/
theorem read_dite {S : Shape} {e : EltTy} (M : Memref sig .tc .vmem S e) (h : M.IsWhole) (x w : Vec F S e) (C : Prop) [Decidable C] {off : Fin S.rank → ℕ} (hz : off = fun _ => 0)
    (inb : C → ∀ a, off a + S.size a ≤ S.size a) :
    M.view.read (Elt F) (if hc : C then M.view.writes (Elt F) (h.unread x) [⟨Rect.unit off S.size (inb hc), w⟩] else h.unread x) = if C then w else x := by
  subst hz
  by_cases hC : C
  · rw [dif_pos hC, if_pos hC]; exact View.read_writes_whole _ _ _
  · rw [dif_neg hC, if_neg hC, h.read_unread]

/-! ## The body's values -/

variable (c : Dev nD) (i : grid0.Coords)
    (M2 : Memref sig .tc .vmem S1024x1024 .f32) (h2 : M2.IsWhole)
    (M3 : Memref sig .tc .vmem S1x1024 .f32) (h3 : M3.IsWhole)
    (M4 : Memref sig .tc .vmem S1024x1024 .bf16) (h4 : M4.IsWhole)
    (M5 : Memref sig .tc .vmem S1024x1024 .bf16) (h5 : M5.IsWhole)
    (M6 : Memref sig .tc .vmem S3x1024 .f32) (h6 : M6.IsWhole)
    (M7 : Memref sig .tc .vmem S3x1024 .f32) (h7 : M7.IsWhole)
    (M8 : Memref sig .tc .vmem S1x1024 .f32) (h8 : M8.IsWhole)
    (M9 : Memref sig .tc .vmem S1x1024 .f32) (h9 : M9.IsWhole)
    (M10 : Memref sig .tc .vmem S1024x1024 .bf16) (h10 : M10.IsWhole)
    (M11 : Memref sig .tc .vmem S1x1024 .f32) (h11 : M11.IsWhole)
    (M12 : Memref sig .tc .vmem S1024x1024 .f32) (h12 : M12.IsWhole)
    (M13 : Memref sig .tc .vmem S1024x1024 .bf16) (h13 : M13.IsWhole)
    (M14 : Memref sig .tc .vmem S1024x1024 .f32) (h14 : M14.IsWhole)
    (M15 : Memref sig .tc .vmem S4x8x1024 .f32) (h15 : M15.IsWhole)
    (M16 : Memref sig .tc .vmem S4x8x1024 .f32) (h16 : M16.IsWhole)
    (x2 : Vec F S1024x1024 .f32) (x3 : Vec F S1x1024 .f32) (x4 x5 : Vec F S1024x1024 .bf16)
    (x6 x7 : Vec F S3x1024 .f32) (x8 x9 : Vec F S1x1024 .f32)
    (x10 : Vec F S1024x1024 .bf16) (x11 : Vec F S1x1024 .f32) (x12 : Vec F S1024x1024 .f32)
    (x13 : Vec F S1024x1024 .bf16) (x14 : Vec F S1024x1024 .f32) (x15 x16 : Vec F S4x8x1024 .f32)

theorem v17_eq : bodyRun.sl.v17 c i M2 h2 M3 h3 M13 h13 x2 x3 x13 = hnV i x2 x3 x13 := by
  unfold bodyRun.sl.v17 hnV
  simp only [View.readAt_eq_ld, h2.read_unread, h3.read_unread, View.ld_unit_zero (S := S1024x1024) hz2, View.ld_unit_zero (S := S1x1024) hz2]
  exact read_dite M13 h13 _ _ _ hz2 _
theorem v461_eq : bodyRun.sl.v461 c i M14 h14 x14 = acc0V i x14 := by
  unfold bodyRun.sl.v461 acc0V
  simp only [View.readAt_eq_ld, View.ld_unit_zero (S := S1024x1024) hz2]
  exact read_dite M14 h14 _ _ _ hz2 _

theorem hn_eq : (bodyRun c i M2 h2 M3 h3 M4 h4 M5 h5 M6 h6 M7 h7 M8 h8 M9 h9 M10 h10 M11 h11 M12 h12 M13 h13 M14 h14 M15 h15 M16 h16 x2 x3 x4 x5 x6 x7 x8 x9 x10 x11 x13 x14 x15 x16).1.hn = hnV i x2 x3 x13 := by
  unfold bodyRun hnV
  dsimp only
  refine (read_dite M13 h13 _ _ _ hz2 _).trans ?_
  simp only [View.readAt_eq_ld, h2.read_unread, h3.read_unread, View.ld_unit_zero (S := S1024x1024) hz2, View.ld_unit_zero (S := S1x1024) hz2]

theorem r_11_eq : bodyRun.sl.r_11 c i M2 h2 M3 h3 M4 h4 M5 h5 M6 h6 M7 h7 M8 h8 M9 h9 M13 h13 M15 h15 M16 h16 x2 x3 x4 x5 x6 x7 x8 x9 x13 x15 x16
    = piece i (seq i) (hnV i x2 x3 x13) x4 x5 x6 x7 x8 x9 (carV i M15 h15 k0_pay5 x15) (carV i M16 h16 k0_pay6 x16) 0 (by decide) := by
  unfold bodyRun.sl.r_11 bodyRun.sl.r_7 bodyRun.sl.r_8 bodyRun.sl.r_9 bodyRun.sl.r_10 bodyRun.sl.r_4 bodyRun.sl.r_5 bodyRun.sl.r_6 bodyRun.sl.r bodyRun.sl.r_1 bodyRun.sl.v34 bodyRun.sl.v78
  simp only [v17_eq, View.readAt_eq_ld, h4.read_unread, h5.read_unread, h6.read_unread, h7.read_unread, h8.read_unread, h9.read_unread]
  rfl

theorem r_22_eq : bodyRun.sl.r_22 c i M2 h2 M3 h3 M4 h4 M5 h5 M6 h6 M7 h7 M8 h8 M9 h9 M13 h13 M15 h15 M16 h16 x2 x3 x4 x5 x6 x7 x8 x9 x13 x15 x16
    = piece i (seq i) (hnV i x2 x3 x13) x4 x5 x6 x7 x8 x9 (carV i M15 h15 k0_pay5 x15) (carV i M16 h16 k0_pay6 x16) 256 (by decide) := by
  unfold bodyRun.sl.r_22 bodyRun.sl.r_19 bodyRun.sl.r_20 bodyRun.sl.r_21 bodyRun.sl.r_16 bodyRun.sl.r_17 bodyRun.sl.r_14 bodyRun.sl.r_2 bodyRun.sl.r_3 bodyRun.sl.v145 bodyRun.sl.v189
  simp only [v17_eq, View.readAt_eq_ld, h4.read_unread, h5.read_unread, h6.read_unread, h7.read_unread, h8.read_unread, h9.read_unread]
  rfl

theorem r_32_eq : bodyRun.sl.r_32 c i M2 h2 M3 h3 M4 h4 M5 h5 M6 h6 M7 h7 M8 h8 M9 h9 M13 h13 M15 h15 M16 h16 x2 x3 x4 x5 x6 x7 x8 x9 x13 x15 x16
    = piece i (seq i) (hnV i x2 x3 x13) x4 x5 x6 x7 x8 x9 (carV i M15 h15 k0_pay5 x15) (carV i M16 h16 k0_pay6 x16) 512 (by decide) := by
  unfold bodyRun.sl.r_32 bodyRun.sl.r_28 bodyRun.sl.r_29 bodyRun.sl.r_30 bodyRun.sl.r_31 bodyRun.sl.r_25 bodyRun.sl.r_26 bodyRun.sl.r_27 bodyRun.sl.r_12 bodyRun.sl.r_13 bodyRun.sl.v256 bodyRun.sl.v300
  simp only [v17_eq, View.readAt_eq_ld, h4.read_unread, h5.read_unread, h6.read_unread, h7.read_unread, h8.read_unread, h9.read_unread]
  rfl

theorem r_38_eq : bodyRun.sl.r_38 c i M2 h2 M3 h3 M4 h4 M5 h5 M6 h6 M7 h7 M8 h8 M9 h9 M13 h13 M15 h15 M16 h16 x2 x3 x4 x5 x6 x7 x8 x9 x13 x15 x16
    = piece i (seq i) (hnV i x2 x3 x13) x4 x5 x6 x7 x8 x9 (carV i M15 h15 k0_pay5 x15) (carV i M16 h16 k0_pay6 x16) 768 (by decide) := by
  unfold bodyRun.sl.r_38 bodyRun.sl.r_35 bodyRun.sl.r_36 bodyRun.sl.r_37 bodyRun.sl.r_33 bodyRun.sl.r_34 bodyRun.sl.r_23 bodyRun.sl.r_24 bodyRun.sl.v359 bodyRun.sl.v403
  simp only [v17_eq, View.readAt_eq_ld, h4.read_unread, h5.read_unread, h6.read_unread, h7.read_unread, h8.read_unread, h9.read_unread]
  rfl

theorem v474_eq : bodyRun.sl.v474 c i M2 h2 M3 h3 M4 h4 M5 h5 M6 h6 M7 h7 M8 h8 M9 h9 M10 h10 M13 h13 M14 h14 M15 h15 M16 h16 x2 x3 x4 x5 x6 x7 x8 x9 x10 x13 x14 x15 x16
    = accV i (seq i) (hnV i x2 x3 x13) (acc0V i x14) x4 x5 x6 x7 x8 x9 x10 (carV i M15 h15 k0_pay5 x15) (carV i M16 h16 k0_pay6 x16) := by
  unfold bodyRun.sl.v474 bodyRun.sl.H14_1
  refine (View.readCov_full _ _ _ _ _).trans ?_
  rw [r_11_eq, r_22_eq, r_32_eq, r_38_eq, v461_eq, View.readAt_eq_ld, h10.read_unread, View.ld_unit_zero (S := S1024x1024) hz2]
  rfl

theorem acc_eq : (bodyRun c i M2 h2 M3 h3 M4 h4 M5 h5 M6 h6 M7 h7 M8 h8 M9 h9 M10 h10 M11 h11 M12 h12 M13 h13 M14 h14 M15 h15 M16 h16 x2 x3 x4 x5 x6 x7 x8 x9 x10 x11 x13 x14 x15 x16).1.acc = accV i (seq i) (hnV i x2 x3 x13) (acc0V i x14) x4 x5 x6 x7 x8 x9 x10 (carV i M15 h15 k0_pay5 x15) (carV i M16 h16 k0_pay6 x16) := by
  unfold bodyRun bodyRun.sl.H14_1
  dsimp only
  refine (View.read_writes_full _ _ _ _ _).trans ?_
  rw [r_11_eq, r_22_eq, r_32_eq, r_38_eq, v461_eq, View.readAt_eq_ld, h10.read_unread, View.ld_unit_zero (S := S1024x1024) hz2]
  rfl

theorem out_eq : (bodyRun c i M2 h2 M3 h3 M4 h4 M5 h5 M6 h6 M7 h7 M8 h8 M9 h9 M10 h10 M11 h11 M12 h12 M13 h13 M14 h14 M15 h15 M16 h16 x2 x3 x4 x5 x6 x7 x8 x9 x10 x11 x13 x14 x15 x16).1.out x12
    = if k0_cond3 i = 1#1 then k0_pay2 x2 (accV i (seq i) (hnV i x2 x3 x13) (acc0V i x14) x4 x5 x6 x7 x8 x9 x10 (carV i M15 h15 k0_pay5 x15) (carV i M16 h16 k0_pay6 x16)) x11 else x12 := by
  rw [← v474_eq c i M2 h2 M3 h3 M4 h4 M5 h5 M6 h6 M7 h7 M8 h8 M9 h9 M10 h10 M13 h13 M14 h14 M15 h15 M16 h16]
  unfold bodyRun
  dsimp only
  refine (read_dite M12 h12 _ _ _ hz2 _).trans ?_
  simp only [View.readAt_eq_ld, h2.read_unread, h11.read_unread, View.ld_unit_zero (S := S1024x1024) hz2, View.ld_unit_zero (S := S1x1024) hz2]

/-- After a point, tile `i 1`'s carried rows are the block's last eight rows of the up-projection; the other tiles' are kept. -/
theorem ca_hit (o : ℕ) (h : o + 256 ≤ 1024) (ho : o = 0 ∨ o = 256 ∨ o = 512 ∨ o = 768) (z : S1x8x256.Idx) (y : S4x8x1024.Idx)
    (hy0 : (y 0).val = (i 1).val) (hy1 : (y 1).val = (z 1).val) (hy2 : (y 2).val = o + (z 2).val) :
    (bodyRun c i M2 h2 M3 h3 M4 h4 M5 h5 M6 h6 M7 h7 M8 h8 M9 h9 M10 h10 M11 h11 M12 h12 M13 h13 M14 h14 M15 h15 M16 h16 x2 x3 x4 x5 x6 x7 x8 x9 x10 x11 x13 x14 x15 x16).1.ca y = k0_pay12 (k0_pay7 (hnV i x2 x3 x13) (View.ld x4 (colR o h))) z := by
  have hi : (i 1).val < 4 := (i 1).isLt
  have hz0 : (z 0).val = 0 := by have : (z 0).val < 1 := (z 0).isLt; omega
  have hz2 : (z 2).val < 256 := (z 2).isLt
  have h0 : (BitVec.ofNat 32 (i 1).val).toNat = (i 1).val := by rw [BitVec.toNat_ofNat]; omega
  unfold bodyRun
  dsimp only
  unfold bodyRun.sl.H15_4 bodyRun.sl.r_23 bodyRun.sl.r_12 bodyRun.sl.r_15 bodyRun.sl.r_2 bodyRun.sl.r
  simp only [v17_eq, View.readAt_eq_ld, h4.read_unread]
  rcases ho with rfl | rfl | rfl | rfl
  · refine (View.read_writes_cons_miss_of_axis _ _ _ _ y 2 768 256 rfl rfl rfl (Or.inl (by omega))).trans ?_
    refine (View.read_writes_cons_miss_of_axis _ _ _ _ y 2 512 256 rfl rfl rfl (Or.inl (by omega))).trans ?_
    refine (View.read_writes_cons_miss_of_axis _ _ _ _ y 2 256 256 rfl rfl rfl (Or.inl (by omega))).trans ?_
    exact View.read_writes_cons_hit_of_coords _ _ (carR i 0 h) _ _ z y (by
      intro a; fin_cases a
      · show (y 0).val = (BitVec.ofNat 32 (i 1).val).toNat + 1 * (z 0).val; omega
      · show (y 1).val = 0 + 1 * (z 1).val; omega
      · show (y 2).val = 0 + 1 * (z 2).val; omega)
  · refine (View.read_writes_cons_miss_of_axis _ _ _ _ y 2 768 256 rfl rfl rfl (Or.inl (by omega))).trans ?_
    refine (View.read_writes_cons_miss_of_axis _ _ _ _ y 2 512 256 rfl rfl rfl (Or.inl (by omega))).trans ?_
    exact View.read_writes_cons_hit_of_coords _ _ (carR i 256 h) _ _ z y (by
      intro a; fin_cases a
      · show (y 0).val = (BitVec.ofNat 32 (i 1).val).toNat + 1 * (z 0).val; omega
      · show (y 1).val = 0 + 1 * (z 1).val; omega
      · show (y 2).val = 256 + 1 * (z 2).val; omega)
  · refine (View.read_writes_cons_miss_of_axis _ _ _ _ y 2 768 256 rfl rfl rfl (Or.inl (by omega))).trans ?_
    exact View.read_writes_cons_hit_of_coords _ _ (carR i 512 h) _ _ z y (by
      intro a; fin_cases a
      · show (y 0).val = (BitVec.ofNat 32 (i 1).val).toNat + 1 * (z 0).val; omega
      · show (y 1).val = 0 + 1 * (z 1).val; omega
      · show (y 2).val = 512 + 1 * (z 2).val; omega)
  · exact View.read_writes_cons_hit_of_coords _ _ (carR i 768 h) _ _ z y (by
      intro a; fin_cases a
      · show (y 0).val = (BitVec.ofNat 32 (i 1).val).toNat + 1 * (z 0).val; omega
      · show (y 1).val = 0 + 1 * (z 1).val; omega
      · show (y 2).val = 768 + 1 * (z 2).val; omega)

theorem ca_miss (y : S4x8x1024.Idx) (hy0 : (y 0).val ≠ (i 1).val) : (bodyRun c i M2 h2 M3 h3 M4 h4 M5 h5 M6 h6 M7 h7 M8 h8 M9 h9 M10 h10 M11 h11 M12 h12 M13 h13 M14 h14 M15 h15 M16 h16 x2 x3 x4 x5 x6 x7 x8 x9 x10 x11 x13 x14 x15 x16).1.ca y = x15 y := by
  have hi : (i 1).val < 4 := (i 1).isLt
  have h0 : (BitVec.ofNat 32 (i 1).val).toNat = (i 1).val := by rw [BitVec.toNat_ofNat]; omega
  have hm : (y 0).val < (BitVec.ofNat 32 (i 1).val).toNat ∨ (BitVec.ofNat 32 (i 1).val).toNat + 1 ≤ (y 0).val := by omega
  unfold bodyRun
  dsimp only
  unfold bodyRun.sl.H15_4
  refine (View.read_writes_cons_miss_of_axis _ _ _ _ y 0 _ 1 rfl rfl rfl hm).trans ?_
  refine (View.read_writes_cons_miss_of_axis _ _ _ _ y 0 _ 1 rfl rfl rfl hm).trans ?_
  refine (View.read_writes_cons_miss_of_axis _ _ _ _ y 0 _ 1 rfl rfl rfl hm).trans ?_
  refine (View.read_writes_cons_miss_of_axis _ _ _ _ y 0 _ 1 rfl rfl rfl hm).trans ?_
  rw [View.writes_nil]
  by_cases hc : k0_cond2 i = 1#1
  · rw [dif_pos hc]
    refine (View.read_writes_cons_miss_of_axis _ _ _ _ y 0 _ 1 rfl rfl rfl hm).trans ?_
    rw [View.writes_nil, h15.read_unread]
  · rw [dif_neg hc, h15.read_unread]

/-- After a point, tile `i 1`'s carried rows are the block's last eight rows of the up-projection; the other tiles' are kept. -/
theorem cb_hit (o : ℕ) (h : o + 256 ≤ 1024) (ho : o = 0 ∨ o = 256 ∨ o = 512 ∨ o = 768) (z : S1x8x256.Idx) (y : S4x8x1024.Idx)
    (hy0 : (y 0).val = (i 1).val) (hy1 : (y 1).val = (z 1).val) (hy2 : (y 2).val = o + (z 2).val) :
    (bodyRun c i M2 h2 M3 h3 M4 h4 M5 h5 M6 h6 M7 h7 M8 h8 M9 h9 M10 h10 M11 h11 M12 h12 M13 h13 M14 h14 M15 h15 M16 h16 x2 x3 x4 x5 x6 x7 x8 x9 x10 x11 x13 x14 x15 x16).1.cb y = k0_pay12 (k0_pay7 (hnV i x2 x3 x13) (View.ld x5 (colR o h))) z := by
  have hi : (i 1).val < 4 := (i 1).isLt
  have hz0 : (z 0).val = 0 := by have : (z 0).val < 1 := (z 0).isLt; omega
  have hz2 : (z 2).val < 256 := (z 2).isLt
  have h0 : (BitVec.ofNat 32 (i 1).val).toNat = (i 1).val := by rw [BitVec.toNat_ofNat]; omega
  unfold bodyRun
  dsimp only
  unfold bodyRun.sl.H16_4 bodyRun.sl.r_24 bodyRun.sl.r_13 bodyRun.sl.r_18 bodyRun.sl.r_3 bodyRun.sl.r_1
  simp only [v17_eq, View.readAt_eq_ld, h5.read_unread]
  rcases ho with rfl | rfl | rfl | rfl
  · refine (View.read_writes_cons_miss_of_axis _ _ _ _ y 2 768 256 rfl rfl rfl (Or.inl (by omega))).trans ?_
    refine (View.read_writes_cons_miss_of_axis _ _ _ _ y 2 512 256 rfl rfl rfl (Or.inl (by omega))).trans ?_
    refine (View.read_writes_cons_miss_of_axis _ _ _ _ y 2 256 256 rfl rfl rfl (Or.inl (by omega))).trans ?_
    exact View.read_writes_cons_hit_of_coords _ _ (carR i 0 h) _ _ z y (by
      intro a; fin_cases a
      · show (y 0).val = (BitVec.ofNat 32 (i 1).val).toNat + 1 * (z 0).val; omega
      · show (y 1).val = 0 + 1 * (z 1).val; omega
      · show (y 2).val = 0 + 1 * (z 2).val; omega)
  · refine (View.read_writes_cons_miss_of_axis _ _ _ _ y 2 768 256 rfl rfl rfl (Or.inl (by omega))).trans ?_
    refine (View.read_writes_cons_miss_of_axis _ _ _ _ y 2 512 256 rfl rfl rfl (Or.inl (by omega))).trans ?_
    exact View.read_writes_cons_hit_of_coords _ _ (carR i 256 h) _ _ z y (by
      intro a; fin_cases a
      · show (y 0).val = (BitVec.ofNat 32 (i 1).val).toNat + 1 * (z 0).val; omega
      · show (y 1).val = 0 + 1 * (z 1).val; omega
      · show (y 2).val = 256 + 1 * (z 2).val; omega)
  · refine (View.read_writes_cons_miss_of_axis _ _ _ _ y 2 768 256 rfl rfl rfl (Or.inl (by omega))).trans ?_
    exact View.read_writes_cons_hit_of_coords _ _ (carR i 512 h) _ _ z y (by
      intro a; fin_cases a
      · show (y 0).val = (BitVec.ofNat 32 (i 1).val).toNat + 1 * (z 0).val; omega
      · show (y 1).val = 0 + 1 * (z 1).val; omega
      · show (y 2).val = 512 + 1 * (z 2).val; omega)
  · exact View.read_writes_cons_hit_of_coords _ _ (carR i 768 h) _ _ z y (by
      intro a; fin_cases a
      · show (y 0).val = (BitVec.ofNat 32 (i 1).val).toNat + 1 * (z 0).val; omega
      · show (y 1).val = 0 + 1 * (z 1).val; omega
      · show (y 2).val = 768 + 1 * (z 2).val; omega)

theorem cb_miss (y : S4x8x1024.Idx) (hy0 : (y 0).val ≠ (i 1).val) : (bodyRun c i M2 h2 M3 h3 M4 h4 M5 h5 M6 h6 M7 h7 M8 h8 M9 h9 M10 h10 M11 h11 M12 h12 M13 h13 M14 h14 M15 h15 M16 h16 x2 x3 x4 x5 x6 x7 x8 x9 x10 x11 x13 x14 x15 x16).1.cb y = x16 y := by
  have hi : (i 1).val < 4 := (i 1).isLt
  have h0 : (BitVec.ofNat 32 (i 1).val).toNat = (i 1).val := by rw [BitVec.toNat_ofNat]; omega
  have hm : (y 0).val < (BitVec.ofNat 32 (i 1).val).toNat ∨ (BitVec.ofNat 32 (i 1).val).toNat + 1 ≤ (y 0).val := by omega
  unfold bodyRun
  dsimp only
  unfold bodyRun.sl.H16_4
  refine (View.read_writes_cons_miss_of_axis _ _ _ _ y 0 _ 1 rfl rfl rfl hm).trans ?_
  refine (View.read_writes_cons_miss_of_axis _ _ _ _ y 0 _ 1 rfl rfl rfl hm).trans ?_
  refine (View.read_writes_cons_miss_of_axis _ _ _ _ y 0 _ 1 rfl rfl rfl hm).trans ?_
  refine (View.read_writes_cons_miss_of_axis _ _ _ _ y 0 _ 1 rfl rfl rfl hm).trans ?_
  rw [View.writes_nil]
  by_cases hc : k0_cond2 i = 1#1
  · rw [dif_pos hc]
    refine (View.read_writes_cons_miss_of_axis _ _ _ _ y 0 _ 1 rfl rfl rfl hm).trans ?_
    rw [View.writes_nil, h16.read_unread]
  · rw [dif_neg hc, h16.read_unread]

end Cert.Kernel2Ideal.Ffn

end
-- ==== Proof.Ffn.Spec.lean ====
/-
  The feed-forward layer of a token over the extended reals, and what the kernel's vector expressions are at an index.
-/
module

public import proofs.«01_k».proof.Proof.Ffn.Step
public import Idealize.ShloMosaic.Lib.Pointwise

@[expose] public section

noncomputable section

namespace Cert.Kernel2Ideal.Ffn

open Cert.Kernel2Ideal Cert.Kernel2Ideal.Gen
open Idealize.ShloMosaic Idealize.ShloMosaic.TcCoe
open scoped BigOperators

/-! ## The layer -/

/-- Element `k` of a row normalized by its mean square, times a weight. -/
def unitRow (y : Fin 1024 → EReal) (g : EReal) (k : Fin 1024) : EReal :=
  y k * Ideal.rsqrt (Ideal.div (∑ x, y x * y x) (Ideal.ofBits .f32 1149239296#32) + Ideal.ofBits .f32 897988541#32) * g

/-- The gated product of two elements. -/
def gate2 (a b : EReal) : EReal :=
  Ideal.ofBits .f32 1056964608#32 * a * (1 + Ideal.tanh (Ideal.ofBits .f32 1061962282#32 * (a + Ideal.ofBits .f32 1027024659#32 * (a * a * a)))) * b

section
variable (a0 : FVec Ideal S16384x1024 .f32) (a1 : FVec Ideal S1024 .f32) (a2 : FVec Ideal S1024x8192 .f32) (a3 : FVec Ideal S3x8192 .f32) (a4 : FVec Ideal S8192 .f32)
  (a5 : FVec Ideal S4096x1024 .f32) (a6 : FVec Ideal S1024 .f32)

def hnT (t : Fin 16384) (k : Fin 1024) : EReal := unitRow (fun k => a0 (ix2 t k)) (a1 (ix1 k)) k
/-- The up-projection of token `t`, column `f`. -/
def upT (t : Fin 16384) (f : Fin 8192) : EReal := ∑ k, hnT a0 a1 t k * a2 (ix2 k f)
/-- The up-projection `s` tokens back in the same sequence of 2048, zero before its start. -/
def backT (s : ℕ) (t : Fin 16384) (f : Fin 8192) : EReal := if s ≤ t.val % 2048 then upT a0 a1 a2 ⟨t.val - s, by omega⟩ f else 0
def convT (t : Fin 16384) (f : Fin 8192) : EReal :=
  a3 (ix2 2 f) * upT a0 a1 a2 t f + a3 (ix2 1 f) * backT a0 a1 a2 1 t f + a3 (ix2 0 f) * backT a0 a1 a2 2 t f + a4 (ix1 f)
/-- The hidden element `f` of token `t`. -/
def hidT (t : Fin 16384) (f : Fin 4096) : EReal := gate2 (convT a0 a1 a2 a3 a4 t ⟨f.val, by omega⟩) (convT a0 a1 a2 a3 a4 t ⟨4096 + f.val, by omega⟩)
def ffT (t : Fin 16384) (l : Fin 1024) : EReal := ∑ f, hidT a0 a1 a2 a3 a4 t f * a5 (ix2 f l)
/-- The layer's result for token `t`, column `l`. -/
def outT (t : Fin 16384) (l : Fin 1024) : EReal := a0 (ix2 t l) + unitRow (ffT a0 a1 a2 a3 a4 a5 t) (a6 (ix1 l)) l
end

/-! ## The kernel's expressions at an index -/

theorem slt_one (r : ℕ) (hr : r < 8) : IntOp.cmpi CmpIPredicate.slt (BitVec.ofNat 32 r) 1#32 = if r < 1 then 1#1 else 0#1 := by
  interval_cases r <;> rfl
theorem slt_two (r : ℕ) (hr : r < 8) : IntOp.cmpi CmpIPredicate.slt (BitVec.ofNat 32 r) 2#32 = if r < 2 then 1#1 else 0#1 := by
  interval_cases r <;> rfl

/-- Row `r` moved back by `n` rows: from the block, or from the carried rows. -/
def shifted (n : ℕ) (hn : n ≤ 8) (s : BitVec 1) (u : FVec Ideal S1024x256 .f32) (k : Vec Ideal S1x8x256 .f32) (r : Fin 1024) (q : Fin 256) : EReal :=
  if h : r.val < n then Scalar.select s 0 (k (ix3 0 ⟨(r.val + 8 - n) % 8, Nat.mod_lt _ (by decide)⟩ q)) else u (ix2 ⟨r.val - n, by omega⟩ q)

theorem shifted_of (n : ℕ) (hn : n ≤ 8) (s : BitVec 1) (u : FVec Ideal S1024x256 .f32) (k : Vec Ideal S1x8x256 .f32) (r : Fin 1024) (q : Fin 256) (b : BitVec 1)
    (hb : r.val < 8 → b = if r.val < n then 1#1 else 0#1) (z1 z2 : Fin 1024) (h1 : n ≤ r.val → z1.val = r.val - n) (h2 : 8 ≤ r.val → z2.val = r.val - n) (z0 : Fin 8) (h0 : z0.val = (r.val + 8 - n) % 8) :
    (if h : r.val < 8 then Scalar.select b (Scalar.select s 0 (k (ix3 0 z0 q))) (u (ix2 z1 q)) else u (ix2 z2 q)) = shifted n hn s u k r q := by
  unfold shifted
  obtain rfl : z0 = ⟨(r.val + 8 - n) % 8, Nat.mod_lt _ (by decide)⟩ := Fin.ext h0
  by_cases h8 : r.val < 8
  · rw [dif_pos h8, hb h8]
    by_cases hr : r.val < n
    · rw [dif_pos hr, if_pos hr]; exact if_pos rfl
    · rw [dif_neg hr, if_neg hr]
      exact (if_neg (by decide : ¬ (0#1 : BitVec 1) = 1#1)).trans (congrArg (fun z => u (ix2 z q)) (Fin.ext (h1 (by omega))))
  · rw [dif_neg h8, dif_neg (by omega)]
    exact congrArg (fun z => u (ix2 z q)) (Fin.ext (h2 (by omega)))

theorem convV_apply (s : BitVec 1) (u : FVec Ideal S1024x256 .f32) (k : Vec Ideal S1x8x256 .f32) (w : Vec Ideal S3x256 .f32) (b : Vec Ideal S1x256 .f32) (r : Fin 1024) (q : Fin 256) :
    convV s u k w b (ix2 r q) = w (ix2 2 q) * u (ix2 r q) + w (ix2 1 q) * shifted 1 (by decide) s u k r q + w (ix2 0 q) * shifted 2 (by decide) s u k r q + b (ix2 0 q) := by
  pointwise [convV, k0_pay27, k0_pay25]
  have hr := r.isLt
  refine congrArg (· + b (ix2 0 q)) (congrArg₂ (· + ·) (congrArg (w (ix2 2 q) * u (ix2 r q) + ·) (congrArg (w (ix2 1 q) * ·) ?_)) (congrArg (w (ix2 0 q) * ·) ?_))
  · exact shifted_of 1 (by decide) s u k r q _ (slt_one r.val) ⟨(r.val + 1024 - 1) % 1024, by omega⟩ ⟨(8 + (r.val - 8) + 1024 - 1) % 1024, by omega⟩
      (fun h => by show (r.val + 1024 - 1) % 1024 = r.val - 1; omega) (fun h => by show (8 + (r.val - 8) + 1024 - 1) % 1024 = r.val - 1; omega) ⟨(r.val + 8 - 1) % 8, by omega⟩ rfl
  · exact shifted_of 2 (by decide) s u k r q _ (slt_two r.val) ⟨(r.val + 1024 - 2) % 1024, by omega⟩ ⟨(8 + (r.val - 8) + 1024 - 2) % 1024, by omega⟩
      (fun h => by show (r.val + 1024 - 2) % 1024 = r.val - 2; omega) (fun h => by show (8 + (r.val - 8) + 1024 - 2) % 1024 = r.val - 2; omega) ⟨(r.val + 8 - 2) % 8, by omega⟩ rfl

theorem gateV_apply (a b : FVec Ideal S1024x256 .f32) (r : Fin 1024) (q : Fin 256) : gateV a b (ix2 r q) = gate2 (a (ix2 r q)) (b (ix2 r q)) := by
  pointwise [gateV, k0_pay34, k0_pay31, k0_pay32, k0_pay33, gate2]

theorem up_apply (hn : Vec Ideal S1024x1024 .bf16) (x : Vec Ideal S1024x256 .bf16) (r : Fin 1024) (q : Fin 256) :
    k0_pay7 hn x (ix2 r q) = ∑ k, hn (ix2 r k) * x (ix2 k q) := by
  pointwise [k0_pay7]

theorem last_apply (x : FVec Ideal S1024x256 .f32) (z : Fin 1) (e : Fin 8) (q : Fin 256) : k0_pay12 x (ix3 z e q) = x (ix2 ⟨1016 + e.val, by omega⟩ q) := by
  pointwise [k0_pay12]

theorem hn_apply (x : Vec Ideal S1024x1024 .f32) (g : Vec Ideal S1x1024 .f32) (r k : Fin 1024) :
    k0_pay3 x g (ix2 r k) = unitRow (fun k => x (ix2 r k)) (g (ix2 0 k)) k := by
  pointwise [k0_pay3, unitRow]

theorem res_apply (x a : Vec Ideal S1024x1024 .f32) (g : Vec Ideal S1x1024 .f32) (r k : Fin 1024) :
    k0_pay2 x a g (ix2 r k) = x (ix2 r k) + unitRow (fun k => a (ix2 r k)) (g (ix2 0 k)) k := by
  pointwise [k0_pay2, unitRow]

theorem zero_apply (r k : Fin 1024) : (k0_pay4 : FVec Ideal S1024x1024 .f32) (ix2 r k) = 0 := by
  pointwise [k0_pay4]

/-- The sums' update, the four pieces being one row of 1024 hidden elements. -/
theorem sum_apply (p0 p1 p2 p3 : FVec Ideal S1024x256 .bf16) (acc : Vec Ideal S1024x1024 .f32) (x : Vec Ideal S1024x1024 .bf16) (r l : Fin 1024) (g : Fin 1024 → EReal)
    (g0 : ∀ q : Fin 256, p0 (ix2 r q) = g ⟨0 + q.val, by omega⟩) (g1 : ∀ q : Fin 256, p1 (ix2 r q) = g ⟨256 + q.val, by omega⟩)
    (g2 : ∀ q : Fin 256, p2 (ix2 r q) = g ⟨512 + q.val, by omega⟩) (g3 : ∀ q : Fin 256, p3 (ix2 r q) = g ⟨768 + q.val, by omega⟩) :
    k0_pay1 p0 p1 p2 p3 acc x (ix2 r l) = acc (ix2 r l) + ∑ f, g f * x (ix2 f l) := by
  pointwise [k0_pay1]
  refine congrArg (acc (ix2 r l) + ·) (Finset.sum_congr rfl fun f _ => congrArg (· * x (ix2 f l)) ?_)
  split
  · rw [g0]; exact congrArg g (Fin.ext (by show 0 + f.val = f.val; omega))
  split
  · rw [g1]; exact congrArg g (Fin.ext (by show 256 + (f.val - 256) = f.val; omega))
  split
  · rw [g2]; exact congrArg g (Fin.ext (by show 512 + (f.val - 256 - 256) = f.val; omega))
  · rw [g3]; exact congrArg g (Fin.ext (by show 768 + (f.val - 256 - 256 - 256) = f.val; omega))

/-! ## The grid's conditions -/

theorem first_iff (i : grid0.Coords) : first i ↔ (i 1).val = 0 := by
  unfold first bodyRun.sl.v2 bodyRun.sl.v1 bodyRun.sl.v0
  have h : (i 1).val < 4 := (i 1).isLt
  generalize (i 1).val = j at h ⊢
  interval_cases j <;> decide
theorem cond2_iff (i : grid0.Coords) : k0_cond2 i = 1#1 ↔ (i 0).val = 0 := by
  unfold k0_cond2
  have h : (i 0).val < 16 := (i 0).isLt
  generalize (i 0).val = j at h ⊢
  interval_cases j <;> decide
theorem cond3_iff (i : grid0.Coords) : k0_cond3 i = 1#1 ↔ (i 1).val = 3 := by
  unfold k0_cond3
  have h : (i 1).val < 4 := (i 1).isLt
  generalize (i 1).val = j at h ⊢
  interval_cases j <;> decide
theorem seq_iff (i : grid0.Coords) : seq i = 1#1 ↔ (i 0).val % 2 = 0 := by
  unfold seq
  sl_unfold_words
  have h : (i 0).val < 16 := (i 0).isLt
  generalize (i 0).val = j at h ⊢
  interval_cases j <;> decide

end Cert.Kernel2Ideal.Ffn

end
-- ==== Proof.Ffn.Windows.lean ====
/-
  The feed-forward kernel's input blocks at a grid point, read off the arguments.
-/
module

public import proofs.«01_k».proof.Proof.Ffn.Run
public import Idealize.ShloMosaic.Lib.Pointwise
public import Idealize.ShloMosaic.Lib.Claim

@[expose] public section

noncomputable section

namespace Cert.Kernel2Ideal.Ffn

open Cert.Kernel2Ideal Cert.Kernel2Ideal.Gen
open Idealize.ShloMosaic Idealize.ShloMosaic.TcCoe

theorem coord0 : ∀ t : Fin cfg0.N, (grid0.coords t 0).val = t.val / 4 :=
  (by decide +kernel : ∀ t : Fin grid0.N, (grid0.coords t 0).val = t.val / 4)
theorem coord1 : ∀ t : Fin cfg0.N, (grid0.coords t 1).val = t.val % 4 :=
  (by decide +kernel : ∀ t : Fin grid0.N, (grid0.coords t 1).val = t.val % 4)

theorem at0 : ∀ t : Fin cfg0.N, win0_0.index t 0 = t.val / 4 ∧ win0_0.index t 1 = 0 :=
  (by decide +kernel : ∀ t : Fin grid0.N, win0_0.index t 0 = t.val / 4 ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = t.val % 4 :=
  (by decide +kernel : ∀ t : Fin grid0.N, win0_2.index t 0 = 0 ∧ win0_2.index t 1 = t.val % 4)
theorem at3 : ∀ t : Fin cfg0.N, win0_3.index t 0 = 0 ∧ win0_3.index t 1 = 4 + t.val % 4 :=
  (by decide +kernel : ∀ t : Fin grid0.N, win0_3.index t 0 = 0 ∧ win0_3.index t 1 = 4 + t.val % 4)
theorem at4 : ∀ t : Fin cfg0.N, win0_4.index t 0 = 0 ∧ win0_4.index t 1 = t.val % 4 :=
  (by decide +kernel : ∀ t : Fin grid0.N, win0_4.index t 0 = 0 ∧ win0_4.index t 1 = t.val % 4)
theorem at5 : ∀ t : Fin cfg0.N, win0_5.index t 0 = 0 ∧ win0_5.index t 1 = 4 + t.val % 4 :=
  (by decide +kernel : ∀ t : Fin grid0.N, win0_5.index t 0 = 0 ∧ win0_5.index t 1 = 4 + t.val % 4)
theorem at6 : ∀ t : Fin cfg0.N, win0_6.index t 0 = 0 ∧ win0_6.index t 1 = t.val % 4 :=
  (by decide +kernel : ∀ t : Fin grid0.N, win0_6.index t 0 = 0 ∧ win0_6.index t 1 = t.val % 4)
theorem at7 : ∀ t : Fin cfg0.N, win0_7.index t 0 = 0 ∧ win0_7.index t 1 = 4 + t.val % 4 :=
  (by decide +kernel : ∀ t : Fin grid0.N, win0_7.index t 0 = 0 ∧ win0_7.index t 1 = 4 + t.val % 4)
theorem at8 : ∀ t : Fin cfg0.N, win0_8.index t 0 = t.val % 4 ∧ win0_8.index t 1 = 0 :=
  (by decide +kernel : ∀ t : Fin grid0.N, win0_8.index t 0 = t.val % 4 ∧ win0_8.index t 1 = 0)
theorem at9 : ∀ t : Fin cfg0.N, win0_9.index t 0 = 0 ∧ win0_9.index t 1 = 0 :=
  (by decide +kernel : ∀ t : Fin grid0.N, win0_9.index t 0 = 0 ∧ win0_9.index t 1 = 0)
theorem at10 : ∀ t : Fin cfg0.N, win0_10.index t 0 = t.val / 4 ∧ win0_10.index t 1 = 0 :=
  (by decide +kernel : ∀ t : Fin grid0.N, win0_10.index t 0 = t.val / 4 ∧ win0_10.index t 1 = 0)

variable (m : (ℓ : Loc nD τ sig) → Buf (Elt Ideal) ℓ)

/-- The arguments on core `c`. -/
abbrev A0 (c : Dev nD) : FVec Ideal S16384x1024 .f32 := m ((c : Thread nD τ).loc main_arg0)
abbrev A1 (c : Dev nD) : FVec Ideal S1024 .f32 := m ((c : Thread nD τ).loc main_arg1)
abbrev A2 (c : Dev nD) : FVec Ideal S1024x8192 .f32 := m ((c : Thread nD τ).loc main_arg2)
abbrev A3 (c : Dev nD) : FVec Ideal S3x8192 .f32 := m ((c : Thread nD τ).loc main_arg3)
abbrev A4 (c : Dev nD) : FVec Ideal S8192 .f32 := m ((c : Thread nD τ).loc main_arg4)
abbrev A5 (c : Dev nD) : FVec Ideal S4096x1024 .f32 := m ((c : Thread nD τ).loc main_arg5)
abbrev A6 (c : Dev nD) : FVec Ideal S1024 .f32 := m ((c : Thread nD τ).loc main_arg6)

theorem V_v0 (c : Dev nD) (k : Fin 1024) : V m c main_v0 (ix2 0 k) = A1 m c (ix1 k) := by
  entry_read
  pointwise []
theorem V_v1 (c : Dev nD) (k : Fin 1024) (f : Fin 8192) : V m c main_v1 (ix2 k f) = A2 m c (ix2 k f) := by
  entry_read
  pointwise []
theorem V_v2 (c : Dev nD) (f : Fin 4096) (l : Fin 1024) : V m c main_v2 (ix2 f l) = A5 m c (ix2 f l) := by
  entry_read
  pointwise []
theorem V_v3 (c : Dev nD) (k : Fin 1024) : V m c main_v3 (ix2 0 k) = A6 m c (ix1 k) := by
  entry_read
  pointwise []
theorem V_v4 (c : Dev nD) (f : Fin 8192) : V m c main_v4 (ix2 0 f) = A4 m c (ix1 f) := by
  entry_read
  pointwise []

variable (c : Dev nD) (t : Fin cfg0.N)

theorem lt64 : t.val < 64 := t.isLt.trans_eq N_0

theorem blk0 (r k : Fin 1024) : iblk m c 0 t (ix2 r k) = A0 m c (ix2 ⟨1024 * (t.val / 4) + r.val, by have := lt64 t; omega⟩ k) := by
  unfold iblk
  rw [View.read_apply]
  show V m c main_arg0 _ = _
  entry_read
  refine congrArg (m _) (funext fun a => Fin.ext ?_)
  match a with
  | ⟨0, _⟩ => show win0_0.index t 0 * 1024 + 1 * r.val = _; rw [(at0 t).1]; show _ = 1024 * (t.val / 4) + r.val; omega
  | ⟨1, _⟩ => show win0_0.index t 1 * 1024 + 1 * k.val = k.val; rw [(at0 t).2]; omega

/-- A column of the first half, and of the second, of the 8192 under block `t`. -/
def colA (q : Fin 1024) : Fin 8192 := ⟨1024 * (t.val % 4) + q.val, by omega⟩
def colB (q : Fin 1024) : Fin 8192 := ⟨4096 + (1024 * (t.val % 4) + q.val), by omega⟩

theorem blk1 (k : Fin 1024) : iblk m c 1 t (ix2 0 k) = A1 m c (ix1 k) := by
  unfold iblk
  rw [View.read_apply]
  refine Eq.trans (congrArg (V m c main_v0) (funext fun a => Fin.ext ?_)) (V_v0 m c k)
  match a with
  | ⟨0, _⟩ => show win0_1.index t 0 * 1 + 1 * 0 = 0; rw [(at1 t).1]
  | ⟨1, _⟩ => show win0_1.index t 1 * 1024 + 1 * k.val = k.val; rw [(at1 t).2]; omega

theorem blk2 (k q : Fin 1024) : iblk m c 2 t (ix2 k q) = A2 m c (ix2 k (colA t q)) := by
  unfold iblk
  rw [View.read_apply]
  refine Eq.trans (congrArg (V m c main_v1) (funext fun a => Fin.ext ?_)) (V_v1 m c k (colA t q))
  match a with
  | ⟨0, _⟩ => show win0_2.index t 0 * 1024 + 1 * k.val = k.val; rw [(at2 t).1]; omega
  | ⟨1, _⟩ => show win0_2.index t 1 * 1024 + 1 * q.val = 1024 * (t.val % 4) + q.val; rw [(at2 t).2]; omega

theorem blk3 (k q : Fin 1024) : iblk m c 3 t (ix2 k q) = A2 m c (ix2 k (colB t q)) := by
  unfold iblk
  rw [View.read_apply]
  refine Eq.trans (congrArg (V m c main_v1) (funext fun a => Fin.ext ?_)) (V_v1 m c k (colB t q))
  match a with
  | ⟨0, _⟩ => show win0_3.index t 0 * 1024 + 1 * k.val = k.val; rw [(at3 t).1]; omega
  | ⟨1, _⟩ => show win0_3.index t 1 * 1024 + 1 * q.val = 4096 + (1024 * (t.val % 4) + q.val); rw [(at3 t).2]; omega

theorem blk4 (e : Fin 3) (q : Fin 1024) : iblk m c 4 t (ix2 e q) = A3 m c (ix2 e (colA t q)) := by
  unfold iblk
  rw [View.read_apply]
  show V m c main_arg3 _ = _
  entry_read
  refine congrArg (m _) (funext fun a => Fin.ext ?_)
  match a with
  | ⟨0, _⟩ => show win0_4.index t 0 * 3 + 1 * e.val = e.val; rw [(at4 t).1]; omega
  | ⟨1, _⟩ => show win0_4.index t 1 * 1024 + 1 * q.val = 1024 * (t.val % 4) + q.val; rw [(at4 t).2]; omega

theorem blk5 (e : Fin 3) (q : Fin 1024) : iblk m c 5 t (ix2 e q) = A3 m c (ix2 e (colB t q)) := by
  unfold iblk
  rw [View.read_apply]
  show V m c main_arg3 _ = _
  entry_read
  refine congrArg (m _) (funext fun a => Fin.ext ?_)
  match a with
  | ⟨0, _⟩ => show win0_5.index t 0 * 3 + 1 * e.val = e.val; rw [(at5 t).1]; omega
  | ⟨1, _⟩ => show win0_5.index t 1 * 1024 + 1 * q.val = 4096 + (1024 * (t.val % 4) + q.val); rw [(at5 t).2]; omega

theorem blk6 (q : Fin 1024) : iblk m c 6 t (ix2 0 q) = A4 m c (ix1 (colA t q)) := by
  unfold iblk
  rw [View.read_apply]
  refine Eq.trans (congrArg (V m c main_v4) (funext fun a => Fin.ext ?_)) (V_v4 m c (colA t q))
  match a with
  | ⟨0, _⟩ => show win0_6.index t 0 * 1 + 1 * 0 = 0; rw [(at6 t).1]
  | ⟨1, _⟩ => show win0_6.index t 1 * 1024 + 1 * q.val = 1024 * (t.val % 4) + q.val; rw [(at6 t).2]; omega

theorem blk7 (q : Fin 1024) : iblk m c 7 t (ix2 0 q) = A4 m c (ix1 (colB t q)) := by
  unfold iblk
  rw [View.read_apply]
  refine Eq.trans (congrArg (V m c main_v4) (funext fun a => Fin.ext ?_)) (V_v4 m c (colB t q))
  match a with
  | ⟨0, _⟩ => show win0_7.index t 0 * 1 + 1 * 0 = 0; rw [(at7 t).1]
  | ⟨1, _⟩ => show win0_7.index t 1 * 1024 + 1 * q.val = 4096 + (1024 * (t.val % 4) + q.val); rw [(at7 t).2]; omega

theorem blk8 (q l : Fin 1024) : iblk m c 8 t (ix2 q l) = A5 m c (ix2 ⟨1024 * (t.val % 4) + q.val, by omega⟩ l) := by
  unfold iblk
  rw [View.read_apply]
  refine Eq.trans (congrArg (V m c main_v2) (funext fun a => Fin.ext ?_)) (V_v2 m c _ l)
  match a with
  | ⟨0, _⟩ => show win0_8.index t 0 * 1024 + 1 * q.val = 1024 * (t.val % 4) + q.val; rw [(at8 t).1]; omega
  | ⟨1, _⟩ => show win0_8.index t 1 * 1024 + 1 * l.val = l.val; rw [(at8 t).2]; omega

theorem blk9 (k : Fin 1024) : iblk m c 9 t (ix2 0 k) = A6 m c (ix1 k) := by
  unfold iblk
  rw [View.read_apply]
  refine Eq.trans (congrArg (V m c main_v3) (funext fun a => Fin.ext ?_)) (V_v3 m c k)
  match a with
  | ⟨0, _⟩ => show win0_9.index t 0 * 1 + 1 * 0 = 0; rw [(at9 t).1]
  | ⟨1, _⟩ => show win0_9.index t 1 * 1024 + 1 * k.val = k.val; rw [(at9 t).2]; omega

end Cert.Kernel2Ideal.Ffn

end
-- ==== Proof.Ffn.Inv.lean ====
/-
  The feed-forward kernel's scratch buffers before each point, over the extended reals: the block's normalized rows, the sums
  over the tiles already done, and for each tile the last rows of the up-projection of the block before. One point's step.
-/
module

public import proofs.«01_k».proof.Proof.Ffn.Spec
public import proofs.«01_k».proof.Proof.Ffn.Windows

@[expose] public section

noncomputable section

namespace Cert.Kernel2Ideal.Ffn

open Cert.Kernel2Ideal Cert.Kernel2Ideal.Gen
open Idealize.ShloMosaic Idealize.ShloMosaic.TcCoe
open scoped BigOperators

variable (m : (ℓ : Loc nD τ sig) → Buf (Elt Ideal) ℓ) (c : Dev nD)

/-! ## The layer of the launched arguments -/

abbrev hnA := hnT (A0 m c) (A1 m c)
abbrev upA := upT (A0 m c) (A1 m c) (A2 m c)
abbrev convA := convT (A0 m c) (A1 m c) (A2 m c) (A3 m c) (A4 m c)
abbrev hidA := hidT (A0 m c) (A1 m c) (A2 m c) (A3 m c) (A4 m c)
/-- Hidden element `x`'s term of the down-projection. -/
def term (T : Fin 16384) (l : Fin 1024) (x : ℕ) : EReal := if h : x < 4096 then hidA m c T ⟨x, h⟩ * A5 m c (ix2 ⟨x, h⟩ l) else 0

/-- Before point `n`: block `n / 4`, tile `n % 4`. -/
structure Inv (n : ℕ) (s : Scr Ideal) : Prop where
  hn : n % 4 ≠ 0 → ∀ (r k : Fin 1024) (T : Fin 16384), T.val = 1024 * (n / 4) + r.val → s.hn (ix2 r k) = hnA m c T k
  acc : n % 4 ≠ 0 → ∀ (r l : Fin 1024) (T : Fin 16384), T.val = 1024 * (n / 4) + r.val → s.acc (ix2 r l) = ∑ x ∈ Finset.range (1024 * (n % 4)), term m c T l x
  ca : ∀ (j : Fin 4) (e : Fin 8) (q : Fin 1024) (T : Fin 16384), T.val + 8 = 1024 * (if j.val < n % 4 then n / 4 + 1 else n / 4) + e.val →
    s.ca (ix3 j e q) = upA m c T ⟨1024 * j.val + q.val, by omega⟩
  cb : ∀ (j : Fin 4) (e : Fin 8) (q : Fin 1024) (T : Fin 16384), T.val + 8 = 1024 * (if j.val < n % 4 then n / 4 + 1 else n / 4) + e.val →
    s.cb (ix3 j e q) = upA m c T ⟨4096 + (1024 * j.val + q.val), by omega⟩

/-! ## A point's values -/

section
variable (t : Fin cfg0.N) (s : Scr Ideal)

/-- The token of row `r` of the point's block. -/
def row (r : Fin 1024) : Fin 16384 := ⟨1024 * (t.val / 4) + r.val, by have := lt64 t; omega⟩

/-- The normalized rows at the point. -/
abbrev hnP : Vec Ideal S1024x1024 .bf16 := hnV (grid0.coords t) (iblk m c 0 t) (iblk m c 1 t) s.hn
/-- The carried rows as the point reads them. -/
abbrev caP : Vec Ideal S4x8x1024 .f32 := carV (grid0.coords t) (Memref.whole cc0_scratch2) (Memref.isWhole_whole _) k0_pay5 s.ca
abbrev cbP : Vec Ideal S4x8x1024 .f32 := carV (grid0.coords t) (Memref.whole cc0_scratch3) (Memref.isWhole_whole _) k0_pay6 s.cb
/-- The sums the point leaves. -/
abbrev accP : Vec Ideal S1024x1024 .f32 :=
  accV (grid0.coords t) (seq (grid0.coords t)) (hnP m c t s) (acc0V (grid0.coords t) s.acc) (iblk m c 2 t) (iblk m c 3 t) (iblk m c 4 t) (iblk m c 5 t) (iblk m c 6 t) (iblk m c 7 t)
    (iblk m c 8 t) (caP t s) (cbP t s)

theorem first_at : first (grid0.coords t) ↔ t.val % 4 = 0 := by rw [first_iff, coord1]
theorem seq_at : seq (grid0.coords t) = 1#1 ↔ t.val / 4 % 2 = 0 := by rw [seq_iff, coord0]

variable {s}

theorem hnP_apply (h : Inv m c t.val s) (r k : Fin 1024) : hnP m c t s (ix2 r k) = hnA m c (row t r) k := by
  unfold hnP hnV
  by_cases hf : first (grid0.coords t)
  · rw [if_pos hf, hn_apply, blk1]
    simp only [blk0]
    rfl
  · rw [if_neg hf]
    exact h.hn (fun h0 => hf ((first_at t).mpr h0)) r k (row t r) rfl

theorem ldcol (x : Vec Ideal S1024x1024 .bf16) (o : ℕ) (ho : o + 256 ≤ 1024) (k : Fin 1024) (q : Fin 256) : View.ld x (colR o ho) (ix2 k q) = x (ix2 k ⟨o + q.val, by omega⟩) := by
  pointwise []
theorem ldtap (x : Vec Ideal S3x1024 .f32) (o : ℕ) (ho : o + 256 ≤ 1024) (e : Fin 3) (q : Fin 256) : View.ld x (tapR o ho) (ix2 e q) = x (ix2 e ⟨o + q.val, by omega⟩) := by
  pointwise []
theorem ldbias (x : Vec Ideal S1x1024 .f32) (o : ℕ) (ho : o + 256 ≤ 1024) (q : Fin 256) : View.ld x (biasR o ho) (ix2 0 q) = x (ix2 0 ⟨o + q.val, by omega⟩) := by
  pointwise []
theorem ldcar (x : Vec Ideal S4x8x1024 .f32) (i : grid0.Coords) (o : ℕ) (ho : o + 256 ≤ 1024) (e : Fin 8) (q : Fin 256) :
    View.ld x (carR i o ho) (ix3 0 e q) = x (ix3 ⟨(i 1).val, (i 1).isLt⟩ e ⟨o + q.val, by omega⟩) := by
  show x _ = x _
  refine congrArg x (funext fun a => Fin.ext ?_)
  have hi : (i 1).val < 4 := (i 1).isLt
  match a with
  | ⟨0, _⟩ => show (BitVec.ofNat 32 (i 1).val).toNat + 1 * 0 = (i 1).val; rw [BitVec.toNat_ofNat]; omega
  | ⟨1, _⟩ => show 0 + 1 * e.val = e.val; omega
  | ⟨2, _⟩ => show o + 1 * q.val = o + q.val; omega

/-- A piece's rows of the up-projection, for a block `x` of weights holding column `f` at `o + q`. -/
theorem upP_apply (h : Inv m c t.val s) (x : Vec Ideal S1024x1024 .bf16) (f : Fin 8192) (o : ℕ) (ho : o + 256 ≤ 1024) (q : Fin 256)
    (hx : ∀ k, x (ix2 k ⟨o + q.val, by omega⟩) = A2 m c (ix2 k f)) (r : Fin 1024) :
    k0_pay7 (hnP m c t s) (View.ld x (colR o ho)) (ix2 r q) = upA m c (row t r) f := by
  rw [up_apply]
  unfold upA upT
  exact Finset.sum_congr rfl fun k _ => by rw [hnP_apply m c t h, ldcol, hx]

theorem shifted_eq (n : ℕ) (hn : n ≤ 8) (u : FVec Ideal S1024x256 .f32) (k : Vec Ideal S1x8x256 .f32) (f : Fin 8192) (q : Fin 256) (hu : ∀ r, u (ix2 r q) = upA m c (row t r) f)
    (hk : t.val / 4 % 2 = 1 → ∀ (e : Fin 8) (T : Fin 16384), T.val + 8 = 1024 * (t.val / 4) + e.val → k (ix3 0 e q) = upA m c T f) (r : Fin 1024) :
    shifted n hn (seq (grid0.coords t)) u k r q = backT (A0 m c) (A1 m c) (A2 m c) n (row t r) f := by
  have hm : (row t r).val % 2048 = 1024 * (t.val / 4 % 2) + r.val := by show (1024 * (t.val / 4) + r.val) % 2048 = _; omega
  unfold shifted backT
  rw [hm]
  by_cases hr : r.val < n
  · rw [dif_pos hr]
    by_cases hs : t.val / 4 % 2 = 0
    · rw [hs, if_neg (by omega)]
      exact if_pos ((seq_at t).mpr hs)
    · have h1 : t.val / 4 % 2 = 1 := by omega
      rw [h1, if_pos (by omega)]
      refine (if_neg (fun h => hs ((seq_at t).mp h))).trans (hk h1 _ _ ?_)
      show 1024 * (t.val / 4) + r.val - n + 8 = 1024 * (t.val / 4) + (r.val + 8 - n) % 8
      omega
  · rw [dif_neg hr, if_pos (by omega), hu]
    exact congrArg (upA m c · f) (Fin.ext (by show 1024 * (t.val / 4) + (r.val - n) = 1024 * (t.val / 4) + r.val - n; omega))

theorem conv_eq (u : FVec Ideal S1024x256 .f32) (k : Vec Ideal S1x8x256 .f32) (w : Vec Ideal S3x256 .f32) (b : Vec Ideal S1x256 .f32) (f : Fin 8192) (q : Fin 256)
    (hu : ∀ r, u (ix2 r q) = upA m c (row t r) f)
    (hk : t.val / 4 % 2 = 1 → ∀ (e : Fin 8) (T : Fin 16384), T.val + 8 = 1024 * (t.val / 4) + e.val → k (ix3 0 e q) = upA m c T f)
    (hw : ∀ e, w (ix2 e q) = A3 m c (ix2 e f)) (hb : b (ix2 0 q) = A4 m c (ix1 f)) (r : Fin 1024) :
    convV (seq (grid0.coords t)) u k w b (ix2 r q) = convA m c (row t r) f := by
  rw [convV_apply, shifted_eq m c t 1 _ u k f q hu hk r, shifted_eq m c t 2 _ u k f q hu hk r, hw, hw, hw, hb, hu]
  rfl

theorem caP_apply (h : Inv m c t.val s) (hs : t.val / 4 % 2 = 1) (e : Fin 8) (q : Fin 1024) (T : Fin 16384) (hT : T.val + 8 = 1024 * (t.val / 4) + e.val) (j : Fin 4) (hj : j.val = t.val % 4) :
    caP t s (ix3 j e q) = upA m c T (colA t q) ∧ cbP t s (ix3 j e q) = upA m c T (colB t q) := by
  have h2 : ¬ k0_cond2 (grid0.coords t) = 1#1 := by rw [cond2_iff, coord0]; omega
  unfold caP cbP
  rw [carV_of_not h2, carV_of_not h2, h.ca j e q T (by rw [if_neg (by omega)]; exact hT), h.cb j e q T (by rw [if_neg (by omega)]; exact hT)]
  exact ⟨congrArg (upA m c T) (Fin.ext (by show 1024 * j.val + q.val = 1024 * (t.val % 4) + q.val; rw [hj])),
    congrArg (upA m c T) (Fin.ext (by show 4096 + (1024 * j.val + q.val) = 4096 + (1024 * (t.val % 4) + q.val); rw [hj]))⟩

theorem piece_eq (h : Inv m c t.val s) (o : ℕ) (ho : o + 256 ≤ 1024) (r : Fin 1024) (q : Fin 256) :
    piece (grid0.coords t) (seq (grid0.coords t)) (hnP m c t s) (iblk m c 2 t) (iblk m c 3 t) (iblk m c 4 t) (iblk m c 5 t) (iblk m c 6 t) (iblk m c 7 t) (caP t s) (cbP t s) o ho (ix2 r q)
      = hidA m c (row t r) ⟨1024 * (t.val % 4) + (o + q.val), by omega⟩ := by
  unfold piece
  rw [gateV_apply,
    conv_eq m c t _ _ _ _ (colA t ⟨o + q.val, by omega⟩) q (upP_apply m c t h _ _ o ho q fun k => blk2 m c t k _)
      (fun hs e T hT => (ldcar _ _ o ho e q).trans (caP_apply m c t h hs e _ T hT _ (coord1 t)).1) (fun e => (ldtap _ o ho e q).trans (blk4 m c t e _)) ((ldbias _ o ho q).trans (blk6 m c t _)),
    conv_eq m c t _ _ _ _ (colB t ⟨o + q.val, by omega⟩) q (upP_apply m c t h _ _ o ho q fun k => blk3 m c t k _)
      (fun hs e T hT => (ldcar _ _ o ho e q).trans (caP_apply m c t h hs e _ T hT _ (coord1 t)).2) (fun e => (ldtap _ o ho e q).trans (blk5 m c t e _)) ((ldbias _ o ho q).trans (blk7 m c t _))]
  rfl

theorem accP_apply (h : Inv m c t.val s) (r l : Fin 1024) : accP m c t s (ix2 r l) = ∑ x ∈ Finset.range (1024 * (t.val % 4 + 1)), term m c (row t r) l x := by
  unfold accP accV
  rw [sum_apply _ _ _ _ _ _ r l (fun f => hidA m c (row t r) ⟨1024 * (t.val % 4) + f.val, by omega⟩) (fun q => piece_eq m c t h 0 _ r q) (fun q => piece_eq m c t h 256 _ r q)
    (fun q => piece_eq m c t h 512 _ r q) (fun q => piece_eq m c t h 768 _ r q)]
  rw [show 1024 * (t.val % 4 + 1) = 1024 * (t.val % 4) + 1024 by omega, Finset.sum_range_add]
  congr 1
  · unfold acc0V
    by_cases hf : first (grid0.coords t)
    · rw [if_pos hf, zero_apply, (first_at t).mp hf]; rfl
    · rw [if_neg hf]
      exact h.acc (fun h0 => hf ((first_at t).mpr h0)) r l (row t r) rfl
  · rw [Finset.sum_range]
    refine Finset.sum_congr rfl fun f _ => ?_
    rw [blk8]
    unfold term
    rw [dif_pos (by omega)]

end

end Cert.Kernel2Ideal.Ffn

end
-- ==== Proof.Ffn.Value.lean ====
/-
  The feed-forward kernel's result over the extended reals: the scratch buffers by induction over the points, the block that
  each block of tokens is written back with, and the whole array.
-/
module

public import proofs.«01_k».proof.Proof.Ffn.Inv
public import proofs.«01_k».proof.Proof.Ffn.Ends
public import Idealize.ShloMosaic.Lib.Pipeline.ArrRel

@[expose] public section

noncomputable section

namespace Cert.Kernel2Ideal.Ffn

open Cert.Kernel2Ideal Cert.Kernel2Ideal.Gen
open Idealize.ShloMosaic Idealize.ShloMosaic.TcCoe Idealize.SL.Sem
open scoped BigOperators

variable (m : (ℓ : Loc nD τ sig) → Buf (Elt Ideal) ℓ) (c : Dev nD)

/-! ## One point -/

section
variable (t : Fin cfg0.N) (s : Scr Ideal)

theorem left_hn : (left m c t s).hn = hnP m c t s := hn_eq ..
theorem left_acc : (left m c t s).acc = accP m c t s := acc_eq ..
theorem left_out (y : Vec Ideal S1024x1024 .f32) (h3 : t.val % 4 = 3) : (left m c t s).out y = k0_pay2 (iblk m c 0 t) (accP m c t s) (iblk m c 9 t) :=
  (out_eq ..).trans (if_pos ((cond3_iff _).mpr ((coord1 t).trans h3)))

/-- The piece a column lies in. -/
theorem piece_of (q : Fin 1024) : 256 * (q.val / 256) = 0 ∨ 256 * (q.val / 256) = 256 ∨ 256 * (q.val / 256) = 512 ∨ 256 * (q.val / 256) = 768 := by omega

variable {s}

theorem left_ca_hit (h : Inv m c t.val s) (j : Fin 4) (hj : j.val = t.val % 4) (e : Fin 8) (q : Fin 1024) :
    (left m c t s).ca (ix3 j e q) = upA m c (row t ⟨1016 + e.val, by omega⟩) (colA t q) := by
  refine (ca_hit _ _ _ _ _ _ _ _ _ _ _ _ _ _ _ _ _ _ _ _ _ _ _ _ _ _ _ _ _ _ _ _ _ _ _ _ _ _ _ _ _ _ _ _ _ _ (256 * (q.val / 256)) (by omega) (piece_of q) (ix3 0 e ⟨q.val % 256, by omega⟩) (ix3 j e q)
    (hj.trans (coord1 t).symm) rfl (by show q.val = 256 * (q.val / 256) + q.val % 256; omega)).trans ?_
  refine (last_apply _ 0 e _).trans ?_
  exact upP_apply m c t h _ _ _ _ _ (fun k => (blk2 m c t k _).trans (congrArg (A2 m c <| ix2 k ·) (Fin.ext (by
    show 1024 * (t.val % 4) + (256 * (q.val / 256) + q.val % 256) = 1024 * (t.val % 4) + q.val; omega)))) _
theorem left_cb_hit (h : Inv m c t.val s) (j : Fin 4) (hj : j.val = t.val % 4) (e : Fin 8) (q : Fin 1024) :
    (left m c t s).cb (ix3 j e q) = upA m c (row t ⟨1016 + e.val, by omega⟩) (colB t q) := by
  refine (cb_hit _ _ _ _ _ _ _ _ _ _ _ _ _ _ _ _ _ _ _ _ _ _ _ _ _ _ _ _ _ _ _ _ _ _ _ _ _ _ _ _ _ _ _ _ _ _ (256 * (q.val / 256)) (by omega) (piece_of q) (ix3 0 e ⟨q.val % 256, by omega⟩) (ix3 j e q)
    (hj.trans (coord1 t).symm) rfl (by show q.val = 256 * (q.val / 256) + q.val % 256; omega)).trans ?_
  refine (last_apply _ 0 e _).trans ?_
  exact upP_apply m c t h _ _ _ _ _ (fun k => (blk3 m c t k _).trans (congrArg (A2 m c <| ix2 k ·) (Fin.ext (by
    show 4096 + (1024 * (t.val % 4) + (256 * (q.val / 256) + q.val % 256)) = 4096 + (1024 * (t.val % 4) + q.val); omega)))) _
theorem left_ca_miss (j : Fin 4) (hj : j.val ≠ t.val % 4) (e : Fin 8) (q : Fin 1024) : (left m c t s).ca (ix3 j e q) = s.ca (ix3 j e q) :=
  ca_miss _ _ _ _ _ _ _ _ _ _ _ _ _ _ _ _ _ _ _ _ _ _ _ _ _ _ _ _ _ _ _ _ _ _ _ _ _ _ _ _ _ _ _ _ _ _ (ix3 j e q) (fun h => hj (h.trans (coord1 t)))
theorem left_cb_miss (j : Fin 4) (hj : j.val ≠ t.val % 4) (e : Fin 8) (q : Fin 1024) : (left m c t s).cb (ix3 j e q) = s.cb (ix3 j e q) :=
  cb_miss _ _ _ _ _ _ _ _ _ _ _ _ _ _ _ _ _ _ _ _ _ _ _ _ _ _ _ _ _ _ _ _ _ _ _ _ _ _ _ _ _ _ _ _ _ _ (ix3 j e q) (fun h => hj (h.trans (coord1 t)))

/-- A tile's carried rows are of this block of tokens once the tile is done, of the block before until then. -/
theorem carried_next (j : Fin 4) (hj : j.val ≠ t.val % 4) :
    (if j.val < (t.val + 1) % 4 then (t.val + 1) / 4 + 1 else (t.val + 1) / 4) = if j.val < t.val % 4 then t.val / 4 + 1 else t.val / 4 := by
  split <;> split <;> omega
theorem carried_hit (j : Fin 4) (hj : j.val = t.val % 4) : (if j.val < (t.val + 1) % 4 then (t.val + 1) / 4 + 1 else (t.val + 1) / 4) = t.val / 4 + 1 := by
  split <;> omega

theorem inv_step (h : Inv m c t.val s) : Inv m c (t.val + 1) (left m c t s).toScr where
  hn h0 r k T hT := by
    rw [left_hn, hnP_apply m c t h]
    exact congrArg (hnA m c · k) (Fin.ext (by show 1024 * (t.val / 4) + r.val = T.val; omega))
  acc h0 r l T hT := by
    rw [left_acc, accP_apply m c t h, show t.val % 4 + 1 = (t.val + 1) % 4 by omega, show row t r = T from Fin.ext (by show 1024 * (t.val / 4) + r.val = T.val; omega)]
  ca j e q T hT := by
    by_cases hj : j.val = t.val % 4
    · rw [carried_hit t j hj] at hT
      rw [left_ca_hit m c t h j hj, show row t ⟨1016 + e.val, by omega⟩ = T from Fin.ext (by show 1024 * (t.val / 4) + (1016 + e.val) = T.val; omega)]
      exact congrArg (upA m c T) (Fin.ext (by show 1024 * (t.val % 4) + q.val = 1024 * j.val + q.val; rw [hj]))
    · rw [carried_next t j hj] at hT
      rw [left_ca_miss m c t j hj]
      exact h.ca j e q T hT
  cb j e q T hT := by
    by_cases hj : j.val = t.val % 4
    · rw [carried_hit t j hj] at hT
      rw [left_cb_hit m c t h j hj, show row t ⟨1016 + e.val, by omega⟩ = T from Fin.ext (by show 1024 * (t.val / 4) + (1016 + e.val) = T.val; omega)]
      exact congrArg (upA m c T) (Fin.ext (by show 4096 + (1024 * (t.val % 4) + q.val) = 4096 + (1024 * j.val + q.val); rw [hj]))
    · rw [carried_next t j hj] at hT
      rw [left_cb_miss m c t j hj]
      exact h.cb j e q T hT

end

/-! ## All points -/

theorem inv_zero (s : Scr Ideal) : Inv m c 0 s where
  hn h0 := absurd rfl h0
  acc h0 := absurd rfl h0
  ca j e q T hT := absurd hT (by have := e.isLt; rw [if_neg (by omega)]; omega)
  cb j e q T hT := absurd hT (by have := e.isLt; rw [if_neg (by omega)]; omega)

theorem inv_scr (s : Scr Ideal) : ∀ n, n ≤ cfg0.N → Inv m c n (scr m c s n)
  | 0, _ => inv_zero m c s
  | n + 1, h => by
    have hs := scr_succ m c s ⟨n, h⟩
    dsimp only at hs
    rw [hs]
    exact inv_step m c ⟨n, h⟩ (inv_scr s n (Nat.le_of_succ_le h))

/-- The layer's result on core `c`. -/
def out : Buf (Elt Ideal) ((c.tc : Thread nD τ).loc main_v5) := fun i => outT (A0 m c) (A1 m c) (A2 m c) (A3 m c) (A4 m c) (A5 m c) (A6 m c) (i 0) (i 1)

/-- What the last tile's point leaves in the result's block. -/
theorem block_out (t : Fin cfg0.N) (h3 : t.val % 4 = 3) (s : Scr Ideal) (y : Vec Ideal S1024x1024 .f32) (r l : Fin 1024) :
    (left m c t (scr m c s t.val)).out y (ix2 r l) = outT (A0 m c) (A1 m c) (A2 m c) (A3 m c) (A4 m c) (A5 m c) (A6 m c) (row t r) l := by
  have hI := inv_scr m c s t.val t.isLt.le
  rw [left_out m c t _ y h3, res_apply, blk0, blk9]
  unfold outT
  refine congrArg (A0 m c (ix2 (row t r) l) + ·) (congrArg (unitRow · (A6 m c (ix1 l)) l) (funext fun k => ?_))
  rw [accP_apply m c t hI, h3, Finset.sum_range]
  unfold ffT
  refine Finset.sum_congr rfl fun f _ => ?_
  unfold term
  exact dif_pos f.isLt

/-! ## The whole array -/

variable (ρ : Dev nD → PrngReg)

/-- Every token's row is in the block some last tile's point writes back. -/
theorem covered (i : S16384x1024.Idx) : ∃ t : Fin cfg0.N, (cfg0.win 10).flush t = true ∧ i ∈ ((cfg0.win 10).blk t).view.set := by
  have h0 : (i 0).val < 16384 := (i 0).isLt
  have h1 : (i 1).val < 1024 := (i 1).isLt
  let t : Fin cfg0.N := ⟨4 * ((i 0).val / 1024) + 3, by rw [show cfg0.N = 64 from N_0]; omega⟩
  have ht : t.val = 4 * ((i 0).val / 1024) + 3 := rfl
  refine ⟨t, (flush0_10 t).mpr (by omega), ?_⟩
  show i ∈ ((View.whole main_v5).slice (win0_10.rect t)).set
  rw [View.set_slice_whole, Rect.mem_set_unit]
  intro a
  match a with
  | ⟨0, _⟩ =>
    show win0_10.index t 0 * 1024 ≤ (i 0).val ∧ (i 0).val < win0_10.index t 0 * 1024 + 1024
    rw [(at10 t).1]; omega
  | ⟨1, _⟩ =>
    show win0_10.index t 1 * 1024 ≤ (i 1).val ∧ (i 1).val < win0_10.index t 1 * 1024 + 1024
    rw [(at10 t).2]; omega

theorem result {r : PUnit × MemSt nD τ sig (Elt Ideal)} (h : Pipeline.RDat.FramePost cfg0 (fun c => (dats m 0 c).toRRel marked (leaves m c)) (V m) r) :
    r.2.mem ((c.tc : Thread nD τ).loc main_v5) = out m c := by
  obtain ⟨after, hL, hA⟩ := Pipeline.RDat.FramePost.exists_exact h c
  refine (hA 10).trans (Pipeline.Dat.arrAt_eq_of_cover (((dats m 0 c).toRRel marked (leaves m c)).withAfter after) 10 (out m c) (fun t hf => ?_) covered)
  obtain ⟨s, y, hX⟩ : leaves m c 10 t (after 10 t) := Pipeline.Dat.toRRel_leaves (dats m 0 c) rfl (hL 10 t hf)
  have h3 : t.val % 4 = 3 := (flush0_10 t).mp hf
  show (cfg0.win 10).cut (grid0.coords t) (after 10 t) = _
  rw [hX]
  funext j
  obtain ⟨r', l, rfl⟩ : ∃ (r' l : Fin 1024), j = ix2 r' l := ⟨j 0, j 1, by funext a; fin_cases a <;> rfl⟩
  rw [View.read_apply]
  refine (block_out m c t h3 s y r' l).trans ?_
  show _ = outT (A0 m c) (A1 m c) (A2 m c) (A3 m c) (A4 m c) (A5 m c) (A6 m c) _ _
  refine congrArg₂ (outT (A0 m c) (A1 m c) (A2 m c) (A3 m c) (A4 m c) (A5 m c) (A6 m c)) (Fin.ext ?_) (Fin.ext ?_)
  · show 1024 * (t.val / 4) + r'.val = win0_10.index t 0 * 1024 + 1 * r'.val
    rw [(at10 t).1]; omega
  · show l.val = win0_10.index t 1 * 1024 + 1 * l.val
    rw [(at10 t).2]; omega

end Cert.Kernel2Ideal.Ffn

end
-- ==== Proof.Ffn.RefValue.lean ====
/-
  The feed-forward reference at an index: its term read layer by layer, each layer's result a vector of its own.
-/
module

public import proofs.«01_k».proof.Proof.Gen.Reference2Ideal
public import proofs.«01_k».proof.Proof.Gen.Reference2Ideal.Run
public import proofs.«01_k».proof.Proof.Ffn.Spec

@[expose] public section

noncomputable section

namespace Cert.Reference2Ideal.Ffn

open Idealize.ShloMosaic Idealize.ShloMosaic.TcCoe Cert.Reference2Ideal Cert.Reference2Ideal.Gen
open Cert.Kernel2Ideal.Ffn (unitRow gate2 hnT upT backT convT hidT ffT outT)
open scoped BigOperators

/-- The normalized tokens. -/
def hnR (a0 : FVec Ideal S16384x1024 .f32) (a1 : FVec Ideal S1024 .f32) : FVec Ideal S8x2048x1024 .f32 :=
  mulf (mulf (shapeCast _ a0 shapeCasts_S16384x1024_S8x2048x1024) (broadcastInDim S8x2048x1024 ![0, 1, 2] bcast_S8x2048x1_S8x2048x1024_0_1_2 (Host.rsqrt (addf (Host.divf (broadcastInDim S8x2048x1 ![0,
    1] bcast_S8x2048_S8x2048x1_0_1 (Host.reduceAdd (mulf (shapeCast _ a0 shapeCasts_S16384x1024_S8x2048x1024) (shapeCast _ a0 shapeCasts_S16384x1024_S8x2048x1024)) (constant S_ .f32 0x00000000#32)
    reducesTo_S8x2048x1024_S8x2048_d2 h_S_)) (broadcastInDim S8x2048x1 ![] bcast_S_S8x2048x1 (constant S_ .f32 0x44800000#32))) (broadcastInDim S8x2048x1 ![] bcast_S_S8x2048x1 (constant S_ .f32
    0x358637BD#32)))))) (broadcastInDim S8x2048x1024 ![0, 1, 2] bcast_S1x1x1024_S8x2048x1024_0_1_2 (broadcastInDim S1x1x1024 ![2] bcast_S1024_S1x1x1024_2 a1))
/-- The up-projection. -/
def upR (hn : FVec Ideal S8x2048x1024 .f32) (a2 : FVec Ideal S1024x8192 .f32) : FVec Ideal S8x2048x8192 .f32 :=
  Host.dotGeneral dot_S8x2048x1024_S1024x8192_S8x2048x8192_2_0_01_1_n_n none hn a2
/-- The convolution over the tokens of a sequence. -/
def convR (u : FVec Ideal S8x2048x8192 .f32) (a3 : FVec Ideal S3x8192 .f32) (a4 : FVec Ideal S8192 .f32) : FVec Ideal S8x2048x8192 .f32 :=
  addf (addf (addf (mulf (extractStridedSlice S8x2048x8192 ![0, 0, 0] (pad S8x2050x8192 ![0, 2, 0] ![0, 0, 0] ![0, 0, 0] u (sitofp .f32 (constantI S_ 32 0#32))
    pads_S8x2048x8192_S8x2050x8192_000_200_000 h_S_) slices_S8x2050x8192_S8x2048x8192_0_0_0) (broadcastInDim S8x2048x8192 ![0, 1, 2] bcast_S1x1x8192_S8x2048x8192_0_1_2 (broadcastInDim S1x1x8192 ![2]
    bcast_S8192_S1x1x8192_2 (shapeCast _ (extractStridedSlice S1x8192 ![0, 0] a3 slices_S3x8192_S1x8192_0_0) shapeCasts_S1x8192_S8192)))) (mulf (extractStridedSlice S8x2048x8192 ![0, 0, 0] (pad
    S8x2049x8192 ![0, 1, 0] ![0, 0, 0] ![0, 0, 0] u (sitofp .f32 (constantI S_ 32 0#32)) pads_S8x2048x8192_S8x2049x8192_000_100_000 h_S_) slices_S8x2049x8192_S8x2048x8192_0_0_0) (broadcastInDim
    S8x2048x8192 ![0, 1, 2] bcast_S1x1x8192_S8x2048x8192_0_1_2 (broadcastInDim S1x1x8192 ![2] bcast_S8192_S1x1x8192_2 (shapeCast _ (extractStridedSlice S1x8192 ![1, 0] a3 slices_S3x8192_S1x8192_1_0)
    shapeCasts_S1x8192_S8192))))) (mulf u (broadcastInDim S8x2048x8192 ![0, 1, 2] bcast_S1x1x8192_S8x2048x8192_0_1_2 (broadcastInDim S1x1x8192 ![2] bcast_S8192_S1x1x8192_2 (shapeCast _
    (extractStridedSlice S1x8192 ![2, 0] a3 slices_S3x8192_S1x8192_2_0) shapeCasts_S1x8192_S8192))))) (broadcastInDim S8x2048x8192 ![0, 1, 2] bcast_S1x1x8192_S8x2048x8192_0_1_2 (broadcastInDim
    S1x1x8192 ![2] bcast_S8192_S1x1x8192_2 a4))
/-- The gated product of the two halves. -/
def gateR (cv : FVec Ideal S8x2048x8192 .f32) : FVec Ideal S8x2048x4096 .f32 :=
  mulf (mulf (extractStridedSlice S8x2048x4096 ![0, 0, 0] cv slices_S8x2048x8192_S8x2048x4096_0_0_0) (mulf (broadcastInDim S8x2048x4096 ![] bcast_S_S8x2048x4096 (constant S_ .f32 0x3F000000#32)) (addf
    (broadcastInDim S8x2048x4096 ![] bcast_S_S8x2048x4096 (constant S_ .f32 0x3F800000#32)) (Host.tanh (mulf (broadcastInDim S8x2048x4096 ![] bcast_S_S8x2048x4096 (constant S_ .f32 0x3F4C422A#32))
    (addf (extractStridedSlice S8x2048x4096 ![0, 0, 0] cv slices_S8x2048x8192_S8x2048x4096_0_0_0) (mulf (broadcastInDim S8x2048x4096 ![] bcast_S_S8x2048x4096 (constant S_ .f32 0x3D372713#32)) (mulf
    (mulf (extractStridedSlice S8x2048x4096 ![0, 0, 0] cv slices_S8x2048x8192_S8x2048x4096_0_0_0) (extractStridedSlice S8x2048x4096 ![0, 0, 0] cv slices_S8x2048x8192_S8x2048x4096_0_0_0))
    (extractStridedSlice S8x2048x4096 ![0, 0, 0] cv slices_S8x2048x8192_S8x2048x4096_0_0_0))))))))) (extractStridedSlice S8x2048x4096 ![0, 0, 4096] cv slices_S8x2048x8192_S8x2048x4096_0_0_4096)
/-- The down-projection. -/
def downR (g : FVec Ideal S8x2048x4096 .f32) (a5 : FVec Ideal S4096x1024 .f32) : FVec Ideal S8x2048x1024 .f32 :=
  Host.dotGeneral dot_S8x2048x4096_S4096x1024_S8x2048x1024_2_0_01_1_n_n none g a5
/-- The result from the down-projection. -/
def resR (a0 : FVec Ideal S16384x1024 .f32) (ff : FVec Ideal S8x2048x1024 .f32) (a6 : FVec Ideal S1024 .f32) : FVec Ideal S16384x1024 .f32 :=
  addf a0 (shapeCast _ (mulf (mulf ff (broadcastInDim S8x2048x1024 ![0, 1, 2] bcast_S8x2048x1_S8x2048x1024_0_1_2 (Host.rsqrt (addf (Host.divf (broadcastInDim S8x2048x1 ![0, 1]
    bcast_S8x2048_S8x2048x1_0_1 (Host.reduceAdd (mulf ff ff) (constant S_ .f32 0x00000000#32) reducesTo_S8x2048x1024_S8x2048_d2 h_S_)) (broadcastInDim S8x2048x1 ![] bcast_S_S8x2048x1 (constant S_ .f32
    0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim
    S1x1x1024 ![2] bcast_S1024_S1x1x1024_2 a6))) shapeCasts_S8x2048x1024_S16384x1024)

/-- Token `p` of sequence `b`. -/
abbrev tok (b : Fin 8) (p : Fin 2048) : Fin 16384 := ⟨b.val * 2048 + p.val, by omega⟩

section
variable (a0 : FVec Ideal S16384x1024 .f32) (a1 : FVec Ideal S1024 .f32) (a2 : FVec Ideal S1024x8192 .f32) (a3 : FVec Ideal S3x8192 .f32) (a4 : FVec Ideal S8192 .f32)
  (a5 : FVec Ideal S4096x1024 .f32) (a6 : FVec Ideal S1024 .f32)

theorem hnR_apply (b : Fin 8) (p : Fin 2048) (k : Fin 1024) : hnR a0 a1 (ix3 b p k) = hnT a0 a1 (tok b p) k := by
  pointwise [hnR, hnT, unitRow]
theorem upR_apply (b : Fin 8) (p : Fin 2048) (f : Fin 8192) : upR (hnR a0 a1) a2 (ix3 b p f) = upT a0 a1 a2 (tok b p) f := by
  refine Eq.trans (b := ∑ k, hnR a0 a1 (ix3 b p k) * a2 (ix2 k f)) (by pointwise [upR]) ?_
  unfold upT
  simp only [hnR_apply]
theorem pad_zero : (FloatOps.sitofp FTy.f32 0#32 : Ideal FTy.f32) = 0 := by
  show (((0#32 : BitVec 32).toInt : ℝ) : EReal) = 0
  simp
/-- A token of the same sequence, `n` back, or the padding's zero. -/
theorem back_eq (n : ℕ) (u : FVec Ideal S8x2048x8192 .f32) (hu : ∀ b p f, u (ix3 b p f) = upT a0 a1 a2 (tok b p) f) (b : Fin 8) (p : Fin 2048) (f : Fin 8192) :
    (if h : n ≤ p.val ∧ p.val - n < 2048 then u (ix3 b ⟨p.val - n, h.2⟩ f) else (FloatOps.sitofp FTy.f32 0#32 : Ideal FTy.f32)) = backT a0 a1 a2 n (tok b p) f := by
  have ht : (tok b p).val % 2048 = p.val := by show (b.val * 2048 + p.val) % 2048 = p.val; omega
  unfold backT
  rw [ht]
  by_cases hn : n ≤ p.val
  · rw [dif_pos ⟨hn, by omega⟩, if_pos hn, hu]
    exact congrArg (upT a0 a1 a2 · f) (Fin.ext (by show b.val * 2048 + (p.val - n) = b.val * 2048 + p.val - n; omega))
  · rw [dif_neg (fun h => hn h.1), if_neg hn, pad_zero]
theorem convR_apply (u : FVec Ideal S8x2048x8192 .f32) (hu : ∀ b p f, u (ix3 b p f) = upT a0 a1 a2 (tok b p) f) (b : Fin 8) (p : Fin 2048) (f : Fin 8192) :
    convR u a3 a4 (ix3 b p f) = convT a0 a1 a2 a3 a4 (tok b p) f := by
  refine Eq.trans (b := backT a0 a1 a2 2 (tok b p) f * a3 (ix2 0 f) + backT a0 a1 a2 1 (tok b p) f * a3 (ix2 1 f) + upT a0 a1 a2 (tok b p) f * a3 (ix2 2 f) + a4 (ix1 f)) ?_ ?_
  · pointwise [convR]
    refine congrArg (· + a4 (ix1 f)) (congrArg₂ (· + ·) (congrArg₂ (· + ·) (congrArg (· * a3 (ix2 0 f)) ?_) (congrArg (· * a3 (ix2 1 f)) ?_)) (congrArg (· * a3 (ix2 2 f)) (hu b p f)))
    · exact back_eq a0 a1 a2 2 u hu b p f
    · exact back_eq a0 a1 a2 1 u hu b p f
  · unfold convT
    simp only [mul_comm (a3 _)]
    refine congrArg (· + a4 (ix1 f)) ?_
    rw [add_comm, add_comm (backT a0 a1 a2 2 _ _ * _), add_assoc]
theorem gateR_apply (cv : FVec Ideal S8x2048x8192 .f32) (b : Fin 8) (p : Fin 2048) (f : Fin 4096) :
    gateR cv (ix3 b p f) = gate2 (cv (ix3 b p ⟨f.val, by omega⟩)) (cv (ix3 b p ⟨4096 + f.val, by omega⟩)) := by
  pointwise [gateR, gate2]
  rw [← mul_assoc, mul_comm (cv (ix3 b p ⟨f.val, by omega⟩)) (Ideal.ofBits FTy.f32 1056964608#32)]
theorem downR_apply (g : FVec Ideal S8x2048x4096 .f32) (b : Fin 8) (p : Fin 2048) (l : Fin 1024) : downR g a5 (ix3 b p l) = ∑ f, g (ix3 b p f) * a5 (ix2 f l) := by
  pointwise [downR]
theorem resR_apply (ff : FVec Ideal S8x2048x1024 .f32) (t : Fin 16384) (l : Fin 1024) :
    resR a0 ff a6 (ix2 t l) = a0 (ix2 t l) + unitRow (fun k => ff (ix3 ⟨t.val / 2048, by omega⟩ ⟨t.val % 2048, by omega⟩ k)) (a6 (ix1 l)) l := by
  pointwise [resR, unitRow]
theorem layers_apply (t : Fin 16384) (l : Fin 1024) : resR a0 (downR (gateR (convR (upR (hnR a0 a1) a2) a3 a4)) a5) a6 (ix2 t l) = outT a0 a1 a2 a3 a4 a5 a6 t l := by
  rw [resR_apply]
  unfold outT
  have ht : tok ⟨t.val / 2048, by omega⟩ ⟨t.val % 2048, by omega⟩ = t := Fin.ext (by show t.val / 2048 * 2048 + t.val % 2048 = t.val; omega)
  refine congrArg (a0 (ix2 t l) + ·) (congrArg (unitRow · (a6 (ix1 l)) l) (funext fun k => ?_))
  rw [downR_apply]
  unfold ffT hidT
  simp only [gateR_apply, convR_apply a0 a1 a2 a3 a4 _ (upR_apply a0 a1 a2), ht]
end

variable (m : (ℓ : Loc nD τ sig) → Buf (Elt Ideal) ℓ) (c : Dev nD)
theorem res_eq : Cert.Reference2Ideal.Value.res_main_v70 (F := Ideal) m c
    = resR (m ((c.tc : Thread nD τ).loc main_arg0)) (downR (gateR (convR (upR (hnR (m ((c.tc : Thread nD τ).loc main_arg0)) (m ((c.tc : Thread nD τ).loc main_arg1)))
      (m ((c.tc : Thread nD τ).loc main_arg2))) (m ((c.tc : Thread nD τ).loc main_arg3)) (m ((c.tc : Thread nD τ).loc main_arg4)))) (m ((c.tc : Thread nD τ).loc main_arg5)))
      (m ((c.tc : Thread nD τ).loc main_arg6)) := by
  unfold Cert.Reference2Ideal.Value.res_main_v70
  rfl

/-- The reference's result at token `t`, column `l`. -/
theorem ref_apply (t : Fin 16384) (l : Fin 1024) : Cert.Reference2Ideal.Value.res_main_v70 (F := Ideal) m c (ix2 t l)
    = outT (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) t l := by
  rw [res_eq]
  exact layers_apply _ _ _ _ _ _ _ t l

end Cert.Reference2Ideal.Ffn

end
-- ==== Proof.Ffn.Algebraic.lean ====
/-
  The two idealized feed-forward programs end with equal results.
-/
module

public import proofs.«01_k».proof.Defs
public import proofs.«01_k».proof.Proof.Ffn.Value
public import proofs.«01_k».proof.Proof.Ffn.RefValue

@[expose] public section

noncomputable section

namespace Cert.Proof.Ffn

open Idealize.ShloMosaic Idealize.SL.Sem

theorem algebraic : Cert.algebraic_Kernel2Ideal_Reference2Ideal := fun m g m' g' _ hag => by
  refine ⟨fun c => Cert.Kernel2Ideal.Ffn.out m c,
    (θ_run Cert.Kernel2Ideal.defs _ _).mono (fun r h c => ⟨Cert.Kernel2Ideal.Ffn.result m c h.1, Cert.Kernel2Ideal.Ffn.args_kept m h.1 c⟩) (Cert.Kernel2Ideal.Ffn.run_main (F := Ideal) m g),
    (θ_run Cert.Reference2Ideal.defs _ _).mono (fun r h c => ⟨(h c).1.trans ?_, (h c).2⟩) (Cert.Reference2Ideal.Value.run (F := Ideal) m' g')⟩
  obtain ⟨h0, h1, h2, h3, h4, h5, h6⟩ := hag c
  funext j
  obtain ⟨t, l, rfl⟩ : ∃ (t : Fin 16384) (l : Fin 1024), j = ix2 t l := ⟨j 0, j 1, by funext a; fin_cases a <;> rfl⟩
  refine (Cert.Reference2Ideal.Ffn.ref_apply m' c t l).trans ?_
  rw [h0, h1, h2, h3, h4, h5, h6]
  rfl

end Cert.Proof.Ffn

end
-- ==== Proof.lean ====
/-
  The ten claims together, five for the merge and five for the feed-forward call: the frames of the kernel, of its
  idealization and of the reference's, the idealization, and the equality of the two results.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Frames
public import proofs.«01_k».proof.Proof.Algebraic
public import proofs.«01_k».proof.Proof.Ffn.Frames
public import proofs.«01_k».proof.Proof.Ffn.Algebraic

@[expose] public section

noncomputable section

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Proof.frame_kernel, Cert.Proof.frame_kernelIdeal, Cert.Proof.frame_referenceIdeal,
    Cert.Proof.Ffn.frame_kernel, Cert.Proof.Ffn.frame_kernelIdeal, Cert.Proof.Ffn.frame_referenceIdeal,
    trivial, Cert.Proof.algebraic, trivial, Cert.Proof.Ffn.algebraic⟩

end
